-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DA1E89B#32 (((Real.sqrt 160)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 2, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 2, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1x1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S1x1024x2048 1 × IVec S2048x128 1 × IVec S128x2048 1 × IVec S2048x2048 1 × IVec S2048x512 1 × IVec S2048x32 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_scores_ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x512 : S_.BroadcastsInDim S2048x512 (![] : Fin 0 → Fin S2048x512.rank)
  bcast_S_S512x2048 : S_.BroadcastsInDim S512x2048 (![] : Fin 0 → Fin S512x2048.rank)
  bcast_S_S2048x2048 : S_.BroadcastsInDim S2048x2048 (![] : Fin 0 → Fin S2048x2048.rank)
  bcast_S_S2048x32 : S_.BroadcastsInDim S2048x32 (![] : Fin 0 → Fin S2048x32.rank)

variable [Facts]

def fn {F : FTy → Type} [FloatOps F] (main_arg0 : FVec F S1x1024x2048 .f32) (main_arg1 : FVec F S2048x512 .f32) (main_arg2 : FVec F S512x2048 .f32) (main_arg3 : FVec F S512x2048 .f32) (main_arg4 : FVec F S2048x2048 .f32) (main_arg5 : FVec F S2048x512 .f32) (main_arg6 : FVec F S2048x32 .f32) (main_arg7 : FVec F S2048x2048 .f32) : IVec S1x1024x2048 1 × IVec S2048x512 1 × IVec S512x2048 1 × IVec S2048x2048 1 × IVec S2048x512 1 × IVec S2048x32 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S512x2048 .f32 := Host.absf main_arg2
  let main_cst_1 : FVec F S_ .f32 := constant S_ .f32 0x7F800000#32
  let main_v7 : FVec F S512x2048 .f32 := broadcastInDim S512x2048 ![] bcast_S_S512x2048 main_cst_1
  let main_v8 : IVec S512x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S4x1024x128 : Shape := ⟨3, ![4, 1024, 128]⟩
abbrev S4x128x512 : Shape := ⟨3, ![4, 128, 512]⟩
abbrev S2x256x2048 : Shape := ⟨3, ![2, 256, 2048]⟩
abbrev S1024x512 : Shape := ⟨2, ![1024, 512]⟩
abbrev S1024x128 : Shape := ⟨2, ![1024, 128]⟩
abbrev S4x2x1024x256 : Shape := ⟨4, ![4, 2, 1024, 256]⟩
abbrev S5x4 : Shape := ⟨2, ![5, 4]⟩
abbrev S4 : Shape := ⟨1, ![4]⟩
abbrev S1 : Shape := ⟨1, ![1]⟩
abbrev S_ : Shape := ⟨0, ![]⟩
abbrev S128x512 : Shape := ⟨2, ![128, 512]⟩
abbrev S1x128x512 : Shape := ⟨3, ![1, 128, 512]⟩
abbrev S1x1 : Shape := ⟨2, ![1, 1]⟩
abbrev S1x1024x128 : Shape := ⟨3, ![1, 1024, 128]⟩
abbrev S1024x32 : Shape := ⟨2, ![1024, 32]⟩
abbrev S1024x1024 : Shape := ⟨2, ![1024, 1024]⟩
abbrev S1024 : Shape := ⟨1, ![1024]⟩
abbrev S1024x1 : Shape := ⟨2, ![1024, 1]⟩
abbrev S1x1x1024x128 : Shape := ⟨4, ![1, 1, 1024, 128]⟩
abbrev S1x1x1024x256 : Shape := ⟨4, ![1, 1, 1024, 256]⟩
abbrev S1024x256 : Shape := ⟨2, ![1024, 256]⟩
abbrev S1x256x2048 : Shape := ⟨3, ![1, 256, 2048]⟩
abbrev S256x2048 : Shape := ⟨2, ![256, 2048]⟩

abbrev nBuf : Space → Nat
  | .hbm => 9
  | .vmem => 19
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .local _ .vmem, ⟨0, _⟩ => ⟨S1x1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S1024x2048, .f32⟩
  | .local _ .vmem, ⟨6, _⟩ => ⟨S4x1024x128, .bf16⟩
  | .local _ .vmem, ⟨7, _⟩ => ⟨S4x128x512, .bf16⟩
  | .local _ .vmem, ⟨8, _⟩ => ⟨S4x128x512, .bf16⟩
  | .local _ .vmem, ⟨9, _⟩ => ⟨S128x2048, .bf16⟩
  | .local _ .vmem, ⟨10, _⟩ => ⟨S128x2048, .bf16⟩
  | .local _ .vmem, ⟨11, _⟩ => ⟨S2048x512, .f32⟩
  | .local _ .vmem, ⟨12, _⟩ => ⟨S2048x128, .f32⟩
  | .local _ .vmem, ⟨13, _⟩ => ⟨S2x256x2048, .f32⟩
  | .local _ .vmem, ⟨14, _⟩ => ⟨S1024x512, .bf16⟩
  | .local _ .vmem, ⟨15, _⟩ => ⟨S1024x128, .bf16⟩
  | .local _ .vmem, ⟨16, _⟩ => ⟨S1024x512, .bf16⟩
  | .local _ .vmem, ⟨17, _⟩ => ⟨S1024x512, .bf16⟩
  | .local _ .vmem, ⟨18, _⟩ => ⟨S4x2x1024x256, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v9 : BitVec 32 := Scalar.muli v8 c512_i32
  v9
def k0_mult2 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v11 : BitVec 32 := Scalar.muli v8 c128_i32
  v11
def k0_off1 (d0 : Dev nD) : Fin 2 → Nat :=
  let c0_i32_2 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v9 : BitVec 32 := Scalar.muli v8 c512_i32
  let v10 : BitVec 32 := v9
  ![0, v10.toNat]
def k0_off2 (d0 : Dev nD) : Fin 2 → Nat :=
  let c0_i32_4 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v11 : BitVec 32 := Scalar.muli v8 c128_i32
  let v12 : BitVec 32 := v11
  ![0, v12.toNat]
def k0_off3 (d0 : Dev nD) : Fin 2 → Nat :=
  let c0_15 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v9 : BitVec 32 := Scalar.muli v8 c512_i32
  let v10 : BitVec 32 := v9
  let v34 : Index := Scalar.indexCast v10
  ![0, v34.toNat]
def k0_off4 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v36 : Index := Scalar.indexCast v8
  let c0_16 : Index := 0#32
  let c0_17 : Index := 0#32
  ![v36.toNat, 0, 0]
def k0_dev1 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v58 : BitVec 32 := Scalar.muli v2 c8_i32_29
  let v59 : BitVec 32 := Scalar.addi c0_i32_30 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v60 : BitVec 32 := Scalar.muli v5 c4_i32_31
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v47 : BitVec 32 := Scalar.addi v8 c1_i32_21
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v47 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c1_i32_32 : BitVec 32 := 1#32
  let v62 : BitVec 32 := Scalar.muli v57 c1_i32_32
  let v63 : BitVec 32 := Scalar.addi v61 v62
  v63.toNat
def k0_dev2 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v75 : BitVec 32 := Scalar.muli v2 c8_i32_41
  let v76 : BitVec 32 := Scalar.addi c0_i32_42 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v77 : BitVec 32 := Scalar.muli v5 c4_i32_43
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_33 : BitVec 32 := 2#32
  let v64 : BitVec 32 := Scalar.addi v8 c2_i32_33
  let c4_i32_34 : BitVec 32 := 4#32
  let c0_i32_35 : BitVec 32 := 0#32
  let v65 : BitVec 1 := Scalar.cmpi .eq c4_i32_34 c0_i32_35
  let c1_i32_36 : BitVec 32 := 1#32
  let v66 : BitVec 32 := Scalar.select v65 c1_i32_36 c4_i32_34
  let v67 : BitVec 32 := Scalar.remsi v64 v66
  let c0_i32_38 : BitVec 32 := 0#32
  let v69 : BitVec 1 := Scalar.cmpi .slt v67 c0_i32_38
  let c0_i32_39 : BitVec 32 := 0#32
  let v70 : BitVec 1 := Scalar.cmpi .slt v66 c0_i32_39
  let v71 : BitVec 1 := Scalar.xori v69 v70
  let c0_i32_37 : BitVec 32 := 0#32
  let v68 : BitVec 1 := Scalar.cmpi .ne v67 c0_i32_37
  let v72 : BitVec 1 := Scalar.andi v71 v68
  let v73 : BitVec 32 := Scalar.addi v67 v66
  let v74 : BitVec 32 := Scalar.select v72 v73 v67
  let c1_i32_44 : BitVec 32 := 1#32
  let v79 : BitVec 32 := Scalar.muli v74 c1_i32_44
  let v80 : BitVec 32 := Scalar.addi v78 v79
  v80.toNat
def k0_dev3 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v92 : BitVec 32 := Scalar.muli v2 c8_i32_52
  let v93 : BitVec 32 := Scalar.addi c0_i32_53 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v94 : BitVec 32 := Scalar.muli v5 c4_i32_54
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v81 : BitVec 32 := Scalar.addi v8 c3_i32
  let c4_i32_45 : BitVec 32 := 4#32
  let c0_i32_46 : BitVec 32 := 0#32
  let v82 : BitVec 1 := Scalar.cmpi .eq c4_i32_45 c0_i32_46
  let c1_i32_47 : BitVec 32 := 1#32
  let v83 : BitVec 32 := Scalar.select v82 c1_i32_47 c4_i32_45
  let v84 : BitVec 32 := Scalar.remsi v81 v83
  let c0_i32_49 : BitVec 32 := 0#32
  let v86 : BitVec 1 := Scalar.cmpi .slt v84 c0_i32_49
  let c0_i32_50 : BitVec 32 := 0#32
  let v87 : BitVec 1 := Scalar.cmpi .slt v83 c0_i32_50
  let v88 : BitVec 1 := Scalar.xori v86 v87
  let c0_i32_48 : BitVec 32 := 0#32
  let v85 : BitVec 1 := Scalar.cmpi .ne v84 c0_i32_48
  let v89 : BitVec 1 := Scalar.andi v88 v85
  let v90 : BitVec 32 := Scalar.addi v84 v83
  let v91 : BitVec 32 := Scalar.select v89 v90 v84
  let c1_i32_55 : BitVec 32 := 1#32
  let v96 : BitVec 32 := Scalar.muli v91 c1_i32_55
  let v97 : BitVec 32 := Scalar.addi v95 v96
  v97.toNat
def k0_mult3 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v98 : BitVec 32 := Scalar.addi v8 c1_i32_57
  let c4_i32_58 : BitVec 32 := 4#32
  let c0_i32_59 : BitVec 32 := 0#32
  let v99 : BitVec 1 := Scalar.cmpi .eq c4_i32_58 c0_i32_59
  let c1_i32_60 : BitVec 32 := 1#32
  let v100 : BitVec 32 := Scalar.select v99 c1_i32_60 c4_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c512_i32_64 : BitVec 32 := 512#32
  let v109 : BitVec 32 := Scalar.muli v108 c512_i32_64
  v109
def k0_off5 (d0 : Dev nD) (c1_i32_57 : BitVec 32) : Fin 2 → Nat :=
  let c1_i32_66 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v98 : BitVec 32 := Scalar.addi v8 c1_i32_57
  let c4_i32_58 : BitVec 32 := 4#32
  let c0_i32_59 : BitVec 32 := 0#32
  let v99 : BitVec 1 := Scalar.cmpi .eq c4_i32_58 c0_i32_59
  let c1_i32_60 : BitVec 32 := 1#32
  let v100 : BitVec 32 := Scalar.select v99 c1_i32_60 c4_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  ![1, v108.toNat]
def k0_off6 (d0 : Dev nD) : Fin 2 → Nat :=
  let c1_i32_65 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off7 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_71 : BitVec 32 := 0#32
  let c0_i32_72 : BitVec 32 := 0#32
  ![v8.toNat, 0, 0]
def k0_off8 (d0 : Dev nD) (c1_i32_57 : BitVec 32) : Fin 2 → Nat :=
  let c0_i32_73 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v98 : BitVec 32 := Scalar.addi v8 c1_i32_57
  let c4_i32_58 : BitVec 32 := 4#32
  let c0_i32_59 : BitVec 32 := 0#32
  let v99 : BitVec 1 := Scalar.cmpi .eq c4_i32_58 c0_i32_59
  let c1_i32_60 : BitVec 32 := 1#32
  let v100 : BitVec 32 := Scalar.select v99 c1_i32_60 c4_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c512_i32_64 : BitVec 32 := 512#32
  let v109 : BitVec 32 := Scalar.muli v108 c512_i32_64
  let v110 : BitVec 32 := v109
  ![0, v110.toNat]
def k0_dev4 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v111 : BitVec 32 := Scalar.muli v2 c8_i32_67
  let v112 : BitVec 32 := Scalar.addi c0_i32_68 v111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v113 : BitVec 32 := Scalar.muli v5 c4_i32_69
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v98 : BitVec 32 := Scalar.addi v8 c1_i32_57
  let c4_i32_58 : BitVec 32 := 4#32
  let c0_i32_59 : BitVec 32 := 0#32
  let v99 : BitVec 1 := Scalar.cmpi .eq c4_i32_58 c0_i32_59
  let c1_i32_60 : BitVec 32 := 1#32
  let v100 : BitVec 32 := Scalar.select v99 c1_i32_60 c4_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c1_i32_70 : BitVec 32 := 1#32
  let v115 : BitVec 32 := Scalar.muli v108 c1_i32_70
  let v116 : BitVec 32 := Scalar.addi v114 v115
  v116.toNat
def k0_off9 (d0 : Dev nD) (c1_i32_57 : BitVec 32) : Fin 2 → Nat :=
  let c2_i32_75 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v98 : BitVec 32 := Scalar.addi v8 c1_i32_57
  let c4_i32_58 : BitVec 32 := 4#32
  let c0_i32_59 : BitVec 32 := 0#32
  let v99 : BitVec 1 := Scalar.cmpi .eq c4_i32_58 c0_i32_59
  let c1_i32_60 : BitVec 32 := 1#32
  let v100 : BitVec 32 := Scalar.select v99 c1_i32_60 c4_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  ![2, v108.toNat]
def k0_off10 (d0 : Dev nD) : Fin 2 → Nat :=
  let c2_i32_74 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![2, v8.toNat]
def k0_dev5 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v124 : BitVec 32 := Scalar.muli v2 c8_i32_76
  let v125 : BitVec 32 := Scalar.addi c0_i32_77 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v126 : BitVec 32 := Scalar.muli v5 c4_i32_78
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v98 : BitVec 32 := Scalar.addi v8 c1_i32_57
  let c4_i32_58 : BitVec 32 := 4#32
  let c0_i32_59 : BitVec 32 := 0#32
  let v99 : BitVec 1 := Scalar.cmpi .eq c4_i32_58 c0_i32_59
  let c1_i32_60 : BitVec 32 := 1#32
  let v100 : BitVec 32 := Scalar.select v99 c1_i32_60 c4_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c1_i32_79 : BitVec 32 := 1#32
  let v128 : BitVec 32 := Scalar.muli v108 c1_i32_79
  let v129 : BitVec 32 := Scalar.addi v127 v128
  v129.toNat
def k0_mult4 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_83 : BitVec 32 := 2#32
  let v137 : BitVec 32 := Scalar.addi v8 c2_i32_83
  let c4_i32_84 : BitVec 32 := 4#32
  let c0_i32_85 : BitVec 32 := 0#32
  let v138 : BitVec 1 := Scalar.cmpi .eq c4_i32_84 c0_i32_85
  let c1_i32_86 : BitVec 32 := 1#32
  let v139 : BitVec 32 := Scalar.select v138 c1_i32_86 c4_i32_84
  let v140 : BitVec 32 := Scalar.remsi v137 v139
  let c0_i32_88 : BitVec 32 := 0#32
  let v142 : BitVec 1 := Scalar.cmpi .slt v140 c0_i32_88
  let c0_i32_89 : BitVec 32 := 0#32
  let v143 : BitVec 1 := Scalar.cmpi .slt v139 c0_i32_89
  let v144 : BitVec 1 := Scalar.xori v142 v143
  let c0_i32_87 : BitVec 32 := 0#32
  let v141 : BitVec 1 := Scalar.cmpi .ne v140 c0_i32_87
  let v145 : BitVec 1 := Scalar.andi v144 v141
  let v146 : BitVec 32 := Scalar.addi v140 v139
  let v147 : BitVec 32 := Scalar.select v145 v146 v140
  let c512_i32_90 : BitVec 32 := 512#32
  let v148 : BitVec 32 := Scalar.muli v147 c512_i32_90
  v148
def k0_dev6 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v150 : BitVec 32 := Scalar.muli v2 c8_i32_93
  let v151 : BitVec 32 := Scalar.addi c0_i32_94 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v152 : BitVec 32 := Scalar.muli v5 c4_i32_95
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_83 : BitVec 32 := 2#32
  let v137 : BitVec 32 := Scalar.addi v8 c2_i32_83
  let c4_i32_84 : BitVec 32 := 4#32
  let c0_i32_85 : BitVec 32 := 0#32
  let v138 : BitVec 1 := Scalar.cmpi .eq c4_i32_84 c0_i32_85
  let c1_i32_86 : BitVec 32 := 1#32
  let v139 : BitVec 32 := Scalar.select v138 c1_i32_86 c4_i32_84
  let v140 : BitVec 32 := Scalar.remsi v137 v139
  let c0_i32_88 : BitVec 32 := 0#32
  let v142 : BitVec 1 := Scalar.cmpi .slt v140 c0_i32_88
  let c0_i32_89 : BitVec 32 := 0#32
  let v143 : BitVec 1 := Scalar.cmpi .slt v139 c0_i32_89
  let v144 : BitVec 1 := Scalar.xori v142 v143
  let c0_i32_87 : BitVec 32 := 0#32
  let v141 : BitVec 1 := Scalar.cmpi .ne v140 c0_i32_87
  let v145 : BitVec 1 := Scalar.andi v144 v141
  let v146 : BitVec 32 := Scalar.addi v140 v139
  let v147 : BitVec 32 := Scalar.select v145 v146 v140
  let c1_i32_96 : BitVec 32 := 1#32
  let v154 : BitVec 32 := Scalar.muli v147 c1_i32_96
  let v155 : BitVec 32 := Scalar.addi v153 v154
  v155.toNat
def k0_dev7 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v163 : BitVec 32 := Scalar.muli v2 c8_i32_102
  let v164 : BitVec 32 := Scalar.addi c0_i32_103 v163
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_104 : BitVec 32 := 4#32
  let v165 : BitVec 32 := Scalar.muli v5 c4_i32_104
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_83 : BitVec 32 := 2#32
  let v137 : BitVec 32 := Scalar.addi v8 c2_i32_83
  let c4_i32_84 : BitVec 32 := 4#32
  let c0_i32_85 : BitVec 32 := 0#32
  let v138 : BitVec 1 := Scalar.cmpi .eq c4_i32_84 c0_i32_85
  let c1_i32_86 : BitVec 32 := 1#32
  let v139 : BitVec 32 := Scalar.select v138 c1_i32_86 c4_i32_84
  let v140 : BitVec 32 := Scalar.remsi v137 v139
  let c0_i32_88 : BitVec 32 := 0#32
  let v142 : BitVec 1 := Scalar.cmpi .slt v140 c0_i32_88
  let c0_i32_89 : BitVec 32 := 0#32
  let v143 : BitVec 1 := Scalar.cmpi .slt v139 c0_i32_89
  let v144 : BitVec 1 := Scalar.xori v142 v143
  let c0_i32_87 : BitVec 32 := 0#32
  let v141 : BitVec 1 := Scalar.cmpi .ne v140 c0_i32_87
  let v145 : BitVec 1 := Scalar.andi v144 v141
  let v146 : BitVec 32 := Scalar.addi v140 v139
  let v147 : BitVec 32 := Scalar.select v145 v146 v140
  let c1_i32_105 : BitVec 32 := 1#32
  let v167 : BitVec 32 := Scalar.muli v147 c1_i32_105
  let v168 : BitVec 32 := Scalar.addi v166 v167
  v168.toNat
def k0_mult5 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v176 : BitVec 32 := Scalar.addi v8 c3_i32_109
  let c4_i32_110 : BitVec 32 := 4#32
  let c0_i32_111 : BitVec 32 := 0#32
  let v177 : BitVec 1 := Scalar.cmpi .eq c4_i32_110 c0_i32_111
  let c1_i32_112 : BitVec 32 := 1#32
  let v178 : BitVec 32 := Scalar.select v177 c1_i32_112 c4_i32_110
  let v179 : BitVec 32 := Scalar.remsi v176 v178
  let c0_i32_114 : BitVec 32 := 0#32
  let v181 : BitVec 1 := Scalar.cmpi .slt v179 c0_i32_114
  let c0_i32_115 : BitVec 32 := 0#32
  let v182 : BitVec 1 := Scalar.cmpi .slt v178 c0_i32_115
  let v183 : BitVec 1 := Scalar.xori v181 v182
  let c0_i32_113 : BitVec 32 := 0#32
  let v180 : BitVec 1 := Scalar.cmpi .ne v179 c0_i32_113
  let v184 : BitVec 1 := Scalar.andi v183 v180
  let v185 : BitVec 32 := Scalar.addi v179 v178
  let v186 : BitVec 32 := Scalar.select v184 v185 v179
  let c512_i32_116 : BitVec 32 := 512#32
  let v187 : BitVec 32 := Scalar.muli v186 c512_i32_116
  v187
def k0_dev8 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v189 : BitVec 32 := Scalar.muli v2 c8_i32_119
  let v190 : BitVec 32 := Scalar.addi c0_i32_120 v189
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v191 : BitVec 32 := Scalar.muli v5 c4_i32_121
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v176 : BitVec 32 := Scalar.addi v8 c3_i32_109
  let c4_i32_110 : BitVec 32 := 4#32
  let c0_i32_111 : BitVec 32 := 0#32
  let v177 : BitVec 1 := Scalar.cmpi .eq c4_i32_110 c0_i32_111
  let c1_i32_112 : BitVec 32 := 1#32
  let v178 : BitVec 32 := Scalar.select v177 c1_i32_112 c4_i32_110
  let v179 : BitVec 32 := Scalar.remsi v176 v178
  let c0_i32_114 : BitVec 32 := 0#32
  let v181 : BitVec 1 := Scalar.cmpi .slt v179 c0_i32_114
  let c0_i32_115 : BitVec 32 := 0#32
  let v182 : BitVec 1 := Scalar.cmpi .slt v178 c0_i32_115
  let v183 : BitVec 1 := Scalar.xori v181 v182
  let c0_i32_113 : BitVec 32 := 0#32
  let v180 : BitVec 1 := Scalar.cmpi .ne v179 c0_i32_113
  let v184 : BitVec 1 := Scalar.andi v183 v180
  let v185 : BitVec 32 := Scalar.addi v179 v178
  let v186 : BitVec 32 := Scalar.select v184 v185 v179
  let c1_i32_122 : BitVec 32 := 1#32
  let v193 : BitVec 32 := Scalar.muli v186 c1_i32_122
  let v194 : BitVec 32 := Scalar.addi v192 v193
  v194.toNat
def k0_dev9 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v202 : BitVec 32 := Scalar.muli v2 c8_i32_128
  let v203 : BitVec 32 := Scalar.addi c0_i32_129 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v204 : BitVec 32 := Scalar.muli v5 c4_i32_130
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v176 : BitVec 32 := Scalar.addi v8 c3_i32_109
  let c4_i32_110 : BitVec 32 := 4#32
  let c0_i32_111 : BitVec 32 := 0#32
  let v177 : BitVec 1 := Scalar.cmpi .eq c4_i32_110 c0_i32_111
  let c1_i32_112 : BitVec 32 := 1#32
  let v178 : BitVec 32 := Scalar.select v177 c1_i32_112 c4_i32_110
  let v179 : BitVec 32 := Scalar.remsi v176 v178
  let c0_i32_114 : BitVec 32 := 0#32
  let v181 : BitVec 1 := Scalar.cmpi .slt v179 c0_i32_114
  let c0_i32_115 : BitVec 32 := 0#32
  let v182 : BitVec 1 := Scalar.cmpi .slt v178 c0_i32_115
  let v183 : BitVec 1 := Scalar.xori v181 v182
  let c0_i32_113 : BitVec 32 := 0#32
  let v180 : BitVec 1 := Scalar.cmpi .ne v179 c0_i32_113
  let v184 : BitVec 1 := Scalar.andi v183 v180
  let v185 : BitVec 32 := Scalar.addi v179 v178
  let v186 : BitVec 32 := Scalar.select v184 v185 v179
  let c1_i32_131 : BitVec 32 := 1#32
  let v206 : BitVec 32 := Scalar.muli v186 c1_i32_131
  let v207 : BitVec 32 := Scalar.addi v205 v206
  v207.toNat
def k0_off11 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v220 : Index := Scalar.indexCast v8
  let c0_137 : Index := 0#32
  let c0_138 : Index := 0#32
  ![v220.toNat, 0, 0]
def k0_off12 (d0 : Dev nD) (c1_i32_139 : BitVec 32) : Fin 2 → Nat :=
  let c0_i32_147 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v224 : BitVec 32 := Scalar.addi v8 c1_i32_139
  let c4_i32_140 : BitVec 32 := 4#32
  let c0_i32_141 : BitVec 32 := 0#32
  let v225 : BitVec 1 := Scalar.cmpi .eq c4_i32_140 c0_i32_141
  let c1_i32_142 : BitVec 32 := 1#32
  let v226 : BitVec 32 := Scalar.select v225 c1_i32_142 c4_i32_140
  let v227 : BitVec 32 := Scalar.remsi v224 v226
  let c0_i32_144 : BitVec 32 := 0#32
  let v229 : BitVec 1 := Scalar.cmpi .slt v227 c0_i32_144
  let c0_i32_145 : BitVec 32 := 0#32
  let v230 : BitVec 1 := Scalar.cmpi .slt v226 c0_i32_145
  let v231 : BitVec 1 := Scalar.xori v229 v230
  let c0_i32_143 : BitVec 32 := 0#32
  let v228 : BitVec 1 := Scalar.cmpi .ne v227 c0_i32_143
  let v232 : BitVec 1 := Scalar.andi v231 v228
  let v233 : BitVec 32 := Scalar.addi v227 v226
  let v234 : BitVec 32 := Scalar.select v232 v233 v227
  ![0, v234.toNat]
def k0_off13 (d0 : Dev nD) : Fin 2 → Nat :=
  let c0_i32_146 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off14 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_152 : BitVec 32 := 0#32
  let c0_i32_153 : BitVec 32 := 0#32
  ![v8.toNat, 0, 0]
def k0_dev10 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v235 : BitVec 32 := Scalar.muli v2 c8_i32_148
  let v236 : BitVec 32 := Scalar.addi c0_i32_149 v235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v237 : BitVec 32 := Scalar.muli v5 c4_i32_150
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v224 : BitVec 32 := Scalar.addi v8 c1_i32_139
  let c4_i32_140 : BitVec 32 := 4#32
  let c0_i32_141 : BitVec 32 := 0#32
  let v225 : BitVec 1 := Scalar.cmpi .eq c4_i32_140 c0_i32_141
  let c1_i32_142 : BitVec 32 := 1#32
  let v226 : BitVec 32 := Scalar.select v225 c1_i32_142 c4_i32_140
  let v227 : BitVec 32 := Scalar.remsi v224 v226
  let c0_i32_144 : BitVec 32 := 0#32
  let v229 : BitVec 1 := Scalar.cmpi .slt v227 c0_i32_144
  let c0_i32_145 : BitVec 32 := 0#32
  let v230 : BitVec 1 := Scalar.cmpi .slt v226 c0_i32_145
  let v231 : BitVec 1 := Scalar.xori v229 v230
  let c0_i32_143 : BitVec 32 := 0#32
  let v228 : BitVec 1 := Scalar.cmpi .ne v227 c0_i32_143
  let v232 : BitVec 1 := Scalar.andi v231 v228
  let v233 : BitVec 32 := Scalar.addi v227 v226
  let v234 : BitVec 32 := Scalar.select v232 v233 v227
  let c1_i32_151 : BitVec 32 := 1#32
  let v239 : BitVec 32 := Scalar.muli v234 c1_i32_151
  let v240 : BitVec 32 := Scalar.addi v238 v239
  v240.toNat
def k0_dev11 (d0 : Dev nD) : Nat :=
  let c0_i32_166 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_165 : BitVec 32 := 8#32
  let v260 : BitVec 32 := Scalar.muli v2 c8_i32_165
  let v261 : BitVec 32 := Scalar.addi c0_i32_166 v260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_167 : BitVec 32 := 4#32
  let v262 : BitVec 32 := Scalar.muli v5 c4_i32_167
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_156 : BitVec 32 := 2#32
  let v249 : BitVec 32 := Scalar.addi v8 c2_i32_156
  let c4_i32_157 : BitVec 32 := 4#32
  let c0_i32_158 : BitVec 32 := 0#32
  let v250 : BitVec 1 := Scalar.cmpi .eq c4_i32_157 c0_i32_158
  let c1_i32_159 : BitVec 32 := 1#32
  let v251 : BitVec 32 := Scalar.select v250 c1_i32_159 c4_i32_157
  let v252 : BitVec 32 := Scalar.remsi v249 v251
  let c0_i32_161 : BitVec 32 := 0#32
  let v254 : BitVec 1 := Scalar.cmpi .slt v252 c0_i32_161
  let c0_i32_162 : BitVec 32 := 0#32
  let v255 : BitVec 1 := Scalar.cmpi .slt v251 c0_i32_162
  let v256 : BitVec 1 := Scalar.xori v254 v255
  let c0_i32_160 : BitVec 32 := 0#32
  let v253 : BitVec 1 := Scalar.cmpi .ne v252 c0_i32_160
  let v257 : BitVec 1 := Scalar.andi v256 v253
  let v258 : BitVec 32 := Scalar.addi v252 v251
  let v259 : BitVec 32 := Scalar.select v257 v258 v252
  let c1_i32_168 : BitVec 32 := 1#32
  let v264 : BitVec 32 := Scalar.muli v259 c1_i32_168
  let v265 : BitVec 32 := Scalar.addi v263 v264
  v265.toNat
def k0_dev12 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v285 : BitVec 32 := Scalar.muli v2 c8_i32_182
  let v286 : BitVec 32 := Scalar.addi c0_i32_183 v285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_184 : BitVec 32 := 4#32
  let v287 : BitVec 32 := Scalar.muli v5 c4_i32_184
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_173 : BitVec 32 := 3#32
  let v274 : BitVec 32 := Scalar.addi v8 c3_i32_173
  let c4_i32_174 : BitVec 32 := 4#32
  let c0_i32_175 : BitVec 32 := 0#32
  let v275 : BitVec 1 := Scalar.cmpi .eq c4_i32_174 c0_i32_175
  let c1_i32_176 : BitVec 32 := 1#32
  let v276 : BitVec 32 := Scalar.select v275 c1_i32_176 c4_i32_174
  let v277 : BitVec 32 := Scalar.remsi v274 v276
  let c0_i32_178 : BitVec 32 := 0#32
  let v279 : BitVec 1 := Scalar.cmpi .slt v277 c0_i32_178
  let c0_i32_179 : BitVec 32 := 0#32
  let v280 : BitVec 1 := Scalar.cmpi .slt v276 c0_i32_179
  let v281 : BitVec 1 := Scalar.xori v279 v280
  let c0_i32_177 : BitVec 32 := 0#32
  let v278 : BitVec 1 := Scalar.cmpi .ne v277 c0_i32_177
  let v282 : BitVec 1 := Scalar.andi v281 v278
  let v283 : BitVec 32 := Scalar.addi v277 v276
  let v284 : BitVec 32 := Scalar.select v282 v283 v277
  let c1_i32_185 : BitVec 32 := 1#32
  let v289 : BitVec 32 := Scalar.muli v284 c1_i32_185
  let v290 : BitVec 32 := Scalar.addi v288 v289
  v290.toNat
def k0_off15 (d0 : Dev nD) (c1_i32_219 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v342 : BitVec 32 := Scalar.addi v8 c1_i32_219
  let c4_i32_220 : BitVec 32 := 4#32
  let c0_i32_221 : BitVec 32 := 0#32
  let v343 : BitVec 1 := Scalar.cmpi .eq c4_i32_220 c0_i32_221
  let c1_i32_222 : BitVec 32 := 1#32
  let v344 : BitVec 32 := Scalar.select v343 c1_i32_222 c4_i32_220
  let v345 : BitVec 32 := Scalar.remsi v342 v344
  let c0_i32_224 : BitVec 32 := 0#32
  let v347 : BitVec 1 := Scalar.cmpi .slt v345 c0_i32_224
  let c0_i32_225 : BitVec 32 := 0#32
  let v348 : BitVec 1 := Scalar.cmpi .slt v344 c0_i32_225
  let v349 : BitVec 1 := Scalar.xori v347 v348
  let c0_i32_223 : BitVec 32 := 0#32
  let v346 : BitVec 1 := Scalar.cmpi .ne v345 c0_i32_223
  let v350 : BitVec 1 := Scalar.andi v349 v346
  let v351 : BitVec 32 := Scalar.addi v345 v344
  let v352 : BitVec 32 := Scalar.select v350 v351 v345
  let c0_i32_232 : BitVec 32 := 0#32
  let c0_i32_233 : BitVec 32 := 0#32
  ![v352.toNat, 0, 0]
def k0_off16 (d0 : Dev nD) (c1_i32_219 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v342 : BitVec 32 := Scalar.addi v8 c1_i32_219
  let c4_i32_220 : BitVec 32 := 4#32
  let c0_i32_221 : BitVec 32 := 0#32
  let v343 : BitVec 1 := Scalar.cmpi .eq c4_i32_220 c0_i32_221
  let c1_i32_222 : BitVec 32 := 1#32
  let v344 : BitVec 32 := Scalar.select v343 c1_i32_222 c4_i32_220
  let v345 : BitVec 32 := Scalar.remsi v342 v344
  let c0_i32_224 : BitVec 32 := 0#32
  let v347 : BitVec 1 := Scalar.cmpi .slt v345 c0_i32_224
  let c0_i32_225 : BitVec 32 := 0#32
  let v348 : BitVec 1 := Scalar.cmpi .slt v344 c0_i32_225
  let v349 : BitVec 1 := Scalar.xori v347 v348
  let c0_i32_223 : BitVec 32 := 0#32
  let v346 : BitVec 1 := Scalar.cmpi .ne v345 c0_i32_223
  let v350 : BitVec 1 := Scalar.andi v349 v346
  let v351 : BitVec 32 := Scalar.addi v345 v344
  let v352 : BitVec 32 := Scalar.select v350 v351 v345
  let c0_i32_242 : BitVec 32 := 0#32
  let c0_i32_243 : BitVec 32 := 0#32
  ![v352.toNat, 0, 0]
def k0_off17 (d0 : Dev nD) (c1_i32_219 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v342 : BitVec 32 := Scalar.addi v8 c1_i32_219
  let c4_i32_220 : BitVec 32 := 4#32
  let c0_i32_221 : BitVec 32 := 0#32
  let v343 : BitVec 1 := Scalar.cmpi .eq c4_i32_220 c0_i32_221
  let c1_i32_222 : BitVec 32 := 1#32
  let v344 : BitVec 32 := Scalar.select v343 c1_i32_222 c4_i32_220
  let v345 : BitVec 32 := Scalar.remsi v342 v344
  let c0_i32_224 : BitVec 32 := 0#32
  let v347 : BitVec 1 := Scalar.cmpi .slt v345 c0_i32_224
  let c0_i32_225 : BitVec 32 := 0#32
  let v348 : BitVec 1 := Scalar.cmpi .slt v344 c0_i32_225
  let v349 : BitVec 1 := Scalar.xori v347 v348
  let c0_i32_223 : BitVec 32 := 0#32
  let v346 : BitVec 1 := Scalar.cmpi .ne v345 c0_i32_223
  let v350 : BitVec 1 := Scalar.andi v349 v346
  let v351 : BitVec 32 := Scalar.addi v345 v344
  let v352 : BitVec 32 := Scalar.select v350 v351 v345
  let v389 : Index := Scalar.indexCast v352
  let c0_256 : Index := 0#32
  let c0_257 : Index := 0#32
  ![v389.toNat, 0, 0]
def k0_off18 (d0 : Dev nD) (c1_i32_219 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v342 : BitVec 32 := Scalar.addi v8 c1_i32_219
  let c4_i32_220 : BitVec 32 := 4#32
  let c0_i32_221 : BitVec 32 := 0#32
  let v343 : BitVec 1 := Scalar.cmpi .eq c4_i32_220 c0_i32_221
  let c1_i32_222 : BitVec 32 := 1#32
  let v344 : BitVec 32 := Scalar.select v343 c1_i32_222 c4_i32_220
  let v345 : BitVec 32 := Scalar.remsi v342 v344
  let c0_i32_224 : BitVec 32 := 0#32
  let v347 : BitVec 1 := Scalar.cmpi .slt v345 c0_i32_224
  let c0_i32_225 : BitVec 32 := 0#32
  let v348 : BitVec 1 := Scalar.cmpi .slt v344 c0_i32_225
  let v349 : BitVec 1 := Scalar.xori v347 v348
  let c0_i32_223 : BitVec 32 := 0#32
  let v346 : BitVec 1 := Scalar.cmpi .ne v345 c0_i32_223
  let v350 : BitVec 1 := Scalar.andi v349 v346
  let v351 : BitVec 32 := Scalar.addi v345 v344
  let v352 : BitVec 32 := Scalar.select v350 v351 v345
  let v392 : Index := Scalar.indexCast v352
  let c0_258 : Index := 0#32
  let c0_259 : Index := 0#32
  ![v392.toNat, 0, 0]
def k0_off19 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v554 : Index := Scalar.indexCast v8
  let c0_376 : Index := 0#32
  let c0_377 : Index := 0#32
  let c0_378 : Index := 0#32
  ![v554.toNat, 0, 0, 0]
def k0_off20 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v573 : Index := Scalar.indexCast v8
  let c0_389 : Index := 0#32
  let c0_390 : Index := 0#32
  let c128_391 : Index := 128#32
  ![v573.toNat, 0, 0, 128]
def k0_off21 (d0 : Dev nD) (c1_i32_392 : BitVec 32) : Fin 2 → Nat :=
  let c3_i32_402 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v577 : BitVec 32 := Scalar.addi v8 c1_i32_392
  let c4_i32_393 : BitVec 32 := 4#32
  let c0_i32_394 : BitVec 32 := 0#32
  let v578 : BitVec 1 := Scalar.cmpi .eq c4_i32_393 c0_i32_394
  let c1_i32_395 : BitVec 32 := 1#32
  let v579 : BitVec 32 := Scalar.select v578 c1_i32_395 c4_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  ![3, v587.toNat]
def k0_off22 (d0 : Dev nD) : Fin 2 → Nat :=
  let c3_i32_401 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![3, v8.toNat]
def k0_off23 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_400 : BitVec 32 := 0#32
  let c0_i32_407 : BitVec 32 := 0#32
  let c0_i32_408 : BitVec 32 := 0#32
  ![v8.toNat, 0, 0, 0]
def k0_dev13 (d0 : Dev nD) : Nat :=
  let c0_i32_404 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_403 : BitVec 32 := 8#32
  let v588 : BitVec 32 := Scalar.muli v2 c8_i32_403
  let v589 : BitVec 32 := Scalar.addi c0_i32_404 v588
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_405 : BitVec 32 := 4#32
  let v590 : BitVec 32 := Scalar.muli v5 c4_i32_405
  let v591 : BitVec 32 := Scalar.addi v589 v590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v577 : BitVec 32 := Scalar.addi v8 c1_i32_392
  let c4_i32_393 : BitVec 32 := 4#32
  let c0_i32_394 : BitVec 32 := 0#32
  let v578 : BitVec 1 := Scalar.cmpi .eq c4_i32_393 c0_i32_394
  let c1_i32_395 : BitVec 32 := 1#32
  let v579 : BitVec 32 := Scalar.select v578 c1_i32_395 c4_i32_393
  let v580 : BitVec 32 := Scalar.remsi v577 v579
  let c0_i32_397 : BitVec 32 := 0#32
  let v582 : BitVec 1 := Scalar.cmpi .slt v580 c0_i32_397
  let c0_i32_398 : BitVec 32 := 0#32
  let v583 : BitVec 1 := Scalar.cmpi .slt v579 c0_i32_398
  let v584 : BitVec 1 := Scalar.xori v582 v583
  let c0_i32_396 : BitVec 32 := 0#32
  let v581 : BitVec 1 := Scalar.cmpi .ne v580 c0_i32_396
  let v585 : BitVec 1 := Scalar.andi v584 v581
  let v586 : BitVec 32 := Scalar.addi v580 v579
  let v587 : BitVec 32 := Scalar.select v585 v586 v580
  let c1_i32_406 : BitVec 32 := 1#32
  let v592 : BitVec 32 := Scalar.muli v587 c1_i32_406
  let v593 : BitVec 32 := Scalar.addi v591 v592
  v593.toNat
def k0_dev14 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v613 : BitVec 32 := Scalar.muli v2 c8_i32_422
  let v614 : BitVec 32 := Scalar.addi c0_i32_423 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v615 : BitVec 32 := Scalar.muli v5 c4_i32_424
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v602 : BitVec 32 := Scalar.addi v8 c2_i32_411
  let c4_i32_412 : BitVec 32 := 4#32
  let c0_i32_413 : BitVec 32 := 0#32
  let v603 : BitVec 1 := Scalar.cmpi .eq c4_i32_412 c0_i32_413
  let c1_i32_414 : BitVec 32 := 1#32
  let v604 : BitVec 32 := Scalar.select v603 c1_i32_414 c4_i32_412
  let v605 : BitVec 32 := Scalar.remsi v602 v604
  let c0_i32_416 : BitVec 32 := 0#32
  let v607 : BitVec 1 := Scalar.cmpi .slt v605 c0_i32_416
  let c0_i32_417 : BitVec 32 := 0#32
  let v608 : BitVec 1 := Scalar.cmpi .slt v604 c0_i32_417
  let v609 : BitVec 1 := Scalar.xori v607 v608
  let c0_i32_415 : BitVec 32 := 0#32
  let v606 : BitVec 1 := Scalar.cmpi .ne v605 c0_i32_415
  let v610 : BitVec 1 := Scalar.andi v609 v606
  let v611 : BitVec 32 := Scalar.addi v605 v604
  let v612 : BitVec 32 := Scalar.select v610 v611 v605
  let c1_i32_425 : BitVec 32 := 1#32
  let v617 : BitVec 32 := Scalar.muli v612 c1_i32_425
  let v618 : BitVec 32 := Scalar.addi v616 v617
  v618.toNat
def k0_dev15 (d0 : Dev nD) : Nat :=
  let c0_i32_442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_441 : BitVec 32 := 8#32
  let v638 : BitVec 32 := Scalar.muli v2 c8_i32_441
  let v639 : BitVec 32 := Scalar.addi c0_i32_442 v638
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_443 : BitVec 32 := 4#32
  let v640 : BitVec 32 := Scalar.muli v5 c4_i32_443
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_430 : BitVec 32 := 3#32
  let v627 : BitVec 32 := Scalar.addi v8 c3_i32_430
  let c4_i32_431 : BitVec 32 := 4#32
  let c0_i32_432 : BitVec 32 := 0#32
  let v628 : BitVec 1 := Scalar.cmpi .eq c4_i32_431 c0_i32_432
  let c1_i32_433 : BitVec 32 := 1#32
  let v629 : BitVec 32 := Scalar.select v628 c1_i32_433 c4_i32_431
  let v630 : BitVec 32 := Scalar.remsi v627 v629
  let c0_i32_435 : BitVec 32 := 0#32
  let v632 : BitVec 1 := Scalar.cmpi .slt v630 c0_i32_435
  let c0_i32_436 : BitVec 32 := 0#32
  let v633 : BitVec 1 := Scalar.cmpi .slt v629 c0_i32_436
  let v634 : BitVec 1 := Scalar.xori v632 v633
  let c0_i32_434 : BitVec 32 := 0#32
  let v631 : BitVec 1 := Scalar.cmpi .ne v630 c0_i32_434
  let v635 : BitVec 1 := Scalar.andi v634 v631
  let v636 : BitVec 32 := Scalar.addi v630 v629
  let v637 : BitVec 32 := Scalar.select v635 v636 v630
  let c1_i32_444 : BitVec 32 := 1#32
  let v642 : BitVec 32 := Scalar.muli v637 c1_i32_444
  let v643 : BitVec 32 := Scalar.addi v641 v642
  v643.toNat
def k0_off24 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v667 : Index := Scalar.indexCast v8
  let c1 : Index := 1#32
  let c0_459 : Index := 0#32
  let c0_460 : Index := 0#32
  ![v667.toNat, 1, 0, 0]
def k0_off25 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v686 : Index := Scalar.indexCast v8
  let c1_471 : Index := 1#32
  let c0_472 : Index := 0#32
  let c128_473 : Index := 128#32
  ![v686.toNat, 1, 0, 128]
def k0_off26 (d0 : Dev nD) (c1_i32_474 : BitVec 32) : Fin 2 → Nat :=
  let c4_i32_484 : BitVec 32 := 4#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v690 : BitVec 32 := Scalar.addi v8 c1_i32_474
  let c4_i32_475 : BitVec 32 := 4#32
  let c0_i32_476 : BitVec 32 := 0#32
  let v691 : BitVec 1 := Scalar.cmpi .eq c4_i32_475 c0_i32_476
  let c1_i32_477 : BitVec 32 := 1#32
  let v692 : BitVec 32 := Scalar.select v691 c1_i32_477 c4_i32_475
  let v693 : BitVec 32 := Scalar.remsi v690 v692
  let c0_i32_479 : BitVec 32 := 0#32
  let v695 : BitVec 1 := Scalar.cmpi .slt v693 c0_i32_479
  let c0_i32_480 : BitVec 32 := 0#32
  let v696 : BitVec 1 := Scalar.cmpi .slt v692 c0_i32_480
  let v697 : BitVec 1 := Scalar.xori v695 v696
  let c0_i32_478 : BitVec 32 := 0#32
  let v694 : BitVec 1 := Scalar.cmpi .ne v693 c0_i32_478
  let v698 : BitVec 1 := Scalar.andi v697 v694
  let v699 : BitVec 32 := Scalar.addi v693 v692
  let v700 : BitVec 32 := Scalar.select v698 v699 v693
  ![4, v700.toNat]
def k0_off27 (d0 : Dev nD) : Fin 2 → Nat :=
  let c4_i32_483 : BitVec 32 := 4#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![4, v8.toNat]
def k0_off28 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let c0_i32_489 : BitVec 32 := 0#32
  let c0_i32_490 : BitVec 32 := 0#32
  ![v8.toNat, 1, 0, 0]
def k0_dev16 (d0 : Dev nD) : Nat :=
  let c0_i32_486 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_485 : BitVec 32 := 8#32
  let v701 : BitVec 32 := Scalar.muli v2 c8_i32_485
  let v702 : BitVec 32 := Scalar.addi c0_i32_486 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_487 : BitVec 32 := 4#32
  let v703 : BitVec 32 := Scalar.muli v5 c4_i32_487
  let v704 : BitVec 32 := Scalar.addi v702 v703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v690 : BitVec 32 := Scalar.addi v8 c1_i32_474
  let c4_i32_475 : BitVec 32 := 4#32
  let c0_i32_476 : BitVec 32 := 0#32
  let v691 : BitVec 1 := Scalar.cmpi .eq c4_i32_475 c0_i32_476
  let c1_i32_477 : BitVec 32 := 1#32
  let v692 : BitVec 32 := Scalar.select v691 c1_i32_477 c4_i32_475
  let v693 : BitVec 32 := Scalar.remsi v690 v692
  let c0_i32_479 : BitVec 32 := 0#32
  let v695 : BitVec 1 := Scalar.cmpi .slt v693 c0_i32_479
  let c0_i32_480 : BitVec 32 := 0#32
  let v696 : BitVec 1 := Scalar.cmpi .slt v692 c0_i32_480
  let v697 : BitVec 1 := Scalar.xori v695 v696
  let c0_i32_478 : BitVec 32 := 0#32
  let v694 : BitVec 1 := Scalar.cmpi .ne v693 c0_i32_478
  let v698 : BitVec 1 := Scalar.andi v697 v694
  let v699 : BitVec 32 := Scalar.addi v693 v692
  let v700 : BitVec 32 := Scalar.select v698 v699 v693
  let c1_i32_488 : BitVec 32 := 1#32
  let v705 : BitVec 32 := Scalar.muli v700 c1_i32_488
  let v706 : BitVec 32 := Scalar.addi v704 v705
  v706.toNat
def k0_dev17 (d0 : Dev nD) : Nat :=
  let c0_i32_505 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_504 : BitVec 32 := 8#32
  let v726 : BitVec 32 := Scalar.muli v2 c8_i32_504
  let v727 : BitVec 32 := Scalar.addi c0_i32_505 v726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_506 : BitVec 32 := 4#32
  let v728 : BitVec 32 := Scalar.muli v5 c4_i32_506
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_493 : BitVec 32 := 2#32
  let v715 : BitVec 32 := Scalar.addi v8 c2_i32_493
  let c4_i32_494 : BitVec 32 := 4#32
  let c0_i32_495 : BitVec 32 := 0#32
  let v716 : BitVec 1 := Scalar.cmpi .eq c4_i32_494 c0_i32_495
  let c1_i32_496 : BitVec 32 := 1#32
  let v717 : BitVec 32 := Scalar.select v716 c1_i32_496 c4_i32_494
  let v718 : BitVec 32 := Scalar.remsi v715 v717
  let c0_i32_498 : BitVec 32 := 0#32
  let v720 : BitVec 1 := Scalar.cmpi .slt v718 c0_i32_498
  let c0_i32_499 : BitVec 32 := 0#32
  let v721 : BitVec 1 := Scalar.cmpi .slt v717 c0_i32_499
  let v722 : BitVec 1 := Scalar.xori v720 v721
  let c0_i32_497 : BitVec 32 := 0#32
  let v719 : BitVec 1 := Scalar.cmpi .ne v718 c0_i32_497
  let v723 : BitVec 1 := Scalar.andi v722 v719
  let v724 : BitVec 32 := Scalar.addi v718 v717
  let v725 : BitVec 32 := Scalar.select v723 v724 v718
  let c1_i32_507 : BitVec 32 := 1#32
  let v730 : BitVec 32 := Scalar.muli v725 c1_i32_507
  let v731 : BitVec 32 := Scalar.addi v729 v730
  v731.toNat
def k0_dev18 (d0 : Dev nD) : Nat :=
  let c0_i32_524 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_523 : BitVec 32 := 8#32
  let v751 : BitVec 32 := Scalar.muli v2 c8_i32_523
  let v752 : BitVec 32 := Scalar.addi c0_i32_524 v751
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_525 : BitVec 32 := 4#32
  let v753 : BitVec 32 := Scalar.muli v5 c4_i32_525
  let v754 : BitVec 32 := Scalar.addi v752 v753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_512 : BitVec 32 := 3#32
  let v740 : BitVec 32 := Scalar.addi v8 c3_i32_512
  let c4_i32_513 : BitVec 32 := 4#32
  let c0_i32_514 : BitVec 32 := 0#32
  let v741 : BitVec 1 := Scalar.cmpi .eq c4_i32_513 c0_i32_514
  let c1_i32_515 : BitVec 32 := 1#32
  let v742 : BitVec 32 := Scalar.select v741 c1_i32_515 c4_i32_513
  let v743 : BitVec 32 := Scalar.remsi v740 v742
  let c0_i32_517 : BitVec 32 := 0#32
  let v745 : BitVec 1 := Scalar.cmpi .slt v743 c0_i32_517
  let c0_i32_518 : BitVec 32 := 0#32
  let v746 : BitVec 1 := Scalar.cmpi .slt v742 c0_i32_518
  let v747 : BitVec 1 := Scalar.xori v745 v746
  let c0_i32_516 : BitVec 32 := 0#32
  let v744 : BitVec 1 := Scalar.cmpi .ne v743 c0_i32_516
  let v748 : BitVec 1 := Scalar.andi v747 v744
  let v749 : BitVec 32 := Scalar.addi v743 v742
  let v750 : BitVec 32 := Scalar.select v748 v749 v743
  let c1_i32_526 : BitVec 32 := 1#32
  let v755 : BitVec 32 := Scalar.muli v750 c1_i32_526
  let v756 : BitVec 32 := Scalar.addi v754 v755
  v756.toNat
def k0_mult6 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_552 : BitVec 32 := 512#32
  let v798 : BitVec 32 := Scalar.muli v8 c512_i32_552
  let c0_i32_553 : BitVec 32 := 0#32
  let v799 : BitVec 32 := Scalar.addi v798 c0_i32_553
  v799
def k0_off29 (d0 : Dev nD) (c0_i32_553 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_552 : BitVec 32 := 512#32
  let v798 : BitVec 32 := Scalar.muli v8 c512_i32_552
  let v799 : BitVec 32 := Scalar.addi v798 c0_i32_553
  let v800 : BitVec 32 := v799
  let c0_i32_558 : BitVec 32 := 0#32
  ![v800.toNat, 0]
def k0_mult7 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_559 : BitVec 32 := 512#32
  let v806 : BitVec 32 := Scalar.muli v8 c512_i32_559
  let c256_i32 : BitVec 32 := 256#32
  let v807 : BitVec 32 := Scalar.addi v806 c256_i32
  v807
def k0_off30 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v819 : Index := Scalar.indexCast v8
  let c0_570 : Index := 0#32
  let c0_571 : Index := 0#32
  let c0_572 : Index := 0#32
  ![v819.toNat, 0, 0, 0]
def k0_mult8 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let c512_i32_577 : BitVec 32 := 512#32
  let v826 : BitVec 32 := Scalar.muli v775 c512_i32_577
  let c0_i32_578 : BitVec 32 := 0#32
  let v827 : BitVec 32 := Scalar.addi v826 c0_i32_578
  v827
def k0_off31 (d0 : Dev nD) (c1_i32_531 : BitVec 32) (c0_i32_578 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let c512_i32_577 : BitVec 32 := 512#32
  let v826 : BitVec 32 := Scalar.muli v775 c512_i32_577
  let v827 : BitVec 32 := Scalar.addi v826 c0_i32_578
  let v828 : BitVec 32 := v827
  let c0_i32_583 : BitVec 32 := 0#32
  ![v828.toNat, 0]
def k0_off32 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v840 : Index := Scalar.indexCast v8
  let c1_591 : Index := 1#32
  let c0_592 : Index := 0#32
  let c0_593 : Index := 0#32
  ![v840.toNat, 1, 0, 0]
def k0_mult9 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_531 : BitVec 32 := 1#32
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let c512_i32_598 : BitVec 32 := 512#32
  let v847 : BitVec 32 := Scalar.muli v775 c512_i32_598
  let c256_i32_599 : BitVec 32 := 256#32
  let v848 : BitVec 32 := Scalar.addi v847 c256_i32_599
  v848
def k0_off33 (d0 : Dev nD) (c1_i32_531 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let c0_i32_610 : BitVec 32 := 0#32
  let c0_i32_617 : BitVec 32 := 0#32
  let c0_i32_618 : BitVec 32 := 0#32
  ![v775.toNat, 0, 0, 0]
def k0_off34 (d0 : Dev nD) (c1_i32_531 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let v876 : Index := Scalar.indexCast v775
  let c0_626 : Index := 0#32
  let c0_627 : Index := 0#32
  let c0_628 : Index := 0#32
  ![v876.toNat, 0, 0, 0]
def k0_mult10 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_538 : BitVec 32 := 2#32
  let v776 : BitVec 32 := Scalar.addi v8 c2_i32_538
  let c4_i32_539 : BitVec 32 := 4#32
  let c0_i32_540 : BitVec 32 := 0#32
  let v777 : BitVec 1 := Scalar.cmpi .eq c4_i32_539 c0_i32_540
  let c1_i32_541 : BitVec 32 := 1#32
  let v778 : BitVec 32 := Scalar.select v777 c1_i32_541 c4_i32_539
  let v779 : BitVec 32 := Scalar.remsi v776 v778
  let c0_i32_543 : BitVec 32 := 0#32
  let v781 : BitVec 1 := Scalar.cmpi .slt v779 c0_i32_543
  let c0_i32_544 : BitVec 32 := 0#32
  let v782 : BitVec 1 := Scalar.cmpi .slt v778 c0_i32_544
  let v783 : BitVec 1 := Scalar.xori v781 v782
  let c0_i32_542 : BitVec 32 := 0#32
  let v780 : BitVec 1 := Scalar.cmpi .ne v779 c0_i32_542
  let v784 : BitVec 1 := Scalar.andi v783 v780
  let v785 : BitVec 32 := Scalar.addi v779 v778
  let v786 : BitVec 32 := Scalar.select v784 v785 v779
  let c512_i32_633 : BitVec 32 := 512#32
  let v883 : BitVec 32 := Scalar.muli v786 c512_i32_633
  let c0_i32_634 : BitVec 32 := 0#32
  let v884 : BitVec 32 := Scalar.addi v883 c0_i32_634
  v884
def k0_off35 (d0 : Dev nD) (c1_i32_531 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let c1_i32_645 : BitVec 32 := 1#32
  let c0_i32_652 : BitVec 32 := 0#32
  let c0_i32_653 : BitVec 32 := 0#32
  ![v775.toNat, 1, 0, 0]
def k0_off36 (d0 : Dev nD) (c1_i32_531 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v765 : BitVec 32 := Scalar.addi v8 c1_i32_531
  let c4_i32_532 : BitVec 32 := 4#32
  let c0_i32_533 : BitVec 32 := 0#32
  let v766 : BitVec 1 := Scalar.cmpi .eq c4_i32_532 c0_i32_533
  let c1_i32_534 : BitVec 32 := 1#32
  let v767 : BitVec 32 := Scalar.select v766 c1_i32_534 c4_i32_532
  let v768 : BitVec 32 := Scalar.remsi v765 v767
  let c0_i32_536 : BitVec 32 := 0#32
  let v770 : BitVec 1 := Scalar.cmpi .slt v768 c0_i32_536
  let c0_i32_537 : BitVec 32 := 0#32
  let v771 : BitVec 1 := Scalar.cmpi .slt v767 c0_i32_537
  let v772 : BitVec 1 := Scalar.xori v770 v771
  let c0_i32_535 : BitVec 32 := 0#32
  let v769 : BitVec 1 := Scalar.cmpi .ne v768 c0_i32_535
  let v773 : BitVec 1 := Scalar.andi v772 v769
  let v774 : BitVec 32 := Scalar.addi v768 v767
  let v775 : BitVec 32 := Scalar.select v773 v774 v768
  let v912 : Index := Scalar.indexCast v775
  let c1_661 : Index := 1#32
  let c0_662 : Index := 0#32
  let c0_663 : Index := 0#32
  ![v912.toNat, 1, 0, 0]
def k0_mult11 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_538 : BitVec 32 := 2#32
  let v776 : BitVec 32 := Scalar.addi v8 c2_i32_538
  let c4_i32_539 : BitVec 32 := 4#32
  let c0_i32_540 : BitVec 32 := 0#32
  let v777 : BitVec 1 := Scalar.cmpi .eq c4_i32_539 c0_i32_540
  let c1_i32_541 : BitVec 32 := 1#32
  let v778 : BitVec 32 := Scalar.select v777 c1_i32_541 c4_i32_539
  let v779 : BitVec 32 := Scalar.remsi v776 v778
  let c0_i32_543 : BitVec 32 := 0#32
  let v781 : BitVec 1 := Scalar.cmpi .slt v779 c0_i32_543
  let c0_i32_544 : BitVec 32 := 0#32
  let v782 : BitVec 1 := Scalar.cmpi .slt v778 c0_i32_544
  let v783 : BitVec 1 := Scalar.xori v781 v782
  let c0_i32_542 : BitVec 32 := 0#32
  let v780 : BitVec 1 := Scalar.cmpi .ne v779 c0_i32_542
  let v784 : BitVec 1 := Scalar.andi v783 v780
  let v785 : BitVec 32 := Scalar.addi v779 v778
  let v786 : BitVec 32 := Scalar.select v784 v785 v779
  let c512_i32_668 : BitVec 32 := 512#32
  let v919 : BitVec 32 := Scalar.muli v786 c512_i32_668
  let c256_i32_669 : BitVec 32 := 256#32
  let v920 : BitVec 32 := Scalar.addi v919 c256_i32_669
  v920
def k0_mult12 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_545 : BitVec 32 := 3#32
  let v787 : BitVec 32 := Scalar.addi v8 c3_i32_545
  let c4_i32_546 : BitVec 32 := 4#32
  let c0_i32_547 : BitVec 32 := 0#32
  let v788 : BitVec 1 := Scalar.cmpi .eq c4_i32_546 c0_i32_547
  let c1_i32_548 : BitVec 32 := 1#32
  let v789 : BitVec 32 := Scalar.select v788 c1_i32_548 c4_i32_546
  let v790 : BitVec 32 := Scalar.remsi v787 v789
  let c0_i32_550 : BitVec 32 := 0#32
  let v792 : BitVec 1 := Scalar.cmpi .slt v790 c0_i32_550
  let c0_i32_551 : BitVec 32 := 0#32
  let v793 : BitVec 1 := Scalar.cmpi .slt v789 c0_i32_551
  let v794 : BitVec 1 := Scalar.xori v792 v793
  let c0_i32_549 : BitVec 32 := 0#32
  let v791 : BitVec 1 := Scalar.cmpi .ne v790 c0_i32_549
  let v795 : BitVec 1 := Scalar.andi v794 v791
  let v796 : BitVec 32 := Scalar.addi v790 v789
  let v797 : BitVec 32 := Scalar.select v795 v796 v790
  let c512_i32_703 : BitVec 32 := 512#32
  let v955 : BitVec 32 := Scalar.muli v797 c512_i32_703
  let c0_i32_704 : BitVec 32 := 0#32
  let v956 : BitVec 32 := Scalar.addi v955 c0_i32_704
  v956
def k0_mult13 (d0 : Dev nD) : BitVec 32 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_545 : BitVec 32 := 3#32
  let v787 : BitVec 32 := Scalar.addi v8 c3_i32_545
  let c4_i32_546 : BitVec 32 := 4#32
  let c0_i32_547 : BitVec 32 := 0#32
  let v788 : BitVec 1 := Scalar.cmpi .eq c4_i32_546 c0_i32_547
  let c1_i32_548 : BitVec 32 := 1#32
  let v789 : BitVec 32 := Scalar.select v788 c1_i32_548 c4_i32_546
  let v790 : BitVec 32 := Scalar.remsi v787 v789
  let c0_i32_550 : BitVec 32 := 0#32
  let v792 : BitVec 1 := Scalar.cmpi .slt v790 c0_i32_550
  let c0_i32_551 : BitVec 32 := 0#32
  let v793 : BitVec 1 := Scalar.cmpi .slt v789 c0_i32_551
  let v794 : BitVec 1 := Scalar.xori v792 v793
  let c0_i32_549 : BitVec 32 := 0#32
  let v791 : BitVec 1 := Scalar.cmpi .ne v790 c0_i32_549
  let v795 : BitVec 1 := Scalar.andi v794 v791
  let v796 : BitVec 32 := Scalar.addi v790 v789
  let v797 : BitVec 32 := Scalar.select v795 v796 v790
  let c512_i32_738 : BitVec 32 := 512#32
  let v991 : BitVec 32 := Scalar.muli v797 c512_i32_738
  let c256_i32_739 : BitVec 32 := 256#32
  let v992 : BitVec 32 := Scalar.addi v991 c256_i32_739
  v992
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 160)⁻¹ : ℝ) : EReal)
  | _ => none
-- ==== ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1x1024x512 : Shape := ⟨3, ![1, 1024, 512]⟩
abbrev S1x1024x16x128 : Shape := ⟨4, ![1, 1024, 16, 128]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S_ : Shape := ⟨0, ![]⟩
abbrev S1x16x1024x1024 : Shape := ⟨4, ![1, 16, 1024, 1024]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x512, .f32⟩
  | .hbm, ⟨9, _⟩ => ⟨S1x1024x2048, .f32⟩
  | .hbm, ⟨10, _⟩ => ⟨S1x1024x16x128, .f32⟩
  | .hbm, ⟨11, _⟩ => ⟨S1x1024x2048, .f32⟩
  | .hbm, ⟨12, _⟩ => ⟨S1x1024x16x128, .f32⟩
  | .hbm, ⟨13, _⟩ => ⟨S1x1024x2048, .f32⟩
  | .hbm, ⟨14, _⟩ => ⟨S1x1024x16x128, .f32⟩
  | .hbm, ⟨15, _⟩ => ⟨S1x1024x512, .f32⟩
  | .hbm, ⟨16, _⟩ => ⟨S1x1024x16x32, .f32⟩
  | .hbm, ⟨17, _⟩ => ⟨S1x1024x32, .f32⟩
  | .hbm, ⟨18, _⟩ => ⟨S1x1024x1x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x16x1024x1024, .f32⟩
  | .hbm, ⟨24, _⟩ => ⟨S1x1024x16x32, .f32⟩
  | .hbm, ⟨25, _⟩ => ⟨S1x16x1024x1024, .f32⟩
  | .hbm, ⟨26, _⟩ => ⟨S1x16x1024x1024, .f32⟩
  | .hbm, ⟨27, _⟩ => ⟨S1x16x1024x1024, .f32⟩
  | .hbm, ⟨28, _⟩ => ⟨S1x16x1024x1024, .f32⟩
  | .hbm, ⟨29, _⟩ => ⟨S_, .f32⟩
  | .hbm, ⟨30, _⟩ => ⟨S1x16x1024, .f32⟩
  | .hbm, ⟨31, _⟩ => ⟨S1x16x1024x1, .f32⟩
  | .hbm, ⟨32, _⟩ => ⟨S1x16x1024x1024, .f32⟩
  | .hbm, ⟨33, _⟩ => ⟨S1x16x1024x1024, .f32⟩
  | .hbm, ⟨34, _⟩ => ⟨S1x16x1024x1024, .f32⟩
  | .hbm, ⟨35, _⟩ => ⟨S_, .f32⟩
  | .hbm, ⟨36, _⟩ => ⟨S1x16x1024, .f32⟩
  | .hbm, ⟨37, _⟩ => ⟨S1x16x1024x1, .f32⟩
  | .hbm, ⟨38, _⟩ => ⟨S1x16x1024x1024, .f32⟩
  | .hbm, ⟨39, _⟩ => ⟨S1x16x1024x1024, .f32⟩
  | .hbm, ⟨40, _⟩ => ⟨S1x16x128x1024, .f32⟩
  | .hbm, ⟨41, _⟩ => ⟨S1x1024x16x128, .f32⟩
  | .hbm, ⟨42, _⟩ => ⟨S1x1024x2048, .f32⟩
  | .hbm, ⟨43, _⟩ => ⟨S1x1024x2048, .f32⟩
  | .hbm, ⟨44, _⟩ => ⟨S1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Setup.lean ====
/-
  The mesh, the semaphores and the offsets the kernel computes, in the form the proof works with: a device
  c = 4·g + z sits at place z of the group g, and every transfer goes to another place of the same group.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Transfers
public import Idealize.ShloMosaic.Lib.Rounds
public import Idealize.ShloMosaic.Lib.ValueLayout
public import Idealize.ShloMosaic.Lib.Tactic

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Places -/

/-- The place of a device in its group. -/
def zv (c : Dev nD) : Fin 4 := ⟨c.val % 4, Nat.mod_lt _ (by decide)⟩
/-- The device at place `j` of `c`'s group. -/
def gdev (c : Dev nD) (j : Fin 4) : Dev nD := ⟨4 * (c.val / 4) + j.val, by have := c.isLt; have := j.isLt; simp only [nD] at *; omega⟩
/-- The place `k` after `c`'s own, cyclically. -/
def jk (c : Dev nD) (k : Fin 4) : Fin 4 := ⟨(c.val % 4 + k.val) % 4, Nat.mod_lt _ (by decide)⟩

theorem zv_gdev (c : Dev nD) (j : Fin 4) : zv (gdev c j) = j := by revert c j; decide
theorem gdev_gdev (c : Dev nD) (i j : Fin 4) : gdev (gdev c i) j = gdev c j := by revert c i j; decide
theorem gdev_zv (c : Dev nD) : gdev c (zv c) = c := by revert c; decide
theorem jk_ne (c : Dev nD) {k : Fin 4} (h : k ≠ 0) : jk c k ≠ zv c := by revert c k; decide
theorem jk_zero (c : Dev nD) : jk c 0 = zv c := by revert c; decide

/-- The kernel's device chains name the device at the next place but `k`. -/
theorem dev1_eq (c : Dev nD) : (⟨k0_dev1 c, k0_dev1_lt c⟩ : Dev nD) = gdev c (jk c 1) := by revert c; decide +kernel
theorem dev2_eq (c : Dev nD) : (⟨k0_dev2 c, k0_dev2_lt c⟩ : Dev nD) = gdev c (jk c 2) := by revert c; decide +kernel
theorem dev3_eq (c : Dev nD) : (⟨k0_dev3 c, k0_dev3_lt c⟩ : Dev nD) = gdev c (jk c 3) := by revert c; decide +kernel
theorem dev4_eq (c : Dev nD) : (⟨k0_dev4 c, k0_dev4_lt c⟩ : Dev nD) = gdev c (jk c 1) := by revert c; decide +kernel
theorem dev5_eq (c : Dev nD) : (⟨k0_dev5 c, k0_dev5_lt c⟩ : Dev nD) = gdev c (jk c 1) := by revert c; decide +kernel
theorem dev6_eq (c : Dev nD) : (⟨k0_dev6 c, k0_dev6_lt c⟩ : Dev nD) = gdev c (jk c 2) := by revert c; decide +kernel
theorem dev7_eq (c : Dev nD) : (⟨k0_dev7 c, k0_dev7_lt c⟩ : Dev nD) = gdev c (jk c 2) := by revert c; decide +kernel
theorem dev8_eq (c : Dev nD) : (⟨k0_dev8 c, k0_dev8_lt c⟩ : Dev nD) = gdev c (jk c 3) := by revert c; decide +kernel
theorem dev9_eq (c : Dev nD) : (⟨k0_dev9 c, k0_dev9_lt c⟩ : Dev nD) = gdev c (jk c 3) := by revert c; decide +kernel
theorem dev10_eq (c : Dev nD) : (⟨k0_dev10 c, k0_dev10_lt c⟩ : Dev nD) = gdev c (jk c 1) := by revert c; decide +kernel
theorem dev11_eq (c : Dev nD) : (⟨k0_dev11 c, k0_dev11_lt c⟩ : Dev nD) = gdev c (jk c 2) := by revert c; decide +kernel
theorem dev12_eq (c : Dev nD) : (⟨k0_dev12 c, k0_dev12_lt c⟩ : Dev nD) = gdev c (jk c 3) := by revert c; decide +kernel
theorem dev13_eq (c : Dev nD) : (⟨k0_dev13 c, k0_dev13_lt c⟩ : Dev nD) = gdev c (jk c 1) := by revert c; decide +kernel
theorem dev14_eq (c : Dev nD) : (⟨k0_dev14 c, k0_dev14_lt c⟩ : Dev nD) = gdev c (jk c 2) := by revert c; decide +kernel
theorem dev15_eq (c : Dev nD) : (⟨k0_dev15 c, k0_dev15_lt c⟩ : Dev nD) = gdev c (jk c 3) := by revert c; decide +kernel
theorem dev16_eq (c : Dev nD) : (⟨k0_dev16 c, k0_dev16_lt c⟩ : Dev nD) = gdev c (jk c 1) := by revert c; decide +kernel
theorem dev17_eq (c : Dev nD) : (⟨k0_dev17 c, k0_dev17_lt c⟩ : Dev nD) = gdev c (jk c 2) := by revert c; decide +kernel
theorem dev18_eq (c : Dev nD) : (⟨k0_dev18 c, k0_dev18_lt c⟩ : Dev nD) = gdev c (jk c 3) := by revert c; decide +kernel

/-- The word the program passes for the cyclic distance `k`. -/
abbrev kw (r : Fin 3) : BitVec 32 := BitVec.ofNat 32 (1 + r.val)
/-- The same distance as an element of `Fin 4`. -/
abbrev kf (r : Fin 3) : Fin 4 := r.succ

theorem off5_eq : ∀ (c : Dev nD) (r : Fin 3), k0_off5 c (kw r) = ![1, (jk c (kf r)).val] := by decide +kernel
theorem off8_eq : ∀ (c : Dev nD) (r : Fin 3), k0_off8 c (kw r) = ![0, 512 * (jk c (kf r)).val] := by decide +kernel
theorem off9_eq : ∀ (c : Dev nD) (r : Fin 3), k0_off9 c (kw r) = ![2, (jk c (kf r)).val] := by decide +kernel
theorem off12_eq : ∀ (c : Dev nD) (r : Fin 3), k0_off12 c (kw r) = ![0, (jk c (kf r)).val] := by decide +kernel
theorem off15_eq : ∀ (c : Dev nD) (r : Fin 3), k0_off15 c (kw r) = ![(jk c (kf r)).val, 0, 0] := by decide +kernel
theorem off16_eq : ∀ (c : Dev nD) (r : Fin 3), k0_off16 c (kw r) = ![(jk c (kf r)).val, 0, 0] := by decide +kernel
theorem off17_eq : ∀ (c : Dev nD) (r : Fin 3), k0_off17 c (kw r) = ![(jk c (kf r)).val, 0, 0] := by decide +kernel
theorem off18_eq : ∀ (c : Dev nD) (r : Fin 3), k0_off18 c (kw r) = ![(jk c (kf r)).val, 0, 0] := by decide +kernel
theorem off21_eq : ∀ (c : Dev nD) (r : Fin 3), k0_off21 c (kw r) = ![3, (jk c (kf r)).val] := by decide +kernel
theorem off26_eq : ∀ (c : Dev nD) (r : Fin 3), k0_off26 c (kw r) = ![4, (jk c (kf r)).val] := by decide +kernel
theorem off33_eq : ∀ (c : Dev nD) (r : Fin 3), k0_off33 c (kw r) = ![(jk c (kf r)).val, 0, 0, 0] := by decide +kernel
theorem off34_eq : ∀ (c : Dev nD) (r : Fin 3), k0_off34 c (kw r) = ![(jk c (kf r)).val, 0, 0, 0] := by decide +kernel
theorem off35_eq : ∀ (c : Dev nD) (r : Fin 3), k0_off35 c (kw r) = ![(jk c (kf r)).val, 1, 0, 0] := by decide +kernel
theorem off36_eq : ∀ (c : Dev nD) (r : Fin 3), k0_off36 c (kw r) = ![(jk c (kf r)).val, 1, 0, 0] := by decide +kernel

theorem off31_eq : ∀ (c : Dev nD) (r : Fin 3) (h : Fin 2), k0_off31 c (kw r) (BitVec.ofNat 32 (256 * h.val)) = ![512 * (jk c (kf r)).val + 256 * h.val, 0] := by decide +kernel

/-! ## Semaphores -/

/-- The runtime's barrier semaphore. -/
abbrev barS : Sem sig := (SemArray.scalar (sig.barrier 0 rfl) : Sems sig S_).sem
/-- The send and the receive semaphore of array `t` and place `j`. -/
def sndS (t : Fin 5) (j : Fin 4) : DmaSem sig := ⟨6 + 4 * t.val + j.val, by have := t.isLt; have := j.isLt; show _ < 50; omega⟩
def rcvS (t : Fin 5) (j : Fin 4) : DmaSem sig := ⟨26 + 4 * t.val + j.val, by have := t.isLt; have := j.isLt; show _ < 50; omega⟩
/-- The semaphores of the local copies. -/
def cpyS (i : Fin 4) : DmaSem sig := ⟨46 + i.val, by have := i.isLt; show _ < 50; omega⟩

theorem inb_tj : ∀ (t : Fin 5) (j : Fin 4), ∀ a, (![t.val, j.val] : Fin 2 → ℕ) a + S1x1.size a ≤ S5x4.size a := by decide
theorem snd_sem_at : ∀ (t : Fin 5) (j : Fin 4),
    ((cc0_scratch13.slice (Rect.unit (s := S5x4) ![t.val, j.val] S1x1.size (inb_tj t j))).squeeze S_ squeezes_S1x1_S_).sem = sndS t j := by decide +kernel
theorem rcv_sem_at : ∀ (t : Fin 5) (j : Fin 4),
    ((cc0_scratch14.slice (Rect.unit (s := S5x4) ![t.val, j.val] S1x1.size (inb_tj t j))).squeeze S_ squeezes_S1x1_S_).sem = rcvS t j := by decide +kernel
theorem snd_sem (t : Fin 5) (j : Fin 4) {off : Fin 2 → ℕ} (h : off = ![t.val, j.val]) (inb : ∀ a, off a + S1x1.size a ≤ S5x4.size a) :
    ((cc0_scratch13.slice (Rect.unit (s := S5x4) off S1x1.size inb)).squeeze S_ squeezes_S1x1_S_).sem = sndS t j := by
  subst h; exact snd_sem_at t j
theorem rcv_sem (t : Fin 5) (j : Fin 4) {off : Fin 2 → ℕ} (h : off = ![t.val, j.val]) (inb : ∀ a, off a + S1x1.size a ≤ S5x4.size a) :
    ((cc0_scratch14.slice (Rect.unit (s := S5x4) off S1x1.size inb)).squeeze S_ squeezes_S1x1_S_).sem = rcvS t j := by
  subst h; exact rcv_sem_at t j
theorem cpy_sem0 : ((cc0_scratch15.slice (Rect.unit (s := S4) ![0] S1.size inb_S4_S1_0)).squeeze S_ squeezes_S1_S_).sem = cpyS 0 := by decide +kernel
theorem cpy_sem1 : ((cc0_scratch15.slice (Rect.unit (s := S4) ![1] S1.size inb_S4_S1_1)).squeeze S_ squeezes_S1_S_).sem = cpyS 1 := by decide +kernel
theorem cpy_sem2 : ((cc0_scratch15.slice (Rect.unit (s := S4) ![2] S1.size inb_S4_S1_2)).squeeze S_ squeezes_S1_S_).sem = cpyS 2 := by decide +kernel
theorem cpy_sem3 : ((cc0_scratch15.slice (Rect.unit (s := S4) ![3] S1.size inb_S4_S1_3)).squeeze S_ squeezes_S1_S_).sem = cpyS 3 := by decide +kernel

/-- The cells of one device that the protocol uses: the barrier's, and per array `t` and place `j` a send and a receive cell. -/
abbrev CI : Type := Option (Bool × Fin 5 × Fin 4)
/-- Their semaphores: `some (false, t, j)` is the send, `some (true, t, j)` the receive semaphore. -/
def csem : CI → SemLoc sig
  | none => .reg barS
  | some (false, t, j) => .dma (sndS t j)
  | some (true, t, j) => .dma (rcvS t j)
/-- The cell a semaphore is, if it is one of these. -/
def deco : SemLoc sig → Option CI
  | .reg s => if s = barS then some none else none
  | .dma s => if h : 6 ≤ s.val ∧ s.val < 46 then
      some (some (decide (26 ≤ s.val), ⟨((s.val - 6) / 4) % 5, Nat.mod_lt _ (by decide)⟩, ⟨(s.val - 6) % 4, Nat.mod_lt _ (by decide)⟩)) else none

theorem deco_csem (i : CI) : deco (csem i) = some i := by
  rcases i with _ | ⟨b, t, j⟩
  · decide
  · revert b t j; decide +kernel
theorem csem_injective : Function.Injective csem := fun i j h => by
  have := congrArg deco h; rwa [deco_csem, deco_csem, Option.some.injEq] at this

/-- The cell `i` of device `c`. -/
abbrev kcell (c : Dev nD) (i : CI) : GSem nD τ sig := ((c : Thread nD τ), csem i)
abbrev barCell (c : Dev nD) : GSem nD τ sig := kcell c none
abbrev sCell (c : Dev nD) (t : Fin 5) (j : Fin 4) : GSem nD τ sig := kcell c (some (false, t, j))
abbrev rCell (c : Dev nD) (t : Fin 5) (j : Fin 4) : GSem nD τ sig := kcell c (some (true, t, j))

theorem kcell_inj {c c' : Dev nD} {i i' : CI} (h : kcell c i = kcell c' i') : c = c' ∧ i = i' := by
  refine ⟨congrArg (fun g => g.1.1) h, csem_injective (congrArg Prod.snd h)⟩

/-! ## The parts' arguments -/

end Cert.KProof
-- ==== Proof.Contents.lean ====
/-
  What the kernel's buffers hold, as functions of the launch memory, and which elements each transfer, load and
  store touches. A gathered buffer is split by the place its slot belongs to.
-/
module

public import proofs.«01_k».proof.Proof.Setup

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]
variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Staged inputs and what is computed from them -/

def stg0 (c : Dev nD) : Vec F S1x1024x2048 .f32 := (win0_0.blk (0 : Fin 1)).view.read (Elt F) (m ((c : Thread nD τ).loc main_arg0))
def stg1 (c : Dev nD) : Vec F S2048x128 .f32 := (win0_1.blk (0 : Fin 1)).view.read (Elt F) (m ((c : Thread nD τ).loc main_arg1))
def stg2 (c : Dev nD) : Vec F S128x2048 .f32 := (win0_2.blk (0 : Fin 1)).view.read (Elt F) (m ((c : Thread nD τ).loc main_arg2))
def stg3 (c : Dev nD) : Vec F S128x2048 .f32 := (win0_3.blk (0 : Fin 1)).view.read (Elt F) (m ((c : Thread nD τ).loc main_arg3))
def stg4 (c : Dev nD) : Vec F S2048x32 .f32 := (win0_4.blk (0 : Fin 1)).view.read (Elt F) (m ((c : Thread nD τ).loc main_arg6))
/-- The query weights, their rotary part and the output weights, where the launch left them. -/
def wqM (c : Dev nD) : Vec F S2048x2048 .f32 := m ((c : Thread nD τ).loc main_arg4)
def wqrM (c : Dev nD) : Vec F S2048x512 .f32 := m ((c : Thread nD τ).loc main_arg5)
def woM (c : Dev nD) : Vec F S2048x2048 .f32 := m ((c : Thread nD τ).loc main_arg7)

/-- The activations, and the two up-projections' rows of this device, narrowed. -/
def xV (c : Dev nD) : FVec F S1024x2048 .bf16 := k0_pay1 (stg0 m c)
def wukB (c : Dev nD) : Vec F S128x2048 .bf16 := k0_pay2 (stg2 m c)
def wuvB (c : Dev nD) : Vec F S128x2048 .bf16 := k0_pay4 (k0_pay3 (stg3 m c))
/-- This device's block of the compressed activations. -/
def cB (c : Dev nD) : Vec F S1x1024x128 .bf16 := k0_pay7 (xV m c) (stg1 m c)

/-- The gathered buffers: slot `j` is place `j`'s. -/
def GC (c : Dev nD) : Vec F S4x1024x128 .bf16 := fun i => cB m (gdev c (i 0)) (ix3 (0 : Fin 1) (i 1 : Fin 1024) (i 2 : Fin 128))
/-- Column `q` of place `z`'s 512 columns. -/
def colZ (z : Fin 4) (q : Fin 512) : Fin 2048 := ⟨512 * z.val + q.val, by have := z.isLt; have := q.isLt; omega⟩
def GUK (c : Dev nD) : Vec F S4x128x512 .bf16 := fun i => wukB m (gdev c (i 0)) (ix2 (i 1 : Fin 128) (colZ (zv c) (i 2)))
def GUV (c : Dev nD) : Vec F S4x128x512 .bf16 := fun i => wuvB m (gdev c (i 0)) (ix2 (i 1 : Fin 128) (colZ (zv c) (i 2)))

/-- The device's columns of the query weights and of their rotary part. -/
def wqF (c : Dev nD) : Vec F S2048x512 .f32 := fun i => wqM m c (ix2 (i 0 : Fin 2048) (colZ (zv c) (i 1)))
def wqrF (c : Dev nD) : Vec F S2048x128 .f32 := fun i => wqrM m c (ix2 (i 0 : Fin 2048)
  (⟨128 * (zv c).val + (i 1).val, by have h1 := (zv c).isLt; have h2 : (i 1).val < 128 := (i 1).isLt; omega⟩ : Fin 512))
/-- Half `h` of place `j`'s rows of the output weights. -/
def woB (c : Dev nD) (j : Fin 4) (h : Fin 2) : Vec F S1x256x2048 .f32 := fun i => woM m c (ix2
  (⟨512 * j.val + 256 * h.val + (i 1).val, by have h1 := j.isLt; have h2 := h.isLt; have h3 : (i 1).val < 256 := (i 1).isLt; omega⟩ : Fin 2048) (i 2 : Fin 2048))

def qS (c : Dev nD) : Vec F S1024x512 .bf16 := k0_pay9 (k0_pay8 (xV m c) (wqF m c))
def qrS (c : Dev nD) : Vec F S1024x128 .bf16 := k0_pay10 (xV m c) (wqrF m c)
def krV (c : Dev nD) : FVec F S1024x32 .bf16 := k0_pay11 (xV m c) (stg4 m c)

/-- Slot `j` of a gathered buffer as a load returns it. -/
def slC (G : Vec F S4x1024x128 .bf16) (j : Fin 4) : Vec F S1x1024x128 .bf16 := fun x => G (ix3 j (x 1 : Fin 1024) (x 2 : Fin 128))
def slU (G : Vec F S4x128x512 .bf16) (j : Fin 4) : Vec F S1x128x512 .bf16 := fun x => G (ix3 j (x 1 : Fin 128) (x 2 : Fin 512))
def slO (G : Vec F S4x2x1024x256 .bf16) (j : Fin 4) (h : Fin 2) : Vec F S1x1x1024x256 .bf16 := fun x => G (ix4 j h (x 2 : Fin 1024) (x 3 : Fin 256))
/-- Head `h`'s columns. -/
def colH (a : Vec F S1024x512 .bf16) (h : Fin 4) : Vec F S1024x128 .bf16 := fun x => a (ix2 (x 0 : Fin 1024)
  (⟨128 * h.val + (x 1).val, by have h1 := h.isLt; have h3 : (x 1).val < 128 := (x 1).isLt; omega⟩ : Fin 512))
def colR (a : Vec F S1024x128 .bf16) (h : Fin 4) : Vec F S1024x32 .bf16 := fun x => a (ix2 (x 0 : Fin 1024)
  (⟨32 * h.val + (x 1).val, by have h1 := h.isLt; have h3 : (x 1).val < 32 := (x 1).isLt; omega⟩ : Fin 128))

/-- The keys and the values of this device's heads, place after place in the order they arrive. -/
def kA0 (c : Dev nD) : FVec F S1024x512 .f32 := k0_pay12 (slC (GC m c) (zv c)) (slU (GUK m c) (zv c))
def vA0 (c : Dev nD) : FVec F S1024x512 .f32 := k0_pay13 (slC (GC m c) (zv c)) (slU (GUV m c) (zv c))
def kA1 (c : Dev nD) : FVec F S1024x512 .f32 := k0_pay14 (kA0 m c) (slC (GC m c) (jk c 1)) (slU (GUK m c) (jk c 1))
def vA1 (c : Dev nD) : FVec F S1024x512 .f32 := k0_pay15 (vA0 m c) (slC (GC m c) (jk c 1)) (slU (GUV m c) (jk c 1))
def kA2 (c : Dev nD) : FVec F S1024x512 .f32 := k0_pay16 (kA1 m c) (slC (GC m c) (jk c 2)) (slU (GUK m c) (jk c 2))
def vA2 (c : Dev nD) : FVec F S1024x512 .f32 := k0_pay17 (vA1 m c) (slC (GC m c) (jk c 2)) (slU (GUV m c) (jk c 2))
def kS (c : Dev nD) : FVec F S1024x512 .bf16 := k0_pay18 (kA2 m c) (slC (GC m c) (jk c 3)) (slU (GUK m c) (jk c 3))
def vS (c : Dev nD) : FVec F S1024x512 .bf16 := k0_pay19 (vA2 m c) (slC (GC m c) (jk c 3)) (slU (GUV m c) (jk c 3))

/-- The attention output of head `h` of this device. -/
def hd0 (c : Dev nD) : FVec F S1x1x1024x128 .bf16 := k0_pay20 (krV m c) (colH (qS m c) 0) (colR (qrS m c) 0) (colH (kS m c) 0)
  (constant S1024x1024 .f32 0x00000000#32) (colH (vS m c) 0)
def hd1 (c : Dev nD) : FVec F S1x1x1024x128 .bf16 := k0_pay21 (krV m c) (colH (qS m c) 1) (colR (qrS m c) 1) (colH (kS m c) 1) (colH (vS m c) 1)
def hd2 (c : Dev nD) : FVec F S1x1x1024x128 .bf16 := k0_pay22 (krV m c) (colH (qS m c) 2) (colR (qrS m c) 2) (colH (kS m c) 2) (colH (vS m c) 2)
def hd3 (c : Dev nD) : FVec F S1x1x1024x128 .bf16 := k0_pay23 (krV m c) (colH (qS m c) 3) (colR (qrS m c) 3) (colH (kS m c) 3)
  (constant S1024x1024 .f32 0x00000000#32) (colH (vS m c) 3)
/-- By half and by the head within the half. -/
def hdAt (c : Dev nD) (h : Fin 2) (s : Fin 2) : FVec F S1x1x1024x128 .bf16 :=
  if h = 0 then (if s = 0 then hd0 m c else hd1 m c) else (if s = 0 then hd2 m c else hd3 m c)
/-- The gathered attention outputs. -/
def OS (c : Dev nD) : Vec F S4x2x1024x256 .bf16 := fun i => hdAt m (gdev c (i 0)) (i 1)
  (⟨(i 3).val / 128, by have h : (i 3).val < 256 := (i 3).isLt; omega⟩ : Fin 2)
  (ix4 (0 : Fin 1) (0 : Fin 1) (i 2 : Fin 1024) (⟨(i 3).val % 128, Nat.mod_lt _ (by decide)⟩ : Fin 128))

/-- The output after each of the eight blocks. -/
def oA0 (c : Dev nD) : FVec F S1024x2048 .f32 := k0_pay24 (slO (OS m c) (zv c) 0) (woB m c (zv c) 0)
def oA1 (c : Dev nD) : FVec F S1024x2048 .f32 := k0_pay25 (slO (OS m c) (zv c) 1) (woB m c (zv c) 1) (oA0 m c)
def oA2 (c : Dev nD) : FVec F S1024x2048 .f32 := k0_pay26 (slO (OS m c) (jk c 1) 0) (woB m c (jk c 1) 0) (oA1 m c)
def oA3 (c : Dev nD) : FVec F S1024x2048 .f32 := k0_pay28 (k0_pay27 (slO (OS m c) (jk c 1) 1) (woB m c (jk c 1) 1)) (oA2 m c)
def oA4 (c : Dev nD) : FVec F S1024x2048 .f32 := k0_pay31 (k0_pay29 (slO (OS m c) (jk c 2) 0)) (k0_pay30 (woB m c (jk c 2) 0))
  (constant S1024x2048 .f32 0x00000000#32) (oA3 m c)
def oA5 (c : Dev nD) : FVec F S1024x2048 .f32 := k0_pay32 (slO (OS m c) (jk c 2) 1) (woB m c (jk c 2) 1) (oA4 m c)
def oA6 (c : Dev nD) : FVec F S1024x2048 .f32 := k0_pay33 (slO (OS m c) (jk c 3) 0) (woB m c (jk c 3) 0) (oA5 m c)
/-- The kernel's result on device `c`. -/
def oA7 (c : Dev nD) : FVec F S1024x2048 .f32 := k0_pay34 (slO (OS m c) (jk c 3) 1) (woB m c (jk c 3) 1) (oA6 m c)

/-- What is gathered is the same on the whole group. -/
theorem GC_gdev (c : Dev nD) (j : Fin 4) : GC m (gdev c j) = GC m c := by
  funext i; exact congrArg (fun d => cB m d (ix3 (0 : Fin 1) (i 1 : Fin 1024) (i 2 : Fin 128))) (gdev_gdev c j (i 0))
theorem OS_gdev (c : Dev nD) (j : Fin 4) : OS m (gdev c j) = OS m c := by
  funext i
  exact congrArg (fun d => hdAt m d (i 1) (⟨(i 3).val / 128, by have h : (i 3).val < 256 := (i 3).isLt; omega⟩ : Fin 2)
    (ix4 (0 : Fin 1) (0 : Fin 1) (i 2 : Fin 1024) (⟨(i 3).val % 128, Nat.mod_lt _ (by decide)⟩ : Fin 128))) (gdev_gdev c j (i 0))

/-! ## The slots' elements -/

def gcSet (j : Fin 4) : Finset S4x1024x128.Idx := Finset.univ.filter fun i => (i 0).val = j.val
def guSet (j : Fin 4) : Finset S4x128x512.Idx := Finset.univ.filter fun i => (i 0).val = j.val
def osSet (j : Fin 4) (h : Fin 2) : Finset S4x2x1024x256.Idx := Finset.univ.filter fun i => (i 0).val = j.val ∧ (i 1).val = h.val
def ohSet (j : Fin 4) (h s : Fin 2) : Finset S4x2x1024x256.Idx :=
  Finset.univ.filter fun i => (i 0).val = j.val ∧ (i 1).val = h.val ∧ (i 3).val / 128 = s.val
def wkSet (j : Fin 4) : Finset S128x2048.Idx := Finset.univ.filter fun i => (i 1).val / 512 = j.val
def wfSet (s : Fin 2) : Finset S2x256x2048.Idx := Finset.univ.filter fun i => (i 0).val = s.val

section Sets

theorem mem_unit2 {a b : ℕ} {off size : Fin 2 → ℕ} {inb} (i : (⟨2, ![a, b]⟩ : Shape).Idx) :
    i ∈ (Rect.unit (s := ⟨2, ![a, b]⟩) off size inb).set ↔ (off 0 ≤ (i 0).val ∧ (i 0).val < off 0 + size 0) ∧
      (off 1 ≤ (i 1).val ∧ (i 1).val < off 1 + size 1) := by
  rw [Rect.mem_set_unit]
  exact ⟨fun h => ⟨h 0, h 1⟩, fun h a => by fin_cases a; exacts [h.1, h.2]⟩
theorem mem_unit3 {a b d : ℕ} {off size : Fin 3 → ℕ} {inb} (i : (⟨3, ![a, b, d]⟩ : Shape).Idx) :
    i ∈ (Rect.unit (s := ⟨3, ![a, b, d]⟩) off size inb).set ↔ (off 0 ≤ (i 0).val ∧ (i 0).val < off 0 + size 0) ∧
      (off 1 ≤ (i 1).val ∧ (i 1).val < off 1 + size 1) ∧ (off 2 ≤ (i 2).val ∧ (i 2).val < off 2 + size 2) := by
  rw [Rect.mem_set_unit]
  exact ⟨fun h => ⟨h 0, h 1, h 2⟩, fun h a => by fin_cases a; exacts [h.1, h.2.1, h.2.2]⟩
theorem mem_unit4 {a b d e : ℕ} {off size : Fin 4 → ℕ} {inb} (i : (⟨4, ![a, b, d, e]⟩ : Shape).Idx) :
    i ∈ (Rect.unit (s := ⟨4, ![a, b, d, e]⟩) off size inb).set ↔ (off 0 ≤ (i 0).val ∧ (i 0).val < off 0 + size 0) ∧
      (off 1 ≤ (i 1).val ∧ (i 1).val < off 1 + size 1) ∧ (off 2 ≤ (i 2).val ∧ (i 2).val < off 2 + size 2) ∧
      (off 3 ≤ (i 3).val ∧ (i 3).val < off 3 + size 3) := by
  rw [Rect.mem_set_unit]
  exact ⟨fun h => ⟨h 0, h 1, h 2, h 3⟩, fun h a => by fin_cases a; exacts [h.1, h.2.1, h.2.2.1, h.2.2.2]⟩

theorem rect_gc (j : Fin 4) {off : Fin 3 → ℕ} (h : off = ![j.val, 0, 0]) (inb) :
    (Rect.unit (s := S4x1024x128) off S1x1024x128.size inb).set = gcSet j := by
  subst h; ext i
  have h0 : (i 0).val < 4 := (i 0).isLt
  have h1 : (i 1).val < 1024 := (i 1).isLt
  have h2 : (i 2).val < 128 := (i 2).isLt
  rw [mem_unit3, gcSet, Finset.mem_filter]
  show (j.val ≤ (i 0).val ∧ (i 0).val < j.val + 1) ∧ (0 ≤ (i 1).val ∧ (i 1).val < 0 + 1024) ∧ (0 ≤ (i 2).val ∧ (i 2).val < 0 + 128) ↔ _ ∧ (i 0).val = j.val
  have := Finset.mem_univ i
  constructor
  · intro h; exact ⟨this, by omega⟩
  · rintro ⟨-, h⟩; omega
theorem rect_gu (j : Fin 4) {off : Fin 3 → ℕ} (h : off = ![j.val, 0, 0]) (inb) :
    (Rect.unit (s := S4x128x512) off S1x128x512.size inb).set = guSet j := by
  subst h; ext i
  have h0 : (i 0).val < 4 := (i 0).isLt
  have h1 : (i 1).val < 128 := (i 1).isLt
  have h2 : (i 2).val < 512 := (i 2).isLt
  rw [mem_unit3, guSet, Finset.mem_filter]
  show (j.val ≤ (i 0).val ∧ (i 0).val < j.val + 1) ∧ (0 ≤ (i 1).val ∧ (i 1).val < 0 + 128) ∧ (0 ≤ (i 2).val ∧ (i 2).val < 0 + 512) ↔ _ ∧ (i 0).val = j.val
  have := Finset.mem_univ i
  constructor
  · intro h; exact ⟨this, by omega⟩
  · rintro ⟨-, h⟩; omega
theorem rect_os (j : Fin 4) (e : Fin 2) {off : Fin 4 → ℕ} (h : off = ![j.val, e.val, 0, 0]) (inb) :
    (Rect.unit (s := S4x2x1024x256) off S1x1x1024x256.size inb).set = osSet j e := by
  subst h; ext i
  have h2 : (i 2).val < 1024 := (i 2).isLt
  have h3 : (i 3).val < 256 := (i 3).isLt
  rw [mem_unit4, osSet, Finset.mem_filter]
  show (j.val ≤ (i 0).val ∧ (i 0).val < j.val + 1) ∧ (e.val ≤ (i 1).val ∧ (i 1).val < e.val + 1) ∧ (0 ≤ (i 2).val ∧ (i 2).val < 0 + 1024) ∧
    (0 ≤ (i 3).val ∧ (i 3).val < 0 + 256) ↔ _ ∧ (i 0).val = j.val ∧ (i 1).val = e.val
  have := Finset.mem_univ i
  constructor
  · intro h; exact ⟨this, by omega⟩
  · rintro ⟨-, h⟩; omega
theorem rect_oh (j : Fin 4) (e s : Fin 2) {off : Fin 4 → ℕ} (h : off = ![j.val, e.val, 0, 128 * s.val]) (inb) :
    (Rect.unit (s := S4x2x1024x256) off S1x1x1024x128.size inb).set = ohSet j e s := by
  subst h; ext i
  have h2 : (i 2).val < 1024 := (i 2).isLt
  have h3 : (i 3).val < 256 := (i 3).isLt
  have hs := s.isLt
  rw [mem_unit4, ohSet, Finset.mem_filter]
  show (j.val ≤ (i 0).val ∧ (i 0).val < j.val + 1) ∧ (e.val ≤ (i 1).val ∧ (i 1).val < e.val + 1) ∧ (0 ≤ (i 2).val ∧ (i 2).val < 0 + 1024) ∧
    (128 * s.val ≤ (i 3).val ∧ (i 3).val < 128 * s.val + 128) ↔ _ ∧ (i 0).val = j.val ∧ (i 1).val = e.val ∧ (i 3).val / 128 = s.val
  have := Finset.mem_univ i
  constructor
  · intro h; exact ⟨this, by omega⟩
  · rintro ⟨-, h⟩; omega
theorem rect_wk (j : Fin 4) {off : Fin 2 → ℕ} (h : off = ![0, 512 * j.val]) (inb) :
    (Rect.unit (s := S128x2048) off S128x512.size inb).set = wkSet j := by
  subst h; ext i
  have h0 : (i 0).val < 128 := (i 0).isLt
  have h1 : (i 1).val < 2048 := (i 1).isLt
  rw [mem_unit2, wkSet, Finset.mem_filter]
  show (0 ≤ (i 0).val ∧ (i 0).val < 0 + 128) ∧ (512 * j.val ≤ (i 1).val ∧ (i 1).val < 512 * j.val + 512) ↔ _ ∧ (i 1).val / 512 = j.val
  have := Finset.mem_univ i
  constructor
  · intro h; exact ⟨this, by omega⟩
  · rintro ⟨-, h⟩; omega
theorem rect_wf (s : Fin 2) {off : Fin 3 → ℕ} (h : off = ![s.val, 0, 0]) (inb) :
    (Rect.unit (s := S2x256x2048) off S1x256x2048.size inb).set = wfSet s := by
  subst h; ext i
  have h1 : (i 1).val < 256 := (i 1).isLt
  have h2 : (i 2).val < 2048 := (i 2).isLt
  rw [mem_unit3, wfSet, Finset.mem_filter]
  show (s.val ≤ (i 0).val ∧ (i 0).val < s.val + 1) ∧ (0 ≤ (i 1).val ∧ (i 1).val < 0 + 256) ∧ (0 ≤ (i 2).val ∧ (i 2).val < 0 + 2048) ↔ _ ∧ (i 0).val = s.val
  have := Finset.mem_univ i
  constructor
  · intro h; exact ⟨this, by omega⟩
  · rintro ⟨-, h⟩; omega

theorem osSet_eq (j : Fin 4) (e : Fin 2) : osSet j e = ohSet j e 0 ∪ ohSet j e 1 := by
  ext i
  have h3 : (i 3).val < 256 := (i 3).isLt
  simp only [osSet, ohSet, Finset.mem_union, Finset.mem_filter, Finset.mem_univ, true_and, Fin.val_zero, Fin.val_one]
  omega
theorem ohSet_disj (j : Fin 4) (e : Fin 2) : Disjoint (ohSet j e 0) (ohSet j e 1) := by
  rw [Finset.disjoint_left]; intro i
  simp only [ohSet, Finset.mem_filter, Finset.mem_univ, true_and, Fin.val_zero, Fin.val_one]
  omega

/-- The slots make up each buffer. -/
theorem gcSet_cover : (Finset.univ : Finset (Fin 4)).biUnion gcSet = Finset.univ := by
  ext i
  simp only [gcSet, Finset.mem_biUnion, Finset.mem_filter, Finset.mem_univ, true_and, iff_true]
  exact ⟨i 0, rfl⟩
theorem guSet_cover : (Finset.univ : Finset (Fin 4)).biUnion guSet = Finset.univ := by
  ext i
  simp only [guSet, Finset.mem_biUnion, Finset.mem_filter, Finset.mem_univ, true_and, iff_true]
  exact ⟨i 0, rfl⟩
theorem osSet_cover : (Finset.univ : Finset (Fin 4 × Fin 2)).biUnion (fun p => osSet p.1 p.2) = Finset.univ := by
  ext i
  simp only [osSet, Finset.mem_biUnion, Finset.mem_filter, Finset.mem_univ, true_and, iff_true]
  exact ⟨(i 0, i 1), rfl, rfl⟩
theorem wkSet_cover : (Finset.univ : Finset (Fin 4)).biUnion wkSet = Finset.univ := by
  ext i
  have h1 : (i 1).val < 2048 := (i 1).isLt
  simp only [wkSet, Finset.mem_biUnion, Finset.mem_filter, Finset.mem_univ, true_and, iff_true]
  exact ⟨⟨(i 1).val / 512, by omega⟩, rfl⟩
theorem wfSet_cover : (Finset.univ : Finset (Fin 2)).biUnion wfSet = Finset.univ := by
  ext i
  simp only [wfSet, Finset.mem_biUnion, Finset.mem_filter, Finset.mem_univ, true_and, iff_true]
  exact ⟨i 0, rfl⟩
theorem gcSet_disj {i j : Fin 4} (h : i ≠ j) : Disjoint (gcSet i) (gcSet j) := by
  rw [Finset.disjoint_left]; intro x
  simp only [gcSet, Finset.mem_filter, Finset.mem_univ, true_and]
  exact fun h1 h2 => h (Fin.ext (h1.symm.trans h2))
theorem guSet_disj {i j : Fin 4} (h : i ≠ j) : Disjoint (guSet i) (guSet j) := by
  rw [Finset.disjoint_left]; intro x
  simp only [guSet, Finset.mem_filter, Finset.mem_univ, true_and]
  exact fun h1 h2 => h (Fin.ext (h1.symm.trans h2))
theorem osSet_disj {i j : Fin 4 × Fin 2} (h : i ≠ j) : Disjoint (osSet i.1 i.2) (osSet j.1 j.2) := by
  rw [Finset.disjoint_left]; intro x
  simp only [osSet, Finset.mem_filter, Finset.mem_univ, true_and]
  exact fun h1 h2 => h (Prod.ext (Fin.ext (h1.1.symm.trans h2.1)) (Fin.ext (h1.2.symm.trans h2.2)))
theorem wkSet_disj {i j : Fin 4} (h : i ≠ j) : Disjoint (wkSet i) (wkSet j) := by
  rw [Finset.disjoint_left]; intro x
  simp only [wkSet, Finset.mem_filter, Finset.mem_univ, true_and]
  exact fun h1 h2 => h (Fin.ext (h1.symm.trans h2))
theorem wfSet_disj {i j : Fin 2} (h : i ≠ j) : Disjoint (wfSet i) (wfSet j) := by
  rw [Finset.disjoint_left]; intro x
  simp only [wfSet, Finset.mem_filter, Finset.mem_univ, true_and]
  exact fun h1 h2 => h (Fin.ext (h1.symm.trans h2))

end Sets

/-! ## What a view of a whole buffer reads, and what a write leaves -/

section Views

omit [FloatOps F] in
/-- A write that gives every element of the view the value `G` has there leaves `G` on the view. -/
theorem write_eq_on {κ : Kind} {sp : Space} {s : Shape} {e : EltTy} (v : View sig κ sp s e) (f G : v.ty.Contents (Elt F)) (w : s.Idx → Elt F e)
    (h : w = v.read (Elt F) G) : ∀ i ∈ v.set, v.write (Elt F) f w Finset.univ i = G i := by
  intro i hi
  obtain ⟨x, -, rfl⟩ := Finset.mem_map.mp hi
  rw [View.write_emb_of_mem _ _ (Finset.mem_univ _), h, View.read_apply, cast_cast, cast_eq]

theorem set_whole_slice (b : Ref sig .tc) (r : Rect b.ty.shape) : ((View.whole b).slice r).set = r.set := View.set_slice_whole _ _

omit [FloatOps F] in
/-- A load's value at a rectangle of a whole buffer. -/
theorem ld_apply (b : Ref sig .tc) (off size : Fin b.ty.shape.rank → ℕ) (inb) (G : b.ty.Contents (Elt F)) (x) :
    (View.whole b).readAt (Elt F) (Rect.unit off size inb).toLoadRect G x = G ((Rect.unit off size inb).emb x) := rfl

omit [FloatOps F] in
theorem ld_gc (j : Fin 4) {off : Fin 3 → ℕ} (h : off = ![j.val, 0, 0]) (inb) (G : Vec F S4x1024x128 .bf16) :
    (Memref.whole cc0_scratch0).view.readAt (Elt F) (Rect.unit (s := S4x1024x128) off S1x1024x128.size inb).toLoadRect G = slC G j := by
  subst h; funext x
  refine congrArg G (funext fun a => Fin.ext ?_)
  fin_cases a
  · show j.val + 1 * (x 0).val = j.val
    have : (x 0).val < 1 := (x 0).isLt
    omega
  · show 0 + 1 * (x 1).val = (x 1).val; omega
  · show 0 + 1 * (x 2).val = (x 2).val; omega

omit [FloatOps F] in
theorem ld_guk (j : Fin 4) {off : Fin 3 → ℕ} (h : off = ![j.val, 0, 0]) (inb) (G : Vec F S4x128x512 .bf16) :
    (Memref.whole cc0_scratch1).view.readAt (Elt F) (Rect.unit (s := S4x128x512) off S1x128x512.size inb).toLoadRect G = slU G j := by
  subst h; funext x
  refine congrArg G (funext fun a => Fin.ext ?_)
  fin_cases a
  · show j.val + 1 * (x 0).val = j.val
    have : (x 0).val < 1 := (x 0).isLt
    omega
  · show 0 + 1 * (x 1).val = (x 1).val; omega
  · show 0 + 1 * (x 2).val = (x 2).val; omega
omit [FloatOps F] in
theorem ld_guv (j : Fin 4) {off : Fin 3 → ℕ} (h : off = ![j.val, 0, 0]) (inb) (G : Vec F S4x128x512 .bf16) :
    (Memref.whole cc0_scratch2).view.readAt (Elt F) (Rect.unit (s := S4x128x512) off S1x128x512.size inb).toLoadRect G = slU G j :=
  ld_guk j h inb G
omit [FloatOps F] in
theorem ld_os (j : Fin 4) (e : Fin 2) {off : Fin 4 → ℕ} (h : off = ![j.val, e.val, 0, 0]) (inb) (G : Vec F S4x2x1024x256 .bf16) :
    (Memref.whole cc0_scratch12).view.readAt (Elt F) (Rect.unit (s := S4x2x1024x256) off S1x1x1024x256.size inb).toLoadRect G = slO G j e := by
  subst h; funext x
  refine congrArg G (funext fun a => Fin.ext ?_)
  fin_cases a
  · show j.val + 1 * (x 0).val = j.val
    have : (x 0).val < 1 := (x 0).isLt
    omega
  · show e.val + 1 * (x 1).val = e.val
    have : (x 1).val < 1 := (x 1).isLt
    omega
  · show 0 + 1 * (x 2).val = (x 2).val; omega
  · show 0 + 1 * (x 3).val = (x 3).val; omega
/-- A slot of the staged output weights. -/
def wfC (w : Vec F S1x256x2048 .f32) : Vec F S2x256x2048 .f32 := fun i => w (ix3 (0 : Fin 1) (i 1 : Fin 256) (i 2 : Fin 2048))
omit [FloatOps F] in
theorem ld_wf (s : Fin 2) {off : Fin 3 → ℕ} (h : off = ![s.val, 0, 0]) (inb) (w : Vec F S1x256x2048 .f32) :
    (Memref.whole cc0_scratch7).view.readAt (Elt F) (Rect.unit (s := S2x256x2048) off S1x256x2048.size inb).toLoadRect (wfC w) = w := by
  subst h; funext x
  refine congrArg w (funext fun a => Fin.ext ?_)
  fin_cases a
  · show 0 = (x 0).val
    have : (x 0).val < 1 := (x 0).isLt
    omega
  · show 0 + 1 * (x 1).val = (x 1).val; omega
  · show 0 + 1 * (x 2).val = (x 2).val; omega
omit [FloatOps F] in
theorem ld_q (h : Fin 4) (inb) (G : Vec F S1024x512 .bf16) :
    (Memref.whole cc0_scratch8).view.readAt (Elt F) (Rect.unit (s := S1024x512) ![0, 128 * h.val] S1024x128.size inb).toLoadRect G = colH G h := by
  funext x
  refine congrArg G (funext fun a => Fin.ext ?_)
  fin_cases a
  · show 0 + 1 * (x 0).val = (x 0).val; omega
  · show 128 * h.val + 1 * (x 1).val = 128 * h.val + (x 1).val; omega
omit [FloatOps F] in
theorem ld_k (h : Fin 4) (inb) (G : Vec F S1024x512 .bf16) :
    (Memref.whole cc0_scratch10).view.readAt (Elt F) (Rect.unit (s := S1024x512) ![0, 128 * h.val] S1024x128.size inb).toLoadRect G = colH G h :=
  ld_q h inb G
omit [FloatOps F] in
theorem ld_v (h : Fin 4) (inb) (G : Vec F S1024x512 .bf16) :
    (Memref.whole cc0_scratch11).view.readAt (Elt F) (Rect.unit (s := S1024x512) ![0, 128 * h.val] S1024x128.size inb).toLoadRect G = colH G h :=
  ld_q h inb G
omit [FloatOps F] in
theorem ld_qr (h : Fin 4) (inb) (G : Vec F S1024x128 .bf16) :
    (Memref.whole cc0_scratch9).view.readAt (Elt F) (Rect.unit (s := S1024x128) ![0, 32 * h.val] S1024x32.size inb).toLoadRect G = colR G h := by
  funext x
  refine congrArg G (funext fun a => Fin.ext ?_)
  fin_cases a
  · show 0 + 1 * (x 0).val = (x 0).val; omega
  · show 32 * h.val + 1 * (x 1).val = 32 * h.val + (x 1).val; omega
omit [FloatOps F] in
/-- A device's own columns of the narrowed up-projections. -/
theorem ld_wuk (j : Fin 4) {off : Fin 2 → ℕ} (h : off = ![0, 512 * j.val]) (inb) (G : Vec F S128x2048 .bf16) :
    (Memref.whole cc0_scratch3).view.readAt (Elt F) (Rect.unit (s := S128x2048) off S128x512.size inb).toLoadRect G =
      fun x => G (ix2 (x 0 : Fin 128) (colZ j (x 1))) := by
  subst h; funext x
  refine congrArg G (funext fun a => Fin.ext ?_)
  fin_cases a
  · show 0 + 1 * (x 0).val = (x 0).val; omega
  · show 512 * j.val + 1 * (x 1).val = 512 * j.val + (x 1).val; omega
omit [FloatOps F] in
theorem ld_wuv (j : Fin 4) {off : Fin 2 → ℕ} (h : off = ![0, 512 * j.val]) (inb) (G : Vec F S128x2048 .bf16) :
    (Memref.whole cc0_scratch4).view.readAt (Elt F) (Rect.unit (s := S128x2048) off S128x512.size inb).toLoadRect G =
      fun x => G (ix2 (x 0 : Fin 128) (colZ j (x 1))) := ld_wuk j h inb G

/-! ### Stores -/

/-- After this device stores its own slots they hold what is gathered there. -/
theorem st_gc (c : Dev nD) {off : Fin 3 → ℕ} (h : off = ![(zv c).val, 0, 0]) (inb) (f : Vec F S4x1024x128 .bf16) :
    ∀ i ∈ gcSet (zv c), ((Memref.whole cc0_scratch0).access (Rect.unit (s := S4x1024x128) off S1x1024x128.size inb)).write (Elt F) f (cB m c) Finset.univ i
      = GC m c i := by
  rw [← rect_gc (zv c) h inb, ← set_whole_slice cc0_scratch0]
  refine write_eq_on (F := F) ((Memref.whole cc0_scratch0).access (Rect.unit (s := S4x1024x128) off S1x1024x128.size inb)) f (GC m c) _ ?_
  refine Eq.trans ?_ (ld_gc (zv c) h inb (GC m c)).symm
  funext x
  have hd : gdev c (zv c) = c := gdev_zv c
  show cB m c x = cB m (gdev c (zv c)) (ix3 (0 : Fin 1) (x 1 : Fin 1024) (x 2 : Fin 128))
  rw [hd]
  refine congrArg _ (funext fun a => Fin.ext ?_)
  fin_cases a
  · show (x 0).val = 0
    have : (x 0).val < 1 := (x 0).isLt
    omega
  · rfl
  · rfl
theorem st_guk (c : Dev nD) {off : Fin 3 → ℕ} (h : off = ![(zv c).val, 0, 0]) (inb) (f : Vec F S4x128x512 .bf16) :
    ∀ i ∈ guSet (zv c), ((Memref.whole cc0_scratch1).access (Rect.unit (s := S4x128x512) off S1x128x512.size inb)).write (Elt F) f
      (k0_pay5 (fun x => wukB m c (ix2 (x 0 : Fin 128) (colZ (zv c) (x 1))))) Finset.univ i = GUK m c i := by
  rw [← rect_gu (zv c) h inb, ← set_whole_slice cc0_scratch1]
  refine write_eq_on (F := F) ((Memref.whole cc0_scratch1).access (Rect.unit (s := S4x128x512) off S1x128x512.size inb)) f (GUK m c) _ ?_
  refine Eq.trans ?_ (ld_guk (zv c) h inb (GUK m c)).symm
  funext x
  have hd : gdev c (zv c) = c := gdev_zv c
  obtain ⟨u, a, b, rfl⟩ : ∃ (u : Fin 1) (a : Fin 128) (b : Fin 512), x = ix3 u a b := ⟨x 0, x 1, x 2, eq_ix3 x⟩
  refine Eq.trans (shapeCast_ab_1ab_apply (fun x : S128x512.Idx => wukB m c (ix2 (x 0 : Fin 128) (colZ (zv c) (x 1)))) shapeCasts_S128x512_S1x128x512 u a b) ?_
  show wukB m c (ix2 a (colZ (zv c) b)) = wukB m (gdev c (zv c)) (ix2 a (colZ (zv c) b))
  rw [hd]
theorem st_guv (c : Dev nD) {off : Fin 3 → ℕ} (h : off = ![(zv c).val, 0, 0]) (inb) (f : Vec F S4x128x512 .bf16) :
    ∀ i ∈ guSet (zv c), ((Memref.whole cc0_scratch2).access (Rect.unit (s := S4x128x512) off S1x128x512.size inb)).write (Elt F) f
      (k0_pay6 (fun x => wuvB m c (ix2 (x 0 : Fin 128) (colZ (zv c) (x 1))))) Finset.univ i = GUV m c i := by
  rw [← rect_gu (zv c) h inb, ← set_whole_slice cc0_scratch2]
  refine write_eq_on (F := F) ((Memref.whole cc0_scratch2).access (Rect.unit (s := S4x128x512) off S1x128x512.size inb)) f (GUV m c) _ ?_
  refine Eq.trans ?_ (ld_guv (zv c) h inb (GUV m c)).symm
  funext x
  have hd : gdev c (zv c) = c := gdev_zv c
  obtain ⟨u, a, b, rfl⟩ : ∃ (u : Fin 1) (a : Fin 128) (b : Fin 512), x = ix3 u a b := ⟨x 0, x 1, x 2, eq_ix3 x⟩
  refine Eq.trans (shapeCast_ab_1ab_apply (fun x : S128x512.Idx => wuvB m c (ix2 (x 0 : Fin 128) (colZ (zv c) (x 1)))) shapeCasts_S128x512_S1x128x512 u a b) ?_
  show wuvB m c (ix2 a (colZ (zv c) b)) = wuvB m (gdev c (zv c)) (ix2 a (colZ (zv c) b))
  rw [hd]
theorem st_os (c : Dev nD) (e s : Fin 2) {off : Fin 4 → ℕ} (h : off = ![(zv c).val, e.val, 0, 128 * s.val]) (inb) (f : Vec F S4x2x1024x256 .bf16)
    (w : Vec F S1x1x1024x128 .bf16) (hw : w = hdAt m c e s) :
    ∀ i ∈ ohSet (zv c) e s, ((Memref.whole cc0_scratch12).access (Rect.unit (s := S4x2x1024x256) off S1x1x1024x128.size inb)).write (Elt F) f w Finset.univ i
      = OS m c i := by
  rw [← rect_oh (zv c) e s h inb, ← set_whole_slice cc0_scratch12]
  refine write_eq_on (F := F) ((Memref.whole cc0_scratch12).access (Rect.unit (s := S4x2x1024x256) off S1x1x1024x128.size inb)) f (OS m c) _ ?_
  subst h hw
  funext x
  have hd : gdev c (zv c) = c := gdev_zv c
  have h0 : (x 0).val < 1 := (x 0).isLt
  have h1 : (x 1).val < 1 := (x 1).isLt
  have h3 : (x 3).val < 128 := (x 3).isLt
  have hs := s.isLt
  refine Eq.trans (b := hdAt m (gdev c (zv c)) e s x) (by rw [hd]) ?_
  have e0 : (⟨(zv c).val + 1 * (x 0).val, by have := (zv c).isLt; omega⟩ : Fin 4) = zv c := Fin.ext (by show (zv c).val + 1 * (x 0).val = _; omega)
  have e1 : (⟨e.val + 1 * (x 1).val, by have := e.isLt; omega⟩ : Fin 2) = e := Fin.ext (by show e.val + 1 * (x 1).val = _; omega)
  have e3 : (⟨(128 * s.val + 1 * (x 3).val) / 128, by omega⟩ : Fin 2) = s := Fin.ext (by show (128 * s.val + 1 * (x 3).val) / 128 = _; omega)
  show _ = hdAt m (gdev c ⟨(zv c).val + 1 * (x 0).val, _⟩) ⟨e.val + 1 * (x 1).val, _⟩ ⟨(128 * s.val + 1 * (x 3).val) / 128, _⟩
    (ix4 (0 : Fin 1) (0 : Fin 1) (⟨0 + 1 * (x 2).val, _⟩ : Fin 1024) (⟨(128 * s.val + 1 * (x 3).val) % 128, _⟩ : Fin 128))
  rw [e0, e1, e3]
  refine congrArg _ (funext fun a => Fin.ext ?_)
  fin_cases a
  · show (x 0).val = 0; omega
  · show (x 1).val = 0; omega
  · show (x 2).val = 0 + 1 * (x 2).val; omega
  · show (x 3).val = (128 * s.val + 1 * (x 3).val) % 128; omega

/-! ### Transfers -/

omit [FloatOps F] in
/-- A view read back into itself leaves what it read. -/
theorem land_self {κ : Kind} {sp : Space} {s : Shape} {e : EltTy} (v : View sig κ sp s e) (f G : v.ty.Contents (Elt F)) :
    ∀ i ∈ v.set, v.write (Elt F) f (v.read (Elt F) G) Finset.univ i = G i := write_eq_on v f G _ rfl

/-- Columns `j` of this device's narrowed rows are what place `j` gathers from it. -/
theorem land_uk (c : Dev nD) (j : Fin 4) {off : Fin 3 → ℕ} {off8 : Fin 2 → ℕ} (h8 : off8 = ![0, 512 * j.val]) (h : off = ![(zv c).val, 0, 0]) (inb8) (inb) (f : Vec F S4x128x512 .bf16) :
    ∀ i ∈ guSet (zv c), ((((Memref.whole cc0_scratch1).slice (Rect.unit (s := S4x128x512) off S1x128x512.size inb) (fun _ => rfl)).squeeze S128x512 squeezes_S1x128x512_S128x512).view).write (Elt F) f
      (((Memref.whole cc0_scratch3).slice (Rect.unit (s := S128x2048) off8 S128x512.size inb8) (fun _ => rfl)).view.read (Elt F) (wukB m c)) Finset.univ i = GUK m (gdev c j) i := by
  rw [← rect_gu (zv c) h inb, ← set_whole_slice cc0_scratch1, ← View.set_reshape _ squeezes_S1x128x512_S128x512.numel_eq]
  refine write_eq_on (F := F) (((Memref.whole cc0_scratch1).slice (Rect.unit (s := S4x128x512) off S1x128x512.size inb) (fun _ => rfl)).squeeze S128x512 squeezes_S1x128x512_S128x512).view f (GUK m (gdev c j)) _ ?_
  refine Eq.trans (ld_wuk j h8 inb8 (wukB m c)) ?_
  funext x
  obtain ⟨a, b, rfl⟩ : ∃ (a : Fin 128) (b : Fin 512), x = ix2 a b := ⟨x 0, x 1, eq_ix2 x⟩
  have hr : Shape.reshapeEquiv squeezes_S1x128x512_S128x512.numel_eq (ix2 a b) = ix3 (⟨0, Nat.one_pos⟩ : Fin 1) a b := reshapeEquiv_ix2_1ab _ _ _
  refine Eq.trans ?_ (congrFun (ld_guk (zv c) h inb (GUK m (gdev c j))) (Shape.reshapeEquiv squeezes_S1x128x512_S128x512.numel_eq (ix2 a b))).symm
  refine Eq.trans ?_ (congrArg (slU (GUK m (gdev c j)) (zv c)) hr).symm
  show wukB m c (ix2 a (colZ j b)) = wukB m (gdev (gdev c j) (zv c)) (ix2 a (colZ (zv (gdev c j)) b))
  rw [gdev_gdev, gdev_zv, zv_gdev]
theorem land_uv (c : Dev nD) (j : Fin 4) {off : Fin 3 → ℕ} {off8 : Fin 2 → ℕ} (h8 : off8 = ![0, 512 * j.val]) (h : off = ![(zv c).val, 0, 0]) (inb8) (inb) (f : Vec F S4x128x512 .bf16) :
    ∀ i ∈ guSet (zv c), ((((Memref.whole cc0_scratch2).slice (Rect.unit (s := S4x128x512) off S1x128x512.size inb) (fun _ => rfl)).squeeze S128x512 squeezes_S1x128x512_S128x512).view).write (Elt F) f
      (((Memref.whole cc0_scratch4).slice (Rect.unit (s := S128x2048) off8 S128x512.size inb8) (fun _ => rfl)).view.read (Elt F) (wuvB m c)) Finset.univ i = GUV m (gdev c j) i := by
  rw [← rect_gu (zv c) h inb, ← set_whole_slice cc0_scratch2, ← View.set_reshape _ squeezes_S1x128x512_S128x512.numel_eq]
  refine write_eq_on (F := F) (((Memref.whole cc0_scratch2).slice (Rect.unit (s := S4x128x512) off S1x128x512.size inb) (fun _ => rfl)).squeeze S128x512 squeezes_S1x128x512_S128x512).view f (GUV m (gdev c j)) _ ?_
  refine Eq.trans (ld_wuv j h8 inb8 (wuvB m c)) ?_
  funext x
  obtain ⟨a, b, rfl⟩ : ∃ (a : Fin 128) (b : Fin 512), x = ix2 a b := ⟨x 0, x 1, eq_ix2 x⟩
  have hr : Shape.reshapeEquiv squeezes_S1x128x512_S128x512.numel_eq (ix2 a b) = ix3 (⟨0, Nat.one_pos⟩ : Fin 1) a b := reshapeEquiv_ix2_1ab _ _ _
  refine Eq.trans ?_ (congrFun (ld_guv (zv c) h inb (GUV m (gdev c j))) (Shape.reshapeEquiv squeezes_S1x128x512_S128x512.numel_eq (ix2 a b))).symm
  refine Eq.trans ?_ (congrArg (slU (GUV m (gdev c j)) (zv c)) hr).symm
  show wuvB m c (ix2 a (colZ j b)) = wuvB m (gdev (gdev c j) (zv c)) (ix2 a (colZ (zv (gdev c j)) b))
  rw [gdev_gdev, gdev_zv, zv_gdev]

/-- The local copies: the query weights' columns, whole; the output weights' rows, into their slot. -/
theorem land_wq (c : Dev nD) {off : Fin 2 → ℕ} (h : off = ![0, 512 * (c.val % 4)]) (inb) :
    ((Memref.whole main_arg4).slice (Rect.unit (s := S2048x2048) off S2048x512.size inb) (fun _ => rfl)).view.read (Elt F) (wqM m c) = wqF m c := by
  subst h; funext x
  refine congrArg (wqM m c) (funext fun a => Fin.ext ?_)
  fin_cases a
  · show 0 + 1 * (x 0).val = (x 0).val; omega
  · show 512 * (c.val % 4) + 1 * (x 1).val = 512 * (c.val % 4) + (x 1).val; omega
theorem land_wqr (c : Dev nD) {off : Fin 2 → ℕ} (h : off = ![0, 128 * (c.val % 4)]) (inb) :
    ((Memref.whole main_arg5).slice (Rect.unit (s := S2048x512) off S2048x128.size inb) (fun _ => rfl)).view.read (Elt F) (wqrM m c) = wqrF m c := by
  subst h; funext x
  refine congrArg (wqrM m c) (funext fun a => Fin.ext ?_)
  fin_cases a
  · show 0 + 1 * (x 0).val = (x 0).val; omega
  · show 128 * (c.val % 4) + 1 * (x 1).val = 128 * (c.val % 4) + (x 1).val; omega
theorem land_wo (c : Dev nD) (j : Fin 4) (e s : Fin 2) {off : Fin 2 → ℕ} {off' : Fin 3 → ℕ} (h : off = ![512 * j.val + 256 * e.val, 0]) (h' : off' = ![s.val, 0, 0]) (inb) (inb') (f : Vec F S2x256x2048 .f32) :
    ∀ i ∈ wfSet s, ((((Memref.whole cc0_scratch7).slice (Rect.unit (s := S2x256x2048) off' S1x256x2048.size inb') (fun _ => rfl)).squeeze S256x2048 squeezes_S1x256x2048_S256x2048).view).write (Elt F) f
      (((Memref.whole main_arg7).slice (Rect.unit (s := S2048x2048) off S256x2048.size inb) (fun _ => rfl)).view.read (Elt F) (woM m c)) Finset.univ i = wfC (woB m c j e) i := by
  rw [← rect_wf s h' inb', ← set_whole_slice cc0_scratch7, ← View.set_reshape _ squeezes_S1x256x2048_S256x2048.numel_eq]
  refine write_eq_on (F := F) (((Memref.whole cc0_scratch7).slice (Rect.unit (s := S2x256x2048) off' S1x256x2048.size inb') (fun _ => rfl)).squeeze S256x2048 squeezes_S1x256x2048_S256x2048).view f (wfC (woB m c j e)) _ ?_
  funext x
  obtain ⟨a, b, rfl⟩ : ∃ (a : Fin 256) (b : Fin 2048), x = ix2 a b := ⟨x 0, x 1, eq_ix2 x⟩
  have hr : Shape.reshapeEquiv squeezes_S1x256x2048_S256x2048.numel_eq (ix2 a b) = ix3 (⟨0, Nat.one_pos⟩ : Fin 1) a b := reshapeEquiv_ix2_1ab _ _ _
  refine Eq.trans ?_ (congrFun (ld_wf s h' inb' (woB m c j e)) (Shape.reshapeEquiv squeezes_S1x256x2048_S256x2048.numel_eq (ix2 a b))).symm
  refine Eq.trans ?_ (congrArg (woB m c j e) hr).symm
  subst h
  refine congrArg (woM m c) (funext fun d => Fin.ext ?_)
  fin_cases d
  · show 512 * j.val + 256 * e.val + 1 * a.val = 512 * j.val + 256 * e.val + a.val; omega
  · show 0 + 1 * b.val = b.val; omega

end Views

end Cert.KProof
-- ==== Proof.Protocol.lean ====
/-
  The protocol. Every device signals the three others of its group once it no longer needs its landing slots; a
  device that has been signalled by all three sends its compressed activations, its rows of the two up-projections
  and later its attention outputs into its own place's slots on the three others. One round:
  · the barrier cell of c waits for 3; place j (≠ c's) pays 1 and hands over its device's landing slots for c's place;
  · the receive cell (t, j) of c is paid by the device at place j with the slot's credit and hands over the slot, landed;
  · the send cell (t, j) of c is paid by c's own transfer to place j and gives back what the transfer read.
-/
module

public import proofs.«01_k».proof.Proof.Contents

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-! ## The resource algebra: the staging's rounds, the protocol's rounds, the local copies' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

variable (m : (ℓ : Loc nD τ sig) → Buf (Elt F) ℓ) (ρ : Dev nD → PrngReg)

/-! ## Slots -/

abbrev Sh : Type := PosShare TreeShare

def gcP (c : Dev nD) (j : Fin 4) (q : Sh) (f : Vec F S4x1024x128 .bf16) : sProp 𝕄 := ((c : Thread nD τ).loc cc0_scratch0) ↦[gcSet j]{q} f
def gukP (c : Dev nD) (j : Fin 4) (q : Sh) (f : Vec F S4x128x512 .bf16) : sProp 𝕄 := ((c : Thread nD τ).loc cc0_scratch1) ↦[guSet j]{q} f
def guvP (c : Dev nD) (j : Fin 4) (q : Sh) (f : Vec F S4x128x512 .bf16) : sProp 𝕄 := ((c : Thread nD τ).loc cc0_scratch2) ↦[guSet j]{q} f
def wukP (c : Dev nD) (j : Fin 4) (f : Vec F S128x2048 .bf16) : sProp 𝕄 := ((c : Thread nD τ).loc cc0_scratch3) ↦[wkSet j]{fullShare} f
def wuvP (c : Dev nD) (j : Fin 4) (f : Vec F S128x2048 .bf16) : sProp 𝕄 := ((c : Thread nD τ).loc cc0_scratch4) ↦[wkSet j]{fullShare} f
def osP (c : Dev nD) (j : Fin 4) (h : Fin 2) (q : Sh) (f : Vec F S4x2x1024x256 .bf16) : sProp 𝕄 := ((c : Thread nD τ).loc cc0_scratch12) ↦[osSet j h]{q} f
def wfP (c : Dev nD) (s : Fin 2) (f : Vec F S2x256x2048 .f32) : sProp 𝕄 := ((c : Thread nD τ).loc cc0_scratch7) ↦[wfSet s]{fullShare} f

instance gcP_storable (c : Dev nD) (j : Fin 4) (q : Sh) (f) : BI.Storable (upEmb : UEmb _ 𝕄) (gcP (F := F) c j q f) := by unfold gcP; infer_instance
instance gukP_storable (c : Dev nD) (j : Fin 4) (q : Sh) (f) : BI.Storable (upEmb : UEmb _ 𝕄) (gukP (F := F) c j q f) := by unfold gukP; infer_instance
instance guvP_storable (c : Dev nD) (j : Fin 4) (q : Sh) (f) : BI.Storable (upEmb : UEmb _ 𝕄) (guvP (F := F) c j q f) := by unfold guvP; infer_instance
instance wukP_storable (c : Dev nD) (j : Fin 4) (f) : BI.Storable (upEmb : UEmb _ 𝕄) (wukP (F := F) c j f) := by unfold wukP; infer_instance
instance wuvP_storable (c : Dev nD) (j : Fin 4) (f) : BI.Storable (upEmb : UEmb _ 𝕄) (wuvP (F := F) c j f) := by unfold wuvP; infer_instance
instance osP_storable (c : Dev nD) (j : Fin 4) (h : Fin 2) (q : Sh) (f) : BI.Storable (upEmb : UEmb _ 𝕄) (osP (F := F) c j h q f) := by unfold osP; infer_instance

/-- The share of an own slot that the transfer to place `j` reads with; the rest stays for the loads. -/
abbrev shJ (j : Fin 4) : Sh := Transfers.shareTok fullShare 4 j
abbrev shR : Sh := Transfers.shareDrop fullShare 4

/-- The landing slots of device `p` for place `z`, their contents of no account. -/
def landP (p : Dev nD) (z : Fin 4) : sProp 𝕄 :=
  iprop((∃ f, gcP p z fullShare f) ∗ (∃ f, gukP p z fullShare f) ∗ (∃ f, guvP p z fullShare f) ∗ (∃ f, osP p z 0 fullShare f) ∗ (∃ f, osP p z 1 fullShare f))
instance landP_storable (p : Dev nD) (z : Fin 4) : BI.Storable (upEmb : UEmb _ 𝕄) (landP (F := F) p z) := by unfold landP; infer_instance

/-- What receive cell `(t, j)` of `c` hands over. -/
def rcvPay (c : Dev nD) (t : Fin 5) (j : Fin 4) : sProp 𝕄 :=
  if t = 0 then gcP c j fullShare (GC m c) else if t = 1 then gukP c j fullShare (GUK m c) else if t = 2 then guvP c j fullShare (GUV m c)
  else if t = 3 then osP c j 0 fullShare (OS m c) else osP c j 1 fullShare (OS m c)
/-- What send cell `(t, j)` of `c` gives back. -/
def sndPay (c : Dev nD) (t : Fin 5) (j : Fin 4) : sProp 𝕄 :=
  if t = 0 then gcP c (zv c) (shJ j) (GC m c) else if t = 1 then wukP c j (wukB m c) else if t = 2 then wuvP c j (wuvB m c)
  else if t = 3 then osP c (zv c) 0 (shJ j) (OS m c) else osP c (zv c) 1 (shJ j) (OS m c)
instance rcvPay_storable (c : Dev nD) (t : Fin 5) (j : Fin 4) : BI.Storable (upEmb : UEmb _ 𝕄) (rcvPay (F := F) m c t j) := by
  unfold rcvPay; (repeat' split) <;> infer_instance
instance sndPay_storable (c : Dev nD) (t : Fin 5) (j : Fin 4) : BI.Storable (upEmb : UEmb _ 𝕄) (sndPay (F := F) m c t j) := by
  unfold sndPay; (repeat' split) <;> infer_instance

/-! ## The schedule -/

/-- The credit of a transfer of array `t`. -/
def crT (t : Fin 5) : ℕ :=
  if t = 0 then RefSig.tileCredit S1024x128 .bf16 else if t = 1 ∨ t = 2 then RefSig.tileCredit S128x512 .bf16 else RefSig.tileCredit S1024x256 .bf16
theorem credit_tc {sp : Space} {s : Shape} {e : EltTy} (v : View sig .tc sp s e) : v.dmaCredit = RefSig.tileCredit s e := rfl
theorem crT_c : crT 0 = RefSig.tileCredit S1024x128 .bf16 := if_pos rfl
theorem crT_uk : crT 1 = RefSig.tileCredit S128x512 .bf16 := (if_neg (by decide)).trans (if_pos (by decide))
theorem crT_uv : crT 2 = RefSig.tileCredit S128x512 .bf16 := (if_neg (by decide)).trans (if_pos (by decide))
theorem crT_o0 : crT 3 = RefSig.tileCredit S1024x256 .bf16 := (if_neg (by decide)).trans (if_neg (by decide))
theorem crT_o1 : crT 4 = RefSig.tileCredit S1024x256 .bf16 := (if_neg (by decide)).trans (if_neg (by decide))
theorem crT_pos (t : Fin 5) : 0 < crT t := by
  unfold crT; split
  · exact RefSig.tileCredit_pos _ _ (by decide)
  · split <;> exact RefSig.tileCredit_pos _ _ (by decide)

/-- The duties of cell `i` of device `c`, their amount and their payloads. -/
def dutI (c : Dev nD) : CI → Finset (Fin 4)
  | none => Finset.univ.erase (zv c)
  | some (_, _, j) => if j = zv c then ∅ else {0}
def amtI : CI → ℕ
  | none => 1
  | some (_, t, _) => crT t
def payI (c : Dev nD) : CI → Fin 4 → sProp 𝕄
  | none, d => landP (gdev c d) (zv c)
  | some (false, t, j), _ => sndPay m c t j
  | some (true, t, j), _ => rcvPay m c t j
instance payI_storable (c : Dev nD) (i : CI) (d : Fin 4) : BI.Storable (upEmb : UEmb _ 𝕄) (payI (F := F) m c i d) := by
  rcases i with _ | ⟨b, t, j⟩
  · unfold payI; infer_instance
  · cases b <;> (unfold payI; infer_instance)
theorem amtI_pos (i : CI) : 0 < amtI i := by
  rcases i with _ | ⟨b, t, j⟩
  · exact Nat.one_pos
  · exact crT_pos t

def Rd : Rounds.Schedule (GSem nD τ sig) (Fin 4) 𝕄 where
  duties g r := if r = 0 ∧ g.1.2 = .tc then (match deco g.2 with | some i => dutI g.1.1 i | none => ∅) else ∅
  unitless _ := False
  amount g _ _ := match deco g.2 with | some i => amtI i | none => 1
  payload g _ d := match deco g.2 with | some i => payI m g.1.1 i d | none => iprop(emp)
  amount_pos g _ _ _ := by
    cases deco g.2 with
    | none => exact Nat.one_pos
    | some i => exact amtI_pos i

instance Rd_payload_storable (g : GSem nD τ sig) (r : ℕ) (d : Fin 4) : BI.Storable (upEmb : UEmb _ 𝕄) ((Rd (F := F) m).payload g r d) := by
  show BI.Storable upEmb (match deco g.2 with | some i => payI m g.1.1 i d | none => iprop(emp))
  cases deco g.2 <;> infer_instance

theorem duties_k (c : Dev nD) (i : CI) : (Rd (F := F) m).duties (kcell c i) 0 = dutI c i := by
  dsimp only [Rd]; rw [if_pos ⟨rfl, rfl⟩, deco_csem]
theorem amount_k (c : Dev nD) (i : CI) (r : ℕ) (d : Fin 4) : (Rd (F := F) m).amount (kcell c i) r d = amtI i := by
  dsimp only [Rd]; rw [deco_csem]
theorem payload_k (c : Dev nD) (i : CI) (r : ℕ) (d : Fin 4) : (Rd (F := F) m).payload (kcell c i) r d = payI m c i d := by
  dsimp only [Rd]; rw [deco_csem]
theorem duties_later (g : GSem nD τ sig) : ∀ r, 1 ≤ r → (Rd (F := F) m).duties g r = ∅ :=
  fun r hr => by dsimp only [Rd]; rw [if_neg fun h => by omega]
theorem duties_none (c : Dev nD) (b : Bool) (t : Fin 5) : ∀ r, (Rd (F := F) m).duties (kcell c (some (b, t, zv c))) r = ∅ := fun r => by
  rcases Nat.eq_zero_or_pos r with rfl | h
  · rw [duties_k]; exact if_pos rfl
  · exact duties_later m _ r h

theorem dutI_ne (c : Dev nD) (b : Bool) (t : Fin 5) {j : Fin 4} (h : j ≠ zv c) : dutI c (some (b, t, j)) = {0} := if_neg h
theorem expect_bar (c : Dev nD) : (Rd (F := F) m).expect (barCell c) 0 = 3 := by
  unfold Schedule.expect Schedule.amountOf
  rw [duties_k, Finset.sum_congr rfl fun d _ => amount_k m c none 0 d, Finset.sum_const]
  show (Finset.univ.erase (zv c)).card • 1 = 3
  rw [Finset.card_erase_of_mem (Finset.mem_univ _)]; rfl
theorem expect_k (c : Dev nD) (b : Bool) (t : Fin 5) {j : Fin 4} (h : j ≠ zv c) : (Rd (F := F) m).expect (kcell c (some (b, t, j))) 0 = crT t := by
  unfold Schedule.expect Schedule.amountOf
  rw [duties_k, dutI_ne c b t h, Finset.sum_singleton, amount_k]; rfl

/-- The other places, in the order the kernel visits them. -/
theorem others_eq (c : Dev nD) : (Finset.univ.erase (zv c) : Finset (Fin 4)) = insert (jk c 1) (insert (jk c 2) {jk c 3}) := by
  revert c; decide
theorem others_nm1 (c : Dev nD) : jk c 1 ∉ (insert (jk c 2) {jk c 3} : Finset (Fin 4)) := by revert c; decide
theorem others_nm2 (c : Dev nD) : jk c 2 ∉ ({jk c 3} : Finset (Fin 4)) := by revert c; decide
theorem bigSep_others (c : Dev nD) (Φ : Fin 4 → sProp 𝕄) :
    bigSep (Finset.univ.erase (zv c)) Φ = iprop(Φ (jk c 1) ∗ Φ (jk c 2) ∗ Φ (jk c 3)) := by
  rw [others_eq, bigSep_insert (others_nm1 c), bigSep_insert (others_nm2 c), bigSep_singleton]; rfl
/-- All four places, the device's own first. -/
theorem bigSep_places (c : Dev nD) (Φ : Fin 4 → sProp 𝕄) :
    bigSep Finset.univ Φ = iprop(Φ (zv c) ∗ Φ (jk c 1) ∗ Φ (jk c 2) ∗ Φ (jk c 3)) := by
  rw [← Finset.insert_erase (Finset.mem_univ (zv c)), bigSep_insert (Finset.notMem_erase _ _), bigSep_others]; rfl

theorem rest_bar (c : Dev nD) : bigSep ((Rd (F := F) m).duties (barCell c) 0 \ ∅) (fun d => (Rd (F := F) m).payload (barCell c) 0 d)
    = iprop(landP (gdev c (jk c 1)) (zv c) ∗ landP (gdev c (jk c 2)) (zv c) ∗ landP (gdev c (jk c 3)) (zv c)) := by
  rw [Finset.sdiff_empty, duties_k]
  exact (bigSep_congr fun d _ => payload_k m c none 0 d).trans (bigSep_others c _)
theorem rest_k (c : Dev nD) (b : Bool) (t : Fin 5) {j : Fin 4} (h : j ≠ zv c) :
    bigSep ((Rd (F := F) m).duties (kcell c (some (b, t, j))) 0 \ ∅) (fun d => (Rd (F := F) m).payload (kcell c (some (b, t, j))) 0 d)
      = payI m c (some (b, t, j)) 0 := by
  rw [Finset.sdiff_empty, duties_k, dutI_ne c b t h, bigSep_singleton, payload_k]

/-! ## What a device owes; the levels -/

/-- The array and the distance of the device's 15 transfers and 3 signals, the last one first. -/
def oblT : ℕ → Fin 5 × Fin 4
  | 0 => (4, 3) | 1 => (4, 2) | 2 => (4, 1) | 3 => (3, 3) | 4 => (3, 2) | 5 => (3, 1) | 6 => (0, 3) | 7 => (0, 2) | 8 => (0, 1)
  | 9 => (2, 3) | 10 => (1, 3) | 11 => (2, 2) | 12 => (1, 2) | 13 => (2, 1) | 14 => (1, 1) | 15 => (0, 3) | 16 => (0, 2) | _ => (0, 1)
def oblI (z : Fin 4) (n : ℕ) : CI := if n < 15 then some (true, (oblT n).1, z) else none
def oblC (c : Dev nD) (n : ℕ) : GSem nD τ sig := kcell (gdev c (jk c (oblT n).2)) (oblI (zv c) n)
def oblA (n : ℕ) : ℕ := if n < 15 then crT (oblT n).1 else 1
/-- What is still owed before the last `n` of them. -/
def Ow (c : Dev nD) : ℕ → CellTallies nD τ sig Unit
  | 0 => 0
  | n + 1 => Ow c n + tallyAt (oblC c n) () (oblA n)

theorem Ow_pos {c : Dev nD} {n : ℕ} {g : GSem nD τ sig} {u : Unit} (h : 0 < Ow c n g u) : ∃ i < n, g = oblC c i := by
  induction n with
  | zero => exact absurd h (Nat.lt_irrefl 0)
  | succ n ih =>
    have h' : 0 < Ow c n g u + tallyAt (oblC c n) () (oblA n) g u := h
    rw [tallyAt_apply] at h'
    by_cases hg : g = oblC c n
    · exact ⟨n, Nat.lt_succ_self n, hg⟩
    · rw [if_neg (fun h => hg h.1), Nat.add_zero] at h'
      obtain ⟨i, hi, e⟩ := ih h'
      exact ⟨i, Nat.lt_succ_of_lt hi, e⟩

def L (g : GSem nD τ sig) : Finset Unit := if g.1.2 = .tc then {()} else ∅
def lvI : Option CI → ℕ
  | none => 0
  | some none => 1
  | some (some (false, _, _)) => 0
  | some (some (true, t, _)) => if t.val < 3 then 2 else 3
/-- Barrier cells at 1, the receive cells of the first gather at 2, of the second at 3, everything else at 0. -/
def lv (g : GSem nD τ sig) (_ : Unit) : ℕ := lvI (deco g.2)
theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (i : CI) : lv (kcell c i) () = lvI (some i) := by unfold lv; rw [deco_csem]
def oblL (n : ℕ) : ℕ := if n < 6 then 3 else if n < 15 then 2 else 1
theorem lv_obl (c : Dev nD) {n : ℕ} (hn : n < 18) : lv (oblC c n) () = oblL n := by
  unfold oblC; rw [lv_k]
  have : ∀ (z : Fin 4) (n : Fin 18), lvI (some (oblI z n.val)) = oblL n.val := by decide
  exact this (zv c) ⟨n, hn⟩

theorem mayWait_Ow (c : Dev nD) (sm : SemLoc sig) (n : ℕ) (hn : n ≤ 18) (h : ∀ i < n, lvI (deco sm) < oblL i) :
    (levAts L lv : sProp 𝕄) ⊢ MayWait (c : Thread nD τ) sm () (Ow c n) :=
  MayOwe.of_cut (L := L) (lev := lv) (lvI (deco sm)) (fun p hp => by rw [Finset.mem_singleton.mp hp, L_tc]; exact Finset.mem_singleton_self _)
    (fun g u hg => by obtain ⟨i, hi, rfl⟩ := Ow_pos hg; exact Finset.mem_singleton_self _)
    (fun p hp => by rw [Finset.mem_singleton.mp hp]; exact le_refl _)
    (fun g u hg => by obtain ⟨i, hi, rfl⟩ := Ow_pos hg; cases u; rw [lv_obl c (by omega)]; exact h i hi)

/-! ## Ghost state -/

/-- What every device knows: the invariants under the names `K`, that every cell is at round 0, the levels. -/
def ctx (K : Dev nD × CI → ℕ) : sProp 𝕄 :=
  iprop(bigSep Finset.univ (fun p : Dev nD × CI => cellInv ER (Rd m) (K p) (kcell p.1 p.2))
    ∗ bigSep Finset.univ (fun p : Dev nD × CI => reached ER (kcell p.1 p.2) 0) ∗ levAts L lv)
instance ctx_persistent (K : Dev nD × CI → ℕ) : BI.Persistent (ctx (F := F) m K) := by unfold ctx; infer_instance

theorem ctx_inv (K : Dev nD × CI → ℕ) (c : Dev nD) (i : CI) : ctx (F := F) m K ⊢ cellInv ER (Rd m) (K (c, i)) (kcell c i) := by
  unfold ctx
  refine sep_elim_left.trans ?_
  exact BI.bigSep_elim (Φ := fun p : Dev nD × CI => cellInv ER (Rd m) (K p) (kcell p.1 p.2)) (Finset.mem_univ (c, i))
theorem ctx_reached (K : Dev nD × CI → ℕ) (c : Dev nD) (i : CI) : ctx (F := F) m K ⊢ reached ER (kcell c i) 0 := by
  unfold ctx
  refine sep_elim_right.trans (sep_elim_left.trans ?_)
  exact BI.bigSep_elim (Φ := fun p : Dev nD × CI => (reached ER (kcell p.1 p.2) 0 : sProp 𝕄)) (Finset.mem_univ (c, i))
theorem ctx_lev (K : Dev nD × CI → ℕ) : ctx (F := F) m K ⊢ levAts L lv := by
  unfold ctx
  exact sep_elim_right.trans sep_elim_right

/-- The token for signalling the device `k` places on. -/
def bTok (c : Dev nD) (k : Fin 4) : sProp 𝕄 := dutyTok ER (barCell (gdev c (jk c k))) 0 (zv c)
/-- The tokens for the transfer of array `t` to the device `k` places on. -/
def sTok (c : Dev nD) (t : Fin 5) (k : Fin 4) : sProp 𝕄 :=
  iprop(dutyTok ER (sCell c t (jk c k)) 0 0 ∗ dutyTok ER (rCell (gdev c (jk c k)) t (zv c)) 0 0)
/-- The send cell's position before its wait, and its credit once the transfer is under way. -/
def sPos (c : Dev nD) (t : Fin 5) (k : Fin 4) (r : ℕ) : sProp 𝕄 := atPos ER (sCell c t (jk c k)) r ∅ 0
def sCred (c : Dev nD) (t : Fin 5) (k : Fin 4) : sProp 𝕄 := cred (tallyAt (sCell c t (jk c k)) () (crT t))
/-- The receive cell before its wait: its position and its credit. -/
def rPos (c : Dev nD) (t : Fin 5) (k : Fin 4) (r : ℕ) : sProp 𝕄 := atPos ER (rCell c t (jk c k)) r ∅ 0
def rCred (c : Dev nD) (t : Fin 5) (k : Fin 4) : sProp 𝕄 := cred (tallyAt (rCell c t (jk c k)) () (crT t))
/-- What the device owes before the last `n` of its signals and transfers. -/
def OW (c : Dev nD) (n : ℕ) : sProp 𝕄 := iprop(∃ W, owes (c : Thread nD τ) (Ow c n) W)

end Cert.KProof
-- ==== Proof.Steps.lean ====
/-
  One rule per kind of step: loads and stores at named contents, signals, transfers and waits of the protocol,
  local copies.
-/
module

public import proofs.«01_k».proof.Proof.Protocol

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none
/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section

variable {m}
variable {α : Type} {Q : α → sProp (MT nD τ sig Unit (Elt F) ℕ UU ℕ)} (c : Dev nD) (K : Dev nD × CI → ℕ)

/-! ## Loads and stores -/

theorem ld {cs : CoreSpace} {s : Shape} {e : EltTy} (mr : Memref sig .tc cs s e) (r : Rect s) {S : Finset (Idx ((mr.access r).loc (c : Thread nD τ)))} {q : Sh}
    {f : Buf (Elt F) ((mr.access r).loc (c : Thread nD τ))} {v : r.shape.Idx → Elt F e} (hS : (mr.access r).set ⊆ S) (hv : mr.view.readAt (Elt F) r.toLoadRect f = v)
    {hl : mr.view.LoadsAt r.toLoadRect} {k : (r.shape.Idx → Elt F e) → Prog (TpuEff nD τ sig (Elt F) Λ₀ .tc) α} :
    ((mr.access r).loc (c : Thread nD τ) ↦[S]{q} f)
      ⊢ iprop((((mr.access r).loc (c : Thread nD τ) ↦[S]{q} f) -∗ WP c (k v) Q) -∗ WP c (.op (.load mr r.toLoadRect hl) k) Q) := by
  subst hv
  exact wp_load_rect 𝒱₀ (c : Thread nD τ) none Set.univ hS
theorem st {cs : CoreSpace} {s : Shape} {e : EltTy} (mr : Memref sig .tc cs s e) (r : Rect s) {S : Finset (Idx ((mr.access r).loc (c : Thread nD τ)))}
    {f : Buf (Elt F) ((mr.access r).loc (c : Thread nD τ))} (g : Buf (Elt F) ((mr.access r).loc (c : Thread nD τ))) {w : r.shape.Idx → Elt F e}
    {hx : (mr.access r).Stores Finset.univ} {hm : Finset.univ = Finset.univ ∨ ∀ a, r.stride a = 1} {k : PUnit → Prog (TpuEff nD τ sig (Elt F) Λ₀ .tc) α}
    (hS : (mr.access r).set ⊆ S) (hg : ∀ i ∈ S, (mr.access r).write (Elt F) f w Finset.univ i = g i) :
    ((mr.access r).loc (c : Thread nD τ) ↦[S]{fullShare} f)
      ⊢ iprop((((mr.access r).loc (c : Thread nD τ) ↦[S]{fullShare} g) -∗ WP c (k ⟨⟩) Q) -∗ WP c (.op (.store mr r w Finset.univ hx hm) k) Q) := by
  have e : ((mr.access r).loc (c : Thread nD τ) ↦[S]{fullShare} ((mr.access r).write (Elt F) f w Finset.univ) : sProp 𝕄)
      = ((mr.access r).loc (c : Thread nD τ) ↦[S]{fullShare} g) := pointsTo_congr hg
  rw [← e]
  exact wp_store 𝒱₀ (c : Thread nD τ) none Set.univ hS

/-! ## Signals and waits -/

theorem Ow_succ {n : ℕ} {t : Fin 5} {k : Fin 4} (hn : n < 15) (h : oblT n = (t, k)) :
    Ow c (n + 1) = Ow c n + tallyAt (rCell (gdev c (jk c k)) t (zv c)) () (crT t) := by
  show Ow c n + tallyAt (oblC c n) () (oblA n) = _
  unfold oblC oblI oblA
  rw [if_pos hn, if_pos hn, h]
theorem Ow_succ_bar {n : ℕ} {k : Fin 4} (hn : ¬ n < 15) (h : (oblT n).2 = k) :
    Ow c (n + 1) = Ow c n + tallyAt (barCell (gdev c (jk c k))) () 1 := by
  show Ow c n + tallyAt (oblC c n) () (oblA n) = _
  unfold oblC oblI oblA
  rw [if_neg hn, if_neg hn, h]
theorem zv_ne_jk {k : Fin 4} (hk : k ≠ 0) : zv c ≠ zv (gdev c (jk c k)) := by rw [zv_gdev]; exact (jk_ne c hk).symm

/-- Signal the device `k` places on: its landing slots for that place go with the signal. -/
theorem sig_step {k : Fin 4} (hk : k ≠ 0) {n : ℕ} (hn : ¬ n < 15) (ho : (oblT n).2 = k) {p : Dev nD} (hp : p = gdev c (jk c k)) {sm : Sem sig} (hsm : sm = barS)
    {kk : PUnit → Prog (TpuEff nD τ sig (Elt F) Λ₀ .tc) α} :
    iprop(ctx m K ∗ landP c (jk c k) ∗ OW c (n + 1) ∗ bTok c k)
      ⊢ iprop((OW c n -∗ WP c (kk ⟨⟩) Q) -∗ WP c (.op (.semSignal (p : Thread nD τ) sm 1) kk) Q) := by
  subst hp hsm
  have hpay : (Rd (F := F) m).payload ((gdev c (jk c k) : Thread nD τ), SemLoc.reg barS) 0 (zv c) = landP c (jk c k) := by
    refine (payload_k m (gdev c (jk c k)) none 0 (zv c)).trans ?_
    show landP (gdev (gdev c (jk c k)) (zv c)) (zv (gdev c (jk c k))) = _
    rw [gdev_gdev, gdev_zv, zv_gdev]
  unfold OW bTok
  iintro ⟨#HC, HL, ⟨%W, HO⟩, HT⟩ Hk
  ihave #HI := (ctx_inv m K (gdev c (jk c k)) none) $$ HC
  ihave #HR := (ctx_reached m K (gdev c (jk c k)) none) $$ HC
  iapply (Rounds.wp_signal 𝒱₀ ER (Rd m) (c : Thread nD τ) none (dst := (gdev c (jk c k) : Thread nD τ)) (sem := barS) (r := 0) (κ := K (gdev c (jk c k), none))
      (d := zv c) (by rw [show ((gdev c (jk c k) : Thread nD τ), SemLoc.reg barS) = barCell (gdev c (jk c k)) from rfl, duties_k]; exact Finset.mem_erase.mpr ⟨zv_ne_jk c hk, Finset.mem_univ _⟩)
      (amount_k m (gdev c (jk c k)) none 0 (zv c)) () (Ow c n) (Ow_succ_bar c hn ho)) $$ [HL HO HT]
  · isplitr; · iexact HI
    isplitl [HO]; · iexact HO
    isplitl [HT]; · iexact HT
    isplitl [HL]
    · rw [hpay]; iexact HL
    iexact HR
  iintro HO
  iapply Hk
  iexists W; iexact HO

/-- Wait for the three signals: the three others' landing slots for this device's place. -/
theorem bar_wait {sm : Sem sig} (hsm : sm = barS) {kk : PUnit → Prog (TpuEff nD τ sig (Elt F) Λ₀ .tc) α} :
    iprop(ctx m K ∗ cred (tallyAt (barCell c) () 3) ∗ OW c 15 ∗ atPos ER (barCell c) 0 ∅ 0)
      ⊢ iprop(((OW c 15 ∗ atPos ER (barCell c) 1 ∅ 0 ∗ landP (gdev c (jk c 1)) (zv c) ∗ landP (gdev c (jk c 2)) (zv c) ∗ landP (gdev c (jk c 3)) (zv c)) -∗ WP c (kk ⟨⟩) Q)
        -∗ WP c (.op (.semWait sm 3) kk) Q) := by
  subst hsm
  have hrest : bigSep ((Rd (F := F) m).duties ((c : Thread nD τ), SemLoc.reg barS) 0 \ ∅) (fun d => (Rd (F := F) m).payload ((c : Thread nD τ), SemLoc.reg barS) 0 d)
      = iprop(landP (gdev c (jk c 1)) (zv c) ∗ landP (gdev c (jk c 2)) (zv c) ∗ landP (gdev c (jk c 3)) (zv c)) := rest_bar m c
  unfold OW
  iintro ⟨#HC, Hcr, ⟨%W, HO⟩, Hat⟩ Hk
  ihave #HI := (ctx_inv m K c none) $$ HC
  ihave #HV := (ctx_lev m K) $$ HC
  iapply (Rounds.wp_wait_rest_token 𝒱₀ ER (Rd m) (c : Thread nD τ) none (κ := K (c, none)) (sm := .reg barS)
      (wpE_semWait_eq 𝒱₀ (c : Thread nD τ) none Set.univ) (Set.mem_univ _) () (O := Ow c 15) (W := W) (R := 0) (m := 0) (T := ∅)
      (by rw [show ((c : Thread nD τ), SemLoc.reg barS) = barCell c from rfl, expect_bar])) $$ [Hcr HO Hat]
  · isplitr; · iexact HI
    isplitl [Hcr]; · iexact Hcr
    isplitl [HO]; · iexact HO
    isplitr
    · iapply (mayWait_Ow c (.reg barS) 15 (by decide) (by decide)); iexact HV
    iexact Hat
  iintro ⟨HO, Hat, -, Hpay⟩
  ihave Hp := (Entails.of_eq hrest) $$ Hpay
  iapply Hk
  isplitl [HO]; · iexists _; iexact HO
  isplitl [Hat]; · iexact Hat
  iexact Hp

/-- Wait on a cell of the transfers. -/
theorem cell_wait {b : Bool} {t : Fin 5} {j : Fin 4} (hj : j ≠ zv c) {n : ℕ} (hn : n ≤ 18) (hlev : ∀ i < n, lvI (some (some (b, t, j))) < oblL i)
    {sm : DmaSem sig} (hsm : SemLoc.dma sm = csem (some (b, t, j))) {cs cs' : Space} {s s' : Shape} {e e' : EltTy} {srcw : Memref sig .tc cs s e} {dstw : Memref sig .tc cs' s' e'}
    {h1 : srcw.view.WordExact} {h2 : dstw.view.WordExact} (hN : dstw.view.dmaCredit = crT t) {kk : PUnit → Prog (TpuEff nD τ sig (Elt F) Λ₀ .tc) α} :
    iprop(ctx m K ∗ cred (tallyAt (kcell c (some (b, t, j))) () (crT t)) ∗ OW c n ∗ atPos ER (kcell c (some (b, t, j))) 0 ∅ 0)
      ⊢ iprop(((payI m c (some (b, t, j)) 0 ∗ OW c n ∗ atPos ER (kcell c (some (b, t, j))) 1 ∅ 0) -∗ WP c (kk ⟨⟩) Q)
        -∗ WP c (.op (.waitDma2 sm srcw dstw h1 h2) kk) Q) := by
  have hrest : bigSep ((Rd (F := F) m).duties ((c : Thread nD τ), SemLoc.dma sm) 0 \ ∅) (fun d => (Rd (F := F) m).payload ((c : Thread nD τ), SemLoc.dma sm) 0 d)
      = payI m c (some (b, t, j)) 0 := by rw [hsm]; exact rest_k m c b t hj
  unfold OW kcell
  rw [← hsm]
  iintro ⟨#HC, Hcr, ⟨%W, HO⟩, Hat⟩ Hk
  ihave #HI := (ctx_inv m K c (some (b, t, j))) $$ HC
  ihave #HV := (ctx_lev m K) $$ HC
  iapply (Rounds.wp_wait_rest_token 𝒱₀ ER (Rd m) (c : Thread nD τ) none (κ := K (c, some (b, t, j))) (sm := .dma sm) (k' := dstw.view.dmaCredit)
      (wpE_waitDma2_eq 𝒱₀ (c : Thread nD τ) none Set.univ) (Set.mem_univ _) () (O := Ow c n) (W := W) (R := 0) (m := 0) (T := ∅)
      (by rw [hsm, Nat.zero_add, hN]; exact (expect_k m c b t hj).symm)) $$ [Hcr HO Hat]
  · isplitr; · rw [hsm]; iexact HI
    isplitl [Hcr]; · rw [hN]; iexact Hcr
    isplitl [HO]; · iexact HO
    isplitr
    · iapply (mayWait_Ow c (.dma sm) n hn (by rw [hsm, deco_csem]; exact hlev)); iexact HV
    iexact Hat
  iintro ⟨HO, Hat, -, Hpay⟩
  ihave Hp := (Entails.of_eq hrest) $$ Hpay
  iapply Hk
  isplitl [Hp]; · iexact Hp
  isplitl [HO]; · iexists _; iexact HO
  iexact Hat

/-- A transfer to the device `k` places on. -/
theorem snd_step {t : Fin 5} {k : Fin 4} (hk : k ≠ 0) {n : ℕ} (hn : n < 15) (ho : oblT n = (t, k)) {p : Dev nD} (hp : p = gdev c (jk c k))
    {sS sR : DmaSem sig} (hsS : sS = sndS t (jk c k)) (hsR : sR = rcvS t (zv c)) {cs cs' : Space} {s : Shape} {e : EltTy}
    {src : Memref sig .tc cs s e} {dst : Memref sig .tc cs' s e} {hsc : dst.view.ref.isScScratch = false}
    {h1 : src.view.WordExact} {h2 : dst.view.WordExact} {h3 : DmaTarget.Typed cs (.dma sR) (.remote (Dev.tc p : Thread nD τ) dst (.dma sS) hsc)}
    {q : Sh} {fs : Buf (Elt F) (src.view.loc (c : Thread nD τ))} {fd : Buf (Elt F) (dst.view.loc (gdev c (jk c k) : Thread nD τ))}
    (hN : dst.view.amount (.dma sR) = crT t)
    (hpay₁ : (src.view.loc (c : Thread nD τ) ↦[src.view.set]{q} fs) ⊢ sndPay m c t (jk c k))
    (hpay₂ : (dst.view.loc (gdev c (jk c k) : Thread nD τ) ↦[dst.view.set]{fullShare} (dst.view.write (Elt F) fd (src.view.read (Elt F) fs) Finset.univ))
      ⊢ rcvPay m (gdev c (jk c k)) t (zv c)) {kk : PUnit → Prog (TpuEff nD τ sig (Elt F) Λ₀ .tc) α} :
    iprop(ctx m K ∗ (src.view.loc (c : Thread nD τ) ↦[src.view.set]{q} fs) ∗ (dst.view.loc (gdev c (jk c k) : Thread nD τ) ↦[dst.view.set]{fullShare} fd) ∗ OW c (n + 1) ∗ sTok c t k)
      ⊢ iprop(((sCred c t k ∗ OW c n) -∗ WP c (kk ⟨⟩) Q)
        -∗ WP c (.op (.enqueueDma src (.remote (Dev.tc p : Thread nD τ) dst (.dma sS) hsc) (.dma sR) h1 h2 h3) kk) Q) := by
  subst hp hsS hsR
  unfold OW sTok sCred
  iintro ⟨#HC, Hs, Hd, ⟨%W, HO⟩, HT1, HT2⟩ Hk
  ihave #HI1 := (ctx_inv m K c (some (false, t, jk c k))) $$ HC
  ihave #HI2 := (ctx_inv m K (gdev c (jk c k)) (some (true, t, zv c))) $$ HC
  ihave #HR1 := (ctx_reached m K c (some (false, t, jk c k))) $$ HC
  ihave #HR2 := (ctx_reached m K (gdev c (jk c k)) (some (true, t, zv c))) $$ HC
  iapply (Rounds.wp_send_pointsTo 𝒱₀ ER (Rd m) (c : Thread nD τ) none (κ₁ := K (c, some (false, t, jk c k))) (κ₂ := K (gdev c (jk c k), some (true, t, zv c)))
      (sS := .dma (sndS t (jk c k))) (sem := .dma (rcvS t (zv c)))
      (r₁ := 0) (r₂ := 0) (d₁ := 0) (d₂ := 0) (fd := fd)
      (by rw [show ((c : Thread nD τ), SemLoc.dma (sndS t (jk c k))) = sCell c t (jk c k) from rfl, duties_k, dutI_ne c false t (jk_ne c hk)]; exact Finset.mem_singleton_self _)
      (by rw [show ((gdev c (jk c k) : Thread nD τ), SemLoc.dma (rcvS t (zv c))) = rCell (gdev c (jk c k)) t (zv c) from rfl, duties_k, dutI_ne _ true t (zv_ne_jk c hk)]; exact Finset.mem_singleton_self _)
      () () (crT t) hN (amount_k m c (some (false, t, jk c k)) 0 0) (amount_k m (gdev c (jk c k)) (some (true, t, zv c)) 0 0) (Ow c n) (Ow_succ c hn ho) (W := W)
      (by rw [show ((c : Thread nD τ), SemLoc.dma (sndS t (jk c k))) = sCell c t (jk c k) from rfl, payload_k]; exact hpay₁)
      (by rw [show ((gdev c (jk c k) : Thread nD τ), SemLoc.dma (rcvS t (zv c))) = rCell (gdev c (jk c k)) t (zv c) from rfl, payload_k]; exact hpay₂)) $$ [Hs Hd HO HT1 HT2]
  · isplitr; · iexact HI1
    isplitr; · iexact HI2
    isplitl [Hs]; · iexact Hs
    isplitl [Hd]; · iexact Hd
    isplitl [HO]; · iexact HO
    isplitl [HT1]; · iexact HT1
    isplitr; · iexact HR1
    isplitl [HT2]; · iexact HT2
    iexact HR2
  iintro ⟨Hc, HO⟩
  iapply Hk
  isplitl [Hc]; · iexact Hc
  iexists W; iexact HO

/-! ## Local copies -/

/-- A copy on semaphore `i` under way: its wait, for `N`, gives `D`. -/
def Fly (c : Dev nD) (i : Fin 4) (N : ℕ) (D : sProp 𝕄) : sProp 𝕄 :=
  iprop(∃ D₀ : sProp 𝕄, ∃ R : sProp 𝕄, Transfers.Flight EC (c : Thread nD τ) (.dma (cpyS i)) () N D₀ ∗ R ∗ ⌜iprop(D₀ ∗ R) ⊢ D⌝)
/-- The semaphore idle. -/
def cIdle (c : Dev nD) (i : Fin 4) : sProp 𝕄 := semVal ((c : Thread nD τ), SemLoc.dma (cpyS i)) 0

theorem cp_start {i : Fin 4} {sm : DmaSem sig} (hsm : sm = cpyS i) {cs cs' : Space} {s : Shape} {e : EltTy} {src : Memref sig .tc cs s e} {dst : Memref sig .tc cs' s e}
    {h1 : src.view.WordExact} {h2 : dst.view.WordExact} {h3 : DmaTarget.Typed (nD := nD) cs (.dma sm) (DmaTarget.here (τ := τ) (p := .tc) dst)} {q : Sh}
    {fs : Buf (Elt F) (src.view.loc (c : Thread nD τ))} {Sd : Finset (Idx (dst.view.loc (c : Thread nD τ)))} {fd : Buf (Elt F) (dst.view.loc (c : Thread nD τ))}
    (N : ℕ) (hN : dst.view.amount (.dma sm) = N) (hN0 : 0 < N) (hSd : dst.view.set ⊆ Sd) {R D : sProp 𝕄}
    (hD : iprop(((dst.view.loc (c : Thread nD τ) ↦[Sd]{fullShare} (dst.view.write (Elt F) fd (src.view.read (Elt F) fs) Finset.univ))
            ∗ (src.view.loc (c : Thread nD τ) ↦[src.view.set]{q} fs)) ∗ R) ⊢ D) {kk : PUnit → Prog (TpuEff nD τ sig (Elt F) Λ₀ .tc) α} :
    iprop((src.view.loc (c : Thread nD τ) ↦[src.view.set]{q} fs) ∗ R ∗ (dst.view.loc (c : Thread nD τ) ↦[Sd]{fullShare} fd) ∗ cIdle c i)
      ⊢ iprop((Fly c i N D -∗ WP c (kk ⟨⟩) Q) -∗ WP c (.op (.enqueueDma src (.here dst) (.dma sm) h1 h2 h3) kk) Q) := by
  subst hsm
  unfold cIdle Fly
  iintro ⟨Hs, HR, Hd, Hv⟩ Hk
  iapply (Transfers.wp_dmaLocal EC 𝒱₀ (c : Thread nD τ) none () N hN hN0 hSd) $$ [Hs Hd Hv]
  · isplitl [Hs]; · iexact Hs
    isplitl [Hd]; · iexact Hd
    iexact Hv
  iintro HF
  iapply Hk
  iexists _; iexists R
  isplitl [HF]; · iexact HF
  isplitl [HR]; · iexact HR
  ipureintro; exact hD

theorem cp_wait {i : Fin 4} {n : ℕ} (hn : n ≤ 18) {sm : DmaSem sig} (hsm : sm = cpyS i) {cs cs' : Space} {s s' : Shape} {e e' : EltTy} {srcw : Memref sig .tc cs s e} {dstw : Memref sig .tc cs' s' e'}
    {h1 : srcw.view.WordExact} {h2 : dstw.view.WordExact} {N : ℕ} (hN : dstw.view.dmaCredit = N) {D : sProp 𝕄} {kk : PUnit → Prog (TpuEff nD τ sig (Elt F) Λ₀ .tc) α} :
    iprop(ctx m K ∗ Fly c i N D ∗ OW c n)
      ⊢ iprop(((D ∗ cIdle c i ∗ OW c n) -∗ WP c (kk ⟨⟩) Q) -∗ WP c (.op (.waitDma2 sm srcw dstw h1 h2) kk) Q) := by
  subst hsm
  unfold cIdle Fly OW
  iintro ⟨#HC, ⟨%D₀, %R, HF, HR, %hD⟩, %W, HO⟩ Hk
  ihave #HV := (ctx_lev m K) $$ HC
  iapply (Transfers.wp_waitLocalO EC 𝒱₀ (c : Thread nD τ) none () hN (O := Ow c n) (W := W)) $$ [HF HO]
  · isplitl [HF]; · iexact HF
    isplitl [HO]; · iexact HO
    iapply (mayWait_Ow c (.dma (cpyS i)) n hn (by
      have h0 : lvI (deco (.dma (cpyS i))) = 0 := by revert i; decide
      intro i' _; rw [h0]; unfold oblL; split; · decide
      split <;> decide)); iexact HV
  iintro ⟨HD, Hv, HO⟩
  iapply Hk
  isplitl [HD HR]
  · iapply hD
    isplitl [HD]; · iexact HD
    iexact HR
  isplitl [Hv]; · iexact Hv
  iexists _; iexact HO

end

end Cert.KProof
-- ==== Proof.Copies.lean ====
/-
  The local copies.
-/
module

public import proofs.«01_k».proof.Proof.Steps

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A whole buffer of device `c`. -/
abbrev bufP (c : Dev nD) (b : Ref sig .tc) (f : Buf (Elt F) ((c : Thread nD τ).loc b)) : sProp 𝕄 := ((c : Thread nD τ).loc b) ↦{fullShare} f

/-! ## Local copies of the weights -/

abbrev nQ : ℕ := (Memref.whole cc0_scratch5 : Memref sig .tc .vmem S2048x512 .f32).view.dmaCredit
abbrev nQr : ℕ := (Memref.whole cc0_scratch6 : Memref sig .tc .vmem S2048x128 .f32).view.dmaCredit
theorem inb_wf0 : ∀ a, (![0, 0, 0] : Fin 3 → ℕ) a + S1x256x2048.size a ≤ S2x256x2048.size a := by decide
abbrev nWo : ℕ := (((Memref.whole cc0_scratch7).slice (Rect.unit (s := S2x256x2048) ![0, 0, 0] S1x256x2048.size inb_wf0) (fun _ => rfl)).squeeze S256x2048 squeezes_S1x256x2048_S256x2048 : Memref sig .tc .vmem S256x2048 .f32).view.dmaCredit

/-- The query weights' copy under way. -/
def flyQ (c : Dev nD) : sProp 𝕄 := Fly c 0 nQ iprop(bufP c cc0_scratch5 (wqF m c) ∗ bufP c main_arg4 (wqM m c))
def flyQr (c : Dev nD) : sProp 𝕄 := Fly c 1 nQr iprop(bufP c cc0_scratch6 (wqrF m c) ∗ bufP c main_arg5 (wqrM m c))

/-- The share of the output weights that slot `s`'s copies read with. -/
def woP (c : Dev nD) (s : Fin 2) : sProp 𝕄 := ((c : Thread nD τ).loc main_arg7) ↦{Transfers.shareTok fullShare 2 s} (woM m c)
abbrev cW (s : Fin 2) : Fin 4 := ⟨2 + s.val, by have := s.isLt; omega⟩
/-- Slot `s` of the staged output weights: idle, under way with half `e` of place `j`'s rows, and holding them. -/
def woI (c : Dev nD) (s : Fin 2) : sProp 𝕄 := iprop((∃ f, wfP c s f) ∗ woP m c s ∗ cIdle c (cW s))
def woF (c : Dev nD) (s : Fin 2) (j : Fin 4) (e : Fin 2) : sProp 𝕄 := Fly c (cW s) nWo iprop(wfP c s (wfC (woB m c j e)) ∗ woP m c s)
def woR (c : Dev nD) (s : Fin 2) (j : Fin 4) (e : Fin 2) : sProp 𝕄 := iprop(wfP c s (wfC (woB m c j e)) ∗ woP m c s ∗ cIdle c (cW s))

section

variable {m}
variable {α : Type} {Q : α → sProp (MT nD τ sig Unit (Elt F) ℕ UU ℕ)} (c : Dev nD) (K : Dev nD × CI → ℕ)

theorem wq_start {off : Fin 2 → ℕ} (h : off = ![0, 512 * (c.val % 4)]) {inb} {sm : DmaSem sig} (hsm : sm = cpyS 0)
    {h1 : (((Memref.whole main_arg4).slice (Rect.unit (s := S2048x2048) off S2048x512.size inb) (fun _ => rfl)) : Memref sig .tc .hbm S2048x512 .f32).view.WordExact}
    {h2 : (Memref.whole cc0_scratch5 : Memref sig .tc .vmem S2048x512 .f32).view.WordExact} {h3} {fd : Buf (Elt F) ((c : Thread nD τ).loc cc0_scratch5)}
    {kk : PUnit → Prog (TpuEff nD τ sig (Elt F) Λ₀ .tc) α} :
    iprop(bufP c main_arg4 (wqM m c) ∗ bufP c cc0_scratch5 fd ∗ cIdle c 0)
      ⊢ iprop((flyQ m c -∗ WP c (kk ⟨⟩) Q) -∗ WP c (.op (.enqueueDma ((Memref.whole main_arg4).slice (Rect.unit (s := S2048x2048) off S2048x512.size inb) (fun _ => rfl))
          (.here (Memref.whole cc0_scratch5)) (.dma sm) h1 h2 h3) kk) Q) := by
  have hD : iprop((bufP c cc0_scratch5 ((Memref.whole cc0_scratch5).view.write (Elt F) fd ((((Memref.whole main_arg4).slice (Rect.unit (s := S2048x2048) off S2048x512.size inb) (fun _ => rfl)) : Memref sig .tc .hbm S2048x512 .f32).view.read (Elt F) (wqM m c)) Finset.univ)
      ∗ (((c : Thread nD τ).loc main_arg4) ↦[(((Memref.whole main_arg4).slice (Rect.unit (s := S2048x2048) off S2048x512.size inb) (fun _ => rfl)) : Memref sig .tc .hbm S2048x512 .f32).view.set]{fullShare} (wqM m c)))
      ∗ (((c : Thread nD τ).loc main_arg4) ↦[Finset.univ \ (((Memref.whole main_arg4).slice (Rect.unit (s := S2048x2048) off S2048x512.size inb) (fun _ => rfl)) : Memref sig .tc .hbm S2048x512 .f32).view.set]{fullShare} (wqM m c)))
      ⊢ iprop(bufP c cc0_scratch5 (wqF m c) ∗ bufP c main_arg4 (wqM m c)) := by
    rw [land_wq m c h inb, show (Memref.whole cc0_scratch5).view.write (Elt F) fd (wqF m c) Finset.univ = wqF m c from View.write_whole_univ _ _ _]
    iintro ⟨⟨Hd, Hs⟩, HR⟩
    isplitl [Hd]; · iexact Hd
    iapply (pointsTo_split_subset (Finset.subset_univ (((Memref.whole main_arg4).slice (Rect.unit (s := S2048x2048) off S2048x512.size inb) (fun _ => rfl)) : Memref sig .tc .hbm S2048x512 .f32).view.set)).2
    isplitl [Hs]; · iexact Hs
    iexact HR
  unfold flyQ
  iintro ⟨Hs, Hd, Hv⟩ Hk
  ihave Hs' := (pointsTo_split_subset (Finset.subset_univ (((Memref.whole main_arg4).slice (Rect.unit (s := S2048x2048) off S2048x512.size inb) (fun _ => rfl)) : Memref sig .tc .hbm S2048x512 .f32).view.set)).1 $$ Hs
  icases Hs' with ⟨Hs, HR⟩
  iapply (cp_start c (i := 0) hsm (h1 := h1) (h2 := h2) (h3 := h3) nQ rfl (View.dmaCredit_pos _ (by decide)) (Finset.subset_univ _) hD) $$ [Hs HR Hd Hv]
  · isplitl [Hs]; · iexact Hs
    isplitl [HR]; · iexact HR
    isplitl [Hd]; · iexact Hd
    iexact Hv
  iexact Hk

theorem wqr_start {off : Fin 2 → ℕ} (h : off = ![0, 128 * (c.val % 4)]) {inb} {sm : DmaSem sig} (hsm : sm = cpyS 1)
    {h1 : (((Memref.whole main_arg5).slice (Rect.unit (s := S2048x512) off S2048x128.size inb) (fun _ => rfl)) : Memref sig .tc .hbm S2048x128 .f32).view.WordExact}
    {h2 : (Memref.whole cc0_scratch6 : Memref sig .tc .vmem S2048x128 .f32).view.WordExact} {h3} {fd : Buf (Elt F) ((c : Thread nD τ).loc cc0_scratch6)}
    {kk : PUnit → Prog (TpuEff nD τ sig (Elt F) Λ₀ .tc) α} :
    iprop(bufP c main_arg5 (wqrM m c) ∗ bufP c cc0_scratch6 fd ∗ cIdle c 1)
      ⊢ iprop((flyQr m c -∗ WP c (kk ⟨⟩) Q) -∗ WP c (.op (.enqueueDma ((Memref.whole main_arg5).slice (Rect.unit (s := S2048x512) off S2048x128.size inb) (fun _ => rfl))
          (.here (Memref.whole cc0_scratch6)) (.dma sm) h1 h2 h3) kk) Q) := by
  have hD : iprop((bufP c cc0_scratch6 ((Memref.whole cc0_scratch6).view.write (Elt F) fd ((((Memref.whole main_arg5).slice (Rect.unit (s := S2048x512) off S2048x128.size inb) (fun _ => rfl)) : Memref sig .tc .hbm S2048x128 .f32).view.read (Elt F) (wqrM m c)) Finset.univ)
      ∗ (((c : Thread nD τ).loc main_arg5) ↦[(((Memref.whole main_arg5).slice (Rect.unit (s := S2048x512) off S2048x128.size inb) (fun _ => rfl)) : Memref sig .tc .hbm S2048x128 .f32).view.set]{fullShare} (wqrM m c)))
      ∗ (((c : Thread nD τ).loc main_arg5) ↦[Finset.univ \ (((Memref.whole main_arg5).slice (Rect.unit (s := S2048x512) off S2048x128.size inb) (fun _ => rfl)) : Memref sig .tc .hbm S2048x128 .f32).view.set]{fullShare} (wqrM m c)))
      ⊢ iprop(bufP c cc0_scratch6 (wqrF m c) ∗ bufP c main_arg5 (wqrM m c)) := by
    rw [land_wqr m c h inb, show (Memref.whole cc0_scratch6).view.write (Elt F) fd (wqrF m c) Finset.univ = wqrF m c from View.write_whole_univ _ _ _]
    iintro ⟨⟨Hd, Hs⟩, HR⟩
    isplitl [Hd]; · iexact Hd
    iapply (pointsTo_split_subset (Finset.subset_univ (((Memref.whole main_arg5).slice (Rect.unit (s := S2048x512) off S2048x128.size inb) (fun _ => rfl)) : Memref sig .tc .hbm S2048x128 .f32).view.set)).2
    isplitl [Hs]; · iexact Hs
    iexact HR
  unfold flyQr
  iintro ⟨Hs, Hd, Hv⟩ Hk
  ihave Hs' := (pointsTo_split_subset (Finset.subset_univ (((Memref.whole main_arg5).slice (Rect.unit (s := S2048x512) off S2048x128.size inb) (fun _ => rfl)) : Memref sig .tc .hbm S2048x128 .f32).view.set)).1 $$ Hs
  icases Hs' with ⟨Hs, HR⟩
  iapply (cp_start c (i := 1) hsm (h1 := h1) (h2 := h2) (h3 := h3) nQr rfl (View.dmaCredit_pos _ (by decide)) (Finset.subset_univ _) hD) $$ [Hs HR Hd Hv]
  · isplitl [Hs]; · iexact Hs
    isplitl [HR]; · iexact HR
    isplitl [Hd]; · iexact Hd
    iexact Hv
  iexact Hk

omit [FloatOps F] in
theorem wf_set (s : Fin 2) {off' : Fin 3 → ℕ} (h' : off' = ![s.val, 0, 0]) (inb') : ((((Memref.whole cc0_scratch7).slice (Rect.unit (s := S2x256x2048) off' S1x256x2048.size inb') (fun _ => rfl)).squeeze S256x2048 squeezes_S1x256x2048_S256x2048) : Memref sig .tc .vmem S256x2048 .f32).view.set = wfSet s := by
  rw [← rect_wf s h' inb', ← set_whole_slice cc0_scratch7]
  exact View.set_reshape _ squeezes_S1x256x2048_S256x2048.numel_eq
theorem wo_start {s e : Fin 2} {j : Fin 4} {off : Fin 2 → ℕ} {off' : Fin 3 → ℕ} (h : off = ![512 * j.val + 256 * e.val, 0]) (h' : off' = ![s.val, 0, 0]) {inb} {inb'}
    {sm : DmaSem sig} (hsm : sm = cpyS (cW s))
    {h1 : (((Memref.whole main_arg7).slice (Rect.unit (s := S2048x2048) off S256x2048.size inb) (fun _ => rfl)) : Memref sig .tc .hbm S256x2048 .f32).view.WordExact} {h2 : ((((Memref.whole cc0_scratch7).slice (Rect.unit (s := S2x256x2048) off' S1x256x2048.size inb') (fun _ => rfl)).squeeze S256x2048 squeezes_S1x256x2048_S256x2048) : Memref sig .tc .vmem S256x2048 .f32).view.WordExact} {h3}
    {kk : PUnit → Prog (TpuEff nD τ sig (Elt F) Λ₀ .tc) α} :
    woI m c s ⊢ iprop((woF m c s j e -∗ WP c (kk ⟨⟩) Q) -∗ WP c (.op (.enqueueDma ((Memref.whole main_arg7).slice (Rect.unit (s := S2048x2048) off S256x2048.size inb) (fun _ => rfl))
          (.here (((Memref.whole cc0_scratch7).slice (Rect.unit (s := S2x256x2048) off' S1x256x2048.size inb') (fun _ => rfl)).squeeze S256x2048 squeezes_S1x256x2048_S256x2048)) (.dma sm) h1 h2 h3) kk) Q) := by
  have hD (fd : Vec F S2x256x2048 .f32) : iprop((wfP c s (((((Memref.whole cc0_scratch7).slice (Rect.unit (s := S2x256x2048) off' S1x256x2048.size inb') (fun _ => rfl)).squeeze S256x2048 squeezes_S1x256x2048_S256x2048) : Memref sig .tc .vmem S256x2048 .f32).view.write (Elt F) fd ((((Memref.whole main_arg7).slice (Rect.unit (s := S2048x2048) off S256x2048.size inb) (fun _ => rfl)) : Memref sig .tc .hbm S256x2048 .f32).view.read (Elt F) (woM m c)) Finset.univ)
      ∗ (((c : Thread nD τ).loc main_arg7) ↦[(((Memref.whole main_arg7).slice (Rect.unit (s := S2048x2048) off S256x2048.size inb) (fun _ => rfl)) : Memref sig .tc .hbm S256x2048 .f32).view.set]{Transfers.shareTok fullShare 2 s} (woM m c)))
      ∗ (((c : Thread nD τ).loc main_arg7) ↦[Finset.univ \ (((Memref.whole main_arg7).slice (Rect.unit (s := S2048x2048) off S256x2048.size inb) (fun _ => rfl)) : Memref sig .tc .hbm S256x2048 .f32).view.set]{Transfers.shareTok fullShare 2 s} (woM m c)))
      ⊢ iprop(wfP c s (wfC (woB m c j e)) ∗ woP m c s) := by
    unfold wfP woP
    rw [pointsTo_congr (land_wo m c j e s h h' inb inb' fd)]
    iintro ⟨⟨Hd, Hs⟩, HR⟩
    isplitl [Hd]; · iexact Hd
    iapply (pointsTo_split_subset (Finset.subset_univ (((Memref.whole main_arg7).slice (Rect.unit (s := S2048x2048) off S256x2048.size inb) (fun _ => rfl)) : Memref sig .tc .hbm S256x2048 .f32).view.set)).2
    isplitl [Hs]; · iexact Hs
    iexact HR
  unfold woI woF
  iintro ⟨⟨%fd, Hd⟩, Hs, Hv⟩ Hk
  unfold woP
  ihave Hs' := (pointsTo_split_subset (Finset.subset_univ (((Memref.whole main_arg7).slice (Rect.unit (s := S2048x2048) off S256x2048.size inb) (fun _ => rfl)) : Memref sig .tc .hbm S256x2048 .f32).view.set)).1 $$ Hs
  icases Hs' with ⟨Hs, HR⟩
  iapply (cp_start c (i := cW s) hsm (h1 := h1) (h2 := h2) (h3 := h3) nWo rfl (View.dmaCredit_pos _ (by decide)) (Sd := wfSet s) (by rw [wf_set s h' inb']) (hD fd)) $$ [Hs HR Hd Hv]
  · isplitl [Hs]; · iexact Hs
    isplitl [HR]; · iexact HR
    isplitl [Hd]; · unfold wfP; iexact Hd
    iexact Hv
  iexact Hk

theorem wo_idle (s e : Fin 2) (j : Fin 4) : woR m c s j e ⊢ woI m c s := by
  unfold woR woI
  iintro ⟨Hd, H⟩
  isplitl [Hd]; · iexists _; iexact Hd
  iexact H

theorem wq_wait {n : ℕ} (hn : n ≤ 18) {sm : DmaSem sig} (hsm : sm = cpyS 0) {cs : Space} {s' : Shape} {e' : EltTy} {srcw : Memref sig .tc cs s' e'}
    {h1 : srcw.view.WordExact} {h2 : (Memref.whole cc0_scratch5 : Memref sig .tc .vmem S2048x512 .f32).view.WordExact} {kk : PUnit → Prog (TpuEff nD τ sig (Elt F) Λ₀ .tc) α} :
    iprop(ctx m K ∗ flyQ m c ∗ OW c n)
      ⊢ iprop((((bufP c cc0_scratch5 (wqF m c) ∗ bufP c main_arg4 (wqM m c)) ∗ cIdle c 0 ∗ OW c n) -∗ WP c (kk ⟨⟩) Q) -∗ WP c (.op (.waitDma2 sm srcw (Memref.whole cc0_scratch5) h1 h2) kk) Q) := by
  unfold flyQ; exact cp_wait c K hn hsm rfl
theorem wqr_wait {n : ℕ} (hn : n ≤ 18) {sm : DmaSem sig} (hsm : sm = cpyS 1) {cs : Space} {s' : Shape} {e' : EltTy} {srcw : Memref sig .tc cs s' e'}
    {h1 : srcw.view.WordExact} {h2 : (Memref.whole cc0_scratch6 : Memref sig .tc .vmem S2048x128 .f32).view.WordExact} {kk : PUnit → Prog (TpuEff nD τ sig (Elt F) Λ₀ .tc) α} :
    iprop(ctx m K ∗ flyQr m c ∗ OW c n)
      ⊢ iprop((((bufP c cc0_scratch6 (wqrF m c) ∗ bufP c main_arg5 (wqrM m c)) ∗ cIdle c 1 ∗ OW c n) -∗ WP c (kk ⟨⟩) Q) -∗ WP c (.op (.waitDma2 sm srcw (Memref.whole cc0_scratch6) h1 h2) kk) Q) := by
  unfold flyQr; exact cp_wait c K hn hsm rfl
theorem wo_wait {n : ℕ} (hn : n ≤ 18) {s e : Fin 2} {j : Fin 4} {sm : DmaSem sig} (hsm : sm = cpyS (cW s)) {cs : Space} {s' : Shape} {e' : EltTy} {srcw : Memref sig .tc cs s' e'} {off' : Fin 3 → ℕ} {inb'}
    {h1 : srcw.view.WordExact} {h2 : ((((Memref.whole cc0_scratch7).slice (Rect.unit (s := S2x256x2048) off' S1x256x2048.size inb') (fun _ => rfl)).squeeze S256x2048 squeezes_S1x256x2048_S256x2048) : Memref sig .tc .vmem S256x2048 .f32).view.WordExact} {kk : PUnit → Prog (TpuEff nD τ sig (Elt F) Λ₀ .tc) α} :
    iprop(ctx m K ∗ woF m c s j e ∗ OW c n)
      ⊢ iprop(((woR m c s j e ∗ OW c n) -∗ WP c (kk ⟨⟩) Q) -∗ WP c (.op (.waitDma2 sm srcw (((Memref.whole cc0_scratch7).slice (Rect.unit (s := S2x256x2048) off' S1x256x2048.size inb') (fun _ => rfl)).squeeze S256x2048 squeezes_S1x256x2048_S256x2048) h1 h2) kk) Q) := by
  unfold woF woR
  iintro ⟨#HC, HF, HO⟩ Hk
  iapply (cp_wait (m := m) c K hn hsm (h1 := h1) (h2 := h2) (N := nWo) rfl) $$ [HF HO]
  · isplitr; · iexact HC
    isplitl [HF]; · iexact HF
    iexact HO
  iintro ⟨⟨H1, H2⟩, H3, HO⟩
  iapply Hk
  isplitl [H1 H2 H3]
  · isplitl [H1]; · iexact H1
    isplitl [H2]; · iexact H2
    iexact H3
  iexact HO

end

end Cert.KProof
-- ==== Proof.Sends.lean ====
/-
  The transfers and their waits, array by array.
-/
module

public import proofs.«01_k».proof.Proof.Copies

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable {α : Type} {Q : α → sProp (MT nD τ sig Unit (Elt F) ℕ UU ℕ)} (c : Dev nD) (K : Dev nD × CI → ℕ)

/-! ## The slots as sets of elements -/

theorem gc_set (j : Fin 4) {off : Fin 3 → ℕ} (h : off = ![j.val, 0, 0]) (inb) : ((((Memref.whole cc0_scratch0).slice (Rect.unit (s := S4x1024x128) off S1x1024x128.size inb) (fun _ => rfl)).squeeze S1024x128 squeezes_S1x1024x128_S1024x128) : Memref sig .tc .vmem S1024x128 .bf16).view.set = gcSet j := by
  rw [← rect_gc j h inb, ← set_whole_slice cc0_scratch0]
  exact View.set_reshape _ squeezes_S1x1024x128_S1024x128.numel_eq
theorem guk_set (j : Fin 4) {off : Fin 3 → ℕ} (h : off = ![j.val, 0, 0]) (inb) : ((((Memref.whole cc0_scratch1).slice (Rect.unit (s := S4x128x512) off S1x128x512.size inb) (fun _ => rfl)).squeeze S128x512 squeezes_S1x128x512_S128x512) : Memref sig .tc .vmem S128x512 .bf16).view.set = guSet j := by
  rw [← rect_gu j h inb, ← set_whole_slice cc0_scratch1]
  exact View.set_reshape _ squeezes_S1x128x512_S128x512.numel_eq
theorem guv_set (j : Fin 4) {off : Fin 3 → ℕ} (h : off = ![j.val, 0, 0]) (inb) : ((((Memref.whole cc0_scratch2).slice (Rect.unit (s := S4x128x512) off S1x128x512.size inb) (fun _ => rfl)).squeeze S128x512 squeezes_S1x128x512_S128x512) : Memref sig .tc .vmem S128x512 .bf16).view.set = guSet j := by
  rw [← rect_gu j h inb, ← set_whole_slice cc0_scratch2]
  exact View.set_reshape _ squeezes_S1x128x512_S128x512.numel_eq
theorem os_set (j : Fin 4) (e : Fin 2) {off : Fin 4 → ℕ} (h : off = ![j.val, e.val, 0, 0]) (inb) : ((((Memref.whole cc0_scratch12).slice (Rect.unit (s := S4x2x1024x256) off S1x1x1024x256.size inb) (fun _ => rfl)).squeeze S1024x256 squeezes_S1x1x1024x256_S1024x256) : Memref sig .tc .vmem S1024x256 .bf16).view.set = osSet j e := by
  rw [← rect_os j e h inb, ← set_whole_slice cc0_scratch12]
  exact View.set_reshape _ squeezes_S1x1x1024x256_S1024x256.numel_eq
theorem wuk_set (j : Fin 4) {off8 : Fin 2 → ℕ} (h : off8 = ![0, 512 * j.val]) (inb8) : (((Memref.whole cc0_scratch3).slice (Rect.unit (s := S128x2048) off8 S128x512.size inb8) (fun _ => rfl)) : Memref sig .tc .vmem S128x512 .bf16).view.set = wkSet j := by
  rw [← rect_wk j h inb8, ← set_whole_slice cc0_scratch3]
theorem wuv_set (j : Fin 4) {off8 : Fin 2 → ℕ} (h : off8 = ![0, 512 * j.val]) (inb8) : (((Memref.whole cc0_scratch4).slice (Rect.unit (s := S128x2048) off8 S128x512.size inb8) (fun _ => rfl)) : Memref sig .tc .vmem S128x512 .bf16).view.set = wkSet j := by
  rw [← rect_wk j h inb8, ← set_whole_slice cc0_scratch4]

/-! ## The transfers -/

theorem send_uk {k : Fin 4} (hk : k ≠ 0) {n : ℕ} (hn : n < 15) (ho : oblT n = (1, k)) {p : Dev nD} (hp : p = gdev c (jk c k))
    {sS sR : DmaSem sig} (hsS : sS = sndS 1 (jk c k)) (hsR : sR = rcvS 1 (zv c)) {off : Fin 3 → ℕ} {off8 : Fin 2 → ℕ} (h8 : off8 = ![0, 512 * (jk c k).val]) (h : off = ![(zv c).val, 0, 0]) {inb8} {inb}
    {hsc : ((((Memref.whole cc0_scratch1).slice (Rect.unit (s := S4x128x512) off S1x128x512.size inb) (fun _ => rfl)).squeeze S128x512 squeezes_S1x128x512_S128x512) : Memref sig .tc .vmem S128x512 .bf16).view.ref.isScScratch = false} {h1 : (((Memref.whole cc0_scratch3).slice (Rect.unit (s := S128x2048) off8 S128x512.size inb8) (fun _ => rfl)) : Memref sig .tc .vmem S128x512 .bf16).view.WordExact} {h2 : ((((Memref.whole cc0_scratch1).slice (Rect.unit (s := S4x128x512) off S1x128x512.size inb) (fun _ => rfl)).squeeze S128x512 squeezes_S1x128x512_S128x512) : Memref sig .tc .vmem S128x512 .bf16).view.WordExact}
    {h3 : DmaTarget.Typed .vmem (.dma sR) (.remote (Dev.tc p : Thread nD τ) (((Memref.whole cc0_scratch1).slice (Rect.unit (s := S4x128x512) off S1x128x512.size inb) (fun _ => rfl)).squeeze S128x512 squeezes_S1x128x512_S128x512) (.dma sS) hsc)}
    {kk : PUnit → Prog (TpuEff nD τ sig (Elt F) Λ₀ .tc) α} :
    iprop(ctx m K ∗ wukP c (jk c k) (wukB m c) ∗ (∃ f, gukP (gdev c (jk c k)) (zv c) fullShare f) ∗ OW c (n + 1) ∗ sTok c 1 k)
      ⊢ iprop(((sCred c 1 k ∗ OW c n) -∗ WP c (kk ⟨⟩) Q)
        -∗ WP c (.op (.enqueueDma ((Memref.whole cc0_scratch3).slice (Rect.unit (s := S128x2048) off8 S128x512.size inb8) (fun _ => rfl)) (.remote (Dev.tc p : Thread nD τ) (((Memref.whole cc0_scratch1).slice (Rect.unit (s := S4x128x512) off S1x128x512.size inb) (fun _ => rfl)).squeeze S128x512 squeezes_S1x128x512_S128x512) (.dma sS) hsc) (.dma sR) h1 h2 h3) kk) Q) := by
  have es : (((Memref.whole cc0_scratch3).slice (Rect.unit (s := S128x2048) off8 S128x512.size inb8) (fun _ => rfl)) : Memref sig .tc .vmem S128x512 .bf16).view.set = wkSet (jk c k) := wuk_set _ h8 inb8
  have ed : ((((Memref.whole cc0_scratch1).slice (Rect.unit (s := S4x128x512) off S1x128x512.size inb) (fun _ => rfl)).squeeze S128x512 squeezes_S1x128x512_S128x512) : Memref sig .tc .vmem S128x512 .bf16).view.set = guSet (zv c) := guk_set _ h inb
  iintro ⟨#HC, Hs, ⟨%fd, Hd⟩, HO, HT⟩ Hk
  unfold wukP gukP
  rw [← es, ← ed]
  iapply (snd_step (m := m) c K hk hn ho hp hsS hsR (src := ((Memref.whole cc0_scratch3).slice (Rect.unit (s := S128x2048) off8 S128x512.size inb8) (fun _ => rfl))) (dst := (((Memref.whole cc0_scratch1).slice (Rect.unit (s := S4x128x512) off S1x128x512.size inb) (fun _ => rfl)).squeeze S128x512 squeezes_S1x128x512_S128x512)) (h1 := h1) (h2 := h2) (h3 := h3) (fd := fd) ((credit_tc _).trans crT_uk.symm)
      (by rw [es]; exact BI.Entails.refl _)
      (by rw [ed]; exact Entails.of_eq (pointsTo_congr (land_uk m c (jk c k) h8 h inb8 inb fd)))) $$ [Hs Hd HO HT]
  · isplitr; · iexact HC
    isplitl [Hs]; · iexact Hs
    isplitl [Hd]; · iexact Hd
    isplitl [HO]; · iexact HO
    iexact HT
  iexact Hk
theorem send_uv {k : Fin 4} (hk : k ≠ 0) {n : ℕ} (hn : n < 15) (ho : oblT n = (2, k)) {p : Dev nD} (hp : p = gdev c (jk c k))
    {sS sR : DmaSem sig} (hsS : sS = sndS 2 (jk c k)) (hsR : sR = rcvS 2 (zv c)) {off : Fin 3 → ℕ} {off8 : Fin 2 → ℕ} (h8 : off8 = ![0, 512 * (jk c k).val]) (h : off = ![(zv c).val, 0, 0]) {inb8} {inb}
    {hsc : ((((Memref.whole cc0_scratch2).slice (Rect.unit (s := S4x128x512) off S1x128x512.size inb) (fun _ => rfl)).squeeze S128x512 squeezes_S1x128x512_S128x512) : Memref sig .tc .vmem S128x512 .bf16).view.ref.isScScratch = false} {h1 : (((Memref.whole cc0_scratch4).slice (Rect.unit (s := S128x2048) off8 S128x512.size inb8) (fun _ => rfl)) : Memref sig .tc .vmem S128x512 .bf16).view.WordExact} {h2 : ((((Memref.whole cc0_scratch2).slice (Rect.unit (s := S4x128x512) off S1x128x512.size inb) (fun _ => rfl)).squeeze S128x512 squeezes_S1x128x512_S128x512) : Memref sig .tc .vmem S128x512 .bf16).view.WordExact}
    {h3 : DmaTarget.Typed .vmem (.dma sR) (.remote (Dev.tc p : Thread nD τ) (((Memref.whole cc0_scratch2).slice (Rect.unit (s := S4x128x512) off S1x128x512.size inb) (fun _ => rfl)).squeeze S128x512 squeezes_S1x128x512_S128x512) (.dma sS) hsc)}
    {kk : PUnit → Prog (TpuEff nD τ sig (Elt F) Λ₀ .tc) α} :
    iprop(ctx m K ∗ wuvP c (jk c k) (wuvB m c) ∗ (∃ f, guvP (gdev c (jk c k)) (zv c) fullShare f) ∗ OW c (n + 1) ∗ sTok c 2 k)
      ⊢ iprop(((sCred c 2 k ∗ OW c n) -∗ WP c (kk ⟨⟩) Q)
        -∗ WP c (.op (.enqueueDma ((Memref.whole cc0_scratch4).slice (Rect.unit (s := S128x2048) off8 S128x512.size inb8) (fun _ => rfl)) (.remote (Dev.tc p : Thread nD τ) (((Memref.whole cc0_scratch2).slice (Rect.unit (s := S4x128x512) off S1x128x512.size inb) (fun _ => rfl)).squeeze S128x512 squeezes_S1x128x512_S128x512) (.dma sS) hsc) (.dma sR) h1 h2 h3) kk) Q) := by
  have es : (((Memref.whole cc0_scratch4).slice (Rect.unit (s := S128x2048) off8 S128x512.size inb8) (fun _ => rfl)) : Memref sig .tc .vmem S128x512 .bf16).view.set = wkSet (jk c k) := wuv_set _ h8 inb8
  have ed : ((((Memref.whole cc0_scratch2).slice (Rect.unit (s := S4x128x512) off S1x128x512.size inb) (fun _ => rfl)).squeeze S128x512 squeezes_S1x128x512_S128x512) : Memref sig .tc .vmem S128x512 .bf16).view.set = guSet (zv c) := guv_set _ h inb
  iintro ⟨#HC, Hs, ⟨%fd, Hd⟩, HO, HT⟩ Hk
  unfold wuvP guvP
  rw [← es, ← ed]
  iapply (snd_step (m := m) c K hk hn ho hp hsS hsR (src := ((Memref.whole cc0_scratch4).slice (Rect.unit (s := S128x2048) off8 S128x512.size inb8) (fun _ => rfl))) (dst := (((Memref.whole cc0_scratch2).slice (Rect.unit (s := S4x128x512) off S1x128x512.size inb) (fun _ => rfl)).squeeze S128x512 squeezes_S1x128x512_S128x512)) (h1 := h1) (h2 := h2) (h3 := h3) (fd := fd) ((credit_tc _).trans crT_uv.symm)
      (by rw [es]; exact BI.Entails.refl _)
      (by rw [ed]; exact Entails.of_eq (pointsTo_congr (land_uv m c (jk c k) h8 h inb8 inb fd)))) $$ [Hs Hd HO HT]
  · isplitr; · iexact HC
    isplitl [Hs]; · iexact Hs
    isplitl [Hd]; · iexact Hd
    isplitl [HO]; · iexact HO
    iexact HT
  iexact Hk
theorem send_c {k : Fin 4} (hk : k ≠ 0) {n : ℕ} (hn : n < 15) (ho : oblT n = (0, k)) {p : Dev nD} (hp : p = gdev c (jk c k))
    {sS sR : DmaSem sig} (hsS : sS = sndS 0 (jk c k)) (hsR : sR = rcvS 0 (zv c)) {off : Fin 3 → ℕ} (h : off = ![(zv c).val, 0, 0]) {inb}
    {hsc : ((((Memref.whole cc0_scratch0).slice (Rect.unit (s := S4x1024x128) off S1x1024x128.size inb) (fun _ => rfl)).squeeze S1024x128 squeezes_S1x1024x128_S1024x128) : Memref sig .tc .vmem S1024x128 .bf16).view.ref.isScScratch = false} {h1 : ((((Memref.whole cc0_scratch0).slice (Rect.unit (s := S4x1024x128) off S1x1024x128.size inb) (fun _ => rfl)).squeeze S1024x128 squeezes_S1x1024x128_S1024x128) : Memref sig .tc .vmem S1024x128 .bf16).view.WordExact} {h2 : ((((Memref.whole cc0_scratch0).slice (Rect.unit (s := S4x1024x128) off S1x1024x128.size inb) (fun _ => rfl)).squeeze S1024x128 squeezes_S1x1024x128_S1024x128) : Memref sig .tc .vmem S1024x128 .bf16).view.WordExact}
    {h3 : DmaTarget.Typed .vmem (.dma sR) (.remote (Dev.tc p : Thread nD τ) (((Memref.whole cc0_scratch0).slice (Rect.unit (s := S4x1024x128) off S1x1024x128.size inb) (fun _ => rfl)).squeeze S1024x128 squeezes_S1x1024x128_S1024x128) (.dma sS) hsc)}
    {kk : PUnit → Prog (TpuEff nD τ sig (Elt F) Λ₀ .tc) α} :
    iprop(ctx m K ∗ gcP c (zv c) (shJ (jk c k)) (GC m c) ∗ (∃ f, gcP (gdev c (jk c k)) (zv c) fullShare f) ∗ OW c (n + 1) ∗ sTok c 0 k)
      ⊢ iprop(((sCred c 0 k ∗ OW c n) -∗ WP c (kk ⟨⟩) Q)
        -∗ WP c (.op (.enqueueDma (((Memref.whole cc0_scratch0).slice (Rect.unit (s := S4x1024x128) off S1x1024x128.size inb) (fun _ => rfl)).squeeze S1024x128 squeezes_S1x1024x128_S1024x128) (.remote (Dev.tc p : Thread nD τ) (((Memref.whole cc0_scratch0).slice (Rect.unit (s := S4x1024x128) off S1x1024x128.size inb) (fun _ => rfl)).squeeze S1024x128 squeezes_S1x1024x128_S1024x128) (.dma sS) hsc) (.dma sR) h1 h2 h3) kk) Q) := by
  have es : ((((Memref.whole cc0_scratch0).slice (Rect.unit (s := S4x1024x128) off S1x1024x128.size inb) (fun _ => rfl)).squeeze S1024x128 squeezes_S1x1024x128_S1024x128) : Memref sig .tc .vmem S1024x128 .bf16).view.set = gcSet (zv c) := gc_set _ h inb
  have ed : ((((Memref.whole cc0_scratch0).slice (Rect.unit (s := S4x1024x128) off S1x1024x128.size inb) (fun _ => rfl)).squeeze S1024x128 squeezes_S1x1024x128_S1024x128) : Memref sig .tc .vmem S1024x128 .bf16).view.set = gcSet (zv c) := gc_set _ h inb
  iintro ⟨#HC, Hs, ⟨%fd, Hd⟩, HO, HT⟩ Hk
  unfold gcP
  rw [← es]
  iapply (snd_step (m := m) c K hk hn ho hp hsS hsR (src := (((Memref.whole cc0_scratch0).slice (Rect.unit (s := S4x1024x128) off S1x1024x128.size inb) (fun _ => rfl)).squeeze S1024x128 squeezes_S1x1024x128_S1024x128)) (dst := (((Memref.whole cc0_scratch0).slice (Rect.unit (s := S4x1024x128) off S1x1024x128.size inb) (fun _ => rfl)).squeeze S1024x128 squeezes_S1x1024x128_S1024x128)) (h1 := h1) (h2 := h2) (h3 := h3) (fd := fd) ((credit_tc _).trans crT_c.symm)
      (by rw [es]; exact BI.Entails.refl _)
      (by rw [ed]; exact Entails.of_eq (pointsTo_congr (fun i hi => (land_self (((Memref.whole cc0_scratch0).slice (Rect.unit (s := S4x1024x128) off S1x1024x128.size inb) (fun _ => rfl)).squeeze S1024x128 squeezes_S1x1024x128_S1024x128).view fd (GC m c) i (ed ▸ hi)).trans (congrFun (GC_gdev m c (jk c k)) i).symm)))) $$ [Hs Hd HO HT]
  · isplitr; · iexact HC
    isplitl [Hs]; · iexact Hs
    isplitl [Hd]; · iexact Hd
    isplitl [HO]; · iexact HO
    iexact HT
  iexact Hk
theorem send_o0 {k : Fin 4} (hk : k ≠ 0) {n : ℕ} (hn : n < 15) (ho : oblT n = (3, k)) {p : Dev nD} (hp : p = gdev c (jk c k))
    {sS sR : DmaSem sig} (hsS : sS = sndS 3 (jk c k)) (hsR : sR = rcvS 3 (zv c)) {off : Fin 4 → ℕ} (h : off = ![(zv c).val, 0, 0, 0]) {inb}
    {hsc : ((((Memref.whole cc0_scratch12).slice (Rect.unit (s := S4x2x1024x256) off S1x1x1024x256.size inb) (fun _ => rfl)).squeeze S1024x256 squeezes_S1x1x1024x256_S1024x256) : Memref sig .tc .vmem S1024x256 .bf16).view.ref.isScScratch = false} {h1 : ((((Memref.whole cc0_scratch12).slice (Rect.unit (s := S4x2x1024x256) off S1x1x1024x256.size inb) (fun _ => rfl)).squeeze S1024x256 squeezes_S1x1x1024x256_S1024x256) : Memref sig .tc .vmem S1024x256 .bf16).view.WordExact} {h2 : ((((Memref.whole cc0_scratch12).slice (Rect.unit (s := S4x2x1024x256) off S1x1x1024x256.size inb) (fun _ => rfl)).squeeze S1024x256 squeezes_S1x1x1024x256_S1024x256) : Memref sig .tc .vmem S1024x256 .bf16).view.WordExact}
    {h3 : DmaTarget.Typed .vmem (.dma sR) (.remote (Dev.tc p : Thread nD τ) (((Memref.whole cc0_scratch12).slice (Rect.unit (s := S4x2x1024x256) off S1x1x1024x256.size inb) (fun _ => rfl)).squeeze S1024x256 squeezes_S1x1x1024x256_S1024x256) (.dma sS) hsc)}
    {kk : PUnit → Prog (TpuEff nD τ sig (Elt F) Λ₀ .tc) α} :
    iprop(ctx m K ∗ osP c (zv c) 0 (shJ (jk c k)) (OS m c) ∗ (∃ f, osP (gdev c (jk c k)) (zv c) 0 fullShare f) ∗ OW c (n + 1) ∗ sTok c 3 k)
      ⊢ iprop(((sCred c 3 k ∗ OW c n) -∗ WP c (kk ⟨⟩) Q)
        -∗ WP c (.op (.enqueueDma (((Memref.whole cc0_scratch12).slice (Rect.unit (s := S4x2x1024x256) off S1x1x1024x256.size inb) (fun _ => rfl)).squeeze S1024x256 squeezes_S1x1x1024x256_S1024x256) (.remote (Dev.tc p : Thread nD τ) (((Memref.whole cc0_scratch12).slice (Rect.unit (s := S4x2x1024x256) off S1x1x1024x256.size inb) (fun _ => rfl)).squeeze S1024x256 squeezes_S1x1x1024x256_S1024x256) (.dma sS) hsc) (.dma sR) h1 h2 h3) kk) Q) := by
  have es : ((((Memref.whole cc0_scratch12).slice (Rect.unit (s := S4x2x1024x256) off S1x1x1024x256.size inb) (fun _ => rfl)).squeeze S1024x256 squeezes_S1x1x1024x256_S1024x256) : Memref sig .tc .vmem S1024x256 .bf16).view.set = osSet (zv c) 0 := os_set _ 0 h inb
  have ed : ((((Memref.whole cc0_scratch12).slice (Rect.unit (s := S4x2x1024x256) off S1x1x1024x256.size inb) (fun _ => rfl)).squeeze S1024x256 squeezes_S1x1x1024x256_S1024x256) : Memref sig .tc .vmem S1024x256 .bf16).view.set = osSet (zv c) 0 := os_set _ 0 h inb
  iintro ⟨#HC, Hs, ⟨%fd, Hd⟩, HO, HT⟩ Hk
  unfold osP
  rw [← es]
  iapply (snd_step (m := m) c K hk hn ho hp hsS hsR (src := (((Memref.whole cc0_scratch12).slice (Rect.unit (s := S4x2x1024x256) off S1x1x1024x256.size inb) (fun _ => rfl)).squeeze S1024x256 squeezes_S1x1x1024x256_S1024x256)) (dst := (((Memref.whole cc0_scratch12).slice (Rect.unit (s := S4x2x1024x256) off S1x1x1024x256.size inb) (fun _ => rfl)).squeeze S1024x256 squeezes_S1x1x1024x256_S1024x256)) (h1 := h1) (h2 := h2) (h3 := h3) (fd := fd) ((credit_tc _).trans crT_o0.symm)
      (by rw [es]; exact BI.Entails.refl _)
      (by rw [ed]; exact Entails.of_eq (pointsTo_congr (fun i hi => (land_self (((Memref.whole cc0_scratch12).slice (Rect.unit (s := S4x2x1024x256) off S1x1x1024x256.size inb) (fun _ => rfl)).squeeze S1024x256 squeezes_S1x1x1024x256_S1024x256).view fd (OS m c) i (ed ▸ hi)).trans (congrFun (OS_gdev m c (jk c k)) i).symm)))) $$ [Hs Hd HO HT]
  · isplitr; · iexact HC
    isplitl [Hs]; · iexact Hs
    isplitl [Hd]; · iexact Hd
    isplitl [HO]; · iexact HO
    iexact HT
  iexact Hk
theorem send_o1 {k : Fin 4} (hk : k ≠ 0) {n : ℕ} (hn : n < 15) (ho : oblT n = (4, k)) {p : Dev nD} (hp : p = gdev c (jk c k))
    {sS sR : DmaSem sig} (hsS : sS = sndS 4 (jk c k)) (hsR : sR = rcvS 4 (zv c)) {off : Fin 4 → ℕ} (h : off = ![(zv c).val, 1, 0, 0]) {inb}
    {hsc : ((((Memref.whole cc0_scratch12).slice (Rect.unit (s := S4x2x1024x256) off S1x1x1024x256.size inb) (fun _ => rfl)).squeeze S1024x256 squeezes_S1x1x1024x256_S1024x256) : Memref sig .tc .vmem S1024x256 .bf16).view.ref.isScScratch = false} {h1 : ((((Memref.whole cc0_scratch12).slice (Rect.unit (s := S4x2x1024x256) off S1x1x1024x256.size inb) (fun _ => rfl)).squeeze S1024x256 squeezes_S1x1x1024x256_S1024x256) : Memref sig .tc .vmem S1024x256 .bf16).view.WordExact} {h2 : ((((Memref.whole cc0_scratch12).slice (Rect.unit (s := S4x2x1024x256) off S1x1x1024x256.size inb) (fun _ => rfl)).squeeze S1024x256 squeezes_S1x1x1024x256_S1024x256) : Memref sig .tc .vmem S1024x256 .bf16).view.WordExact}
    {h3 : DmaTarget.Typed .vmem (.dma sR) (.remote (Dev.tc p : Thread nD τ) (((Memref.whole cc0_scratch12).slice (Rect.unit (s := S4x2x1024x256) off S1x1x1024x256.size inb) (fun _ => rfl)).squeeze S1024x256 squeezes_S1x1x1024x256_S1024x256) (.dma sS) hsc)}
    {kk : PUnit → Prog (TpuEff nD τ sig (Elt F) Λ₀ .tc) α} :
    iprop(ctx m K ∗ osP c (zv c) 1 (shJ (jk c k)) (OS m c) ∗ (∃ f, osP (gdev c (jk c k)) (zv c) 1 fullShare f) ∗ OW c (n + 1) ∗ sTok c 4 k)
      ⊢ iprop(((sCred c 4 k ∗ OW c n) -∗ WP c (kk ⟨⟩) Q)
        -∗ WP c (.op (.enqueueDma (((Memref.whole cc0_scratch12).slice (Rect.unit (s := S4x2x1024x256) off S1x1x1024x256.size inb) (fun _ => rfl)).squeeze S1024x256 squeezes_S1x1x1024x256_S1024x256) (.remote (Dev.tc p : Thread nD τ) (((Memref.whole cc0_scratch12).slice (Rect.unit (s := S4x2x1024x256) off S1x1x1024x256.size inb) (fun _ => rfl)).squeeze S1024x256 squeezes_S1x1x1024x256_S1024x256) (.dma sS) hsc) (.dma sR) h1 h2 h3) kk) Q) := by
  have es : ((((Memref.whole cc0_scratch12).slice (Rect.unit (s := S4x2x1024x256) off S1x1x1024x256.size inb) (fun _ => rfl)).squeeze S1024x256 squeezes_S1x1x1024x256_S1024x256) : Memref sig .tc .vmem S1024x256 .bf16).view.set = osSet (zv c) 1 := os_set _ 1 h inb
  have ed : ((((Memref.whole cc0_scratch12).slice (Rect.unit (s := S4x2x1024x256) off S1x1x1024x256.size inb) (fun _ => rfl)).squeeze S1024x256 squeezes_S1x1x1024x256_S1024x256) : Memref sig .tc .vmem S1024x256 .bf16).view.set = osSet (zv c) 1 := os_set _ 1 h inb
  iintro ⟨#HC, Hs, ⟨%fd, Hd⟩, HO, HT⟩ Hk
  unfold osP
  rw [← es]
  iapply (snd_step (m := m) c K hk hn ho hp hsS hsR (src := (((Memref.whole cc0_scratch12).slice (Rect.unit (s := S4x2x1024x256) off S1x1x1024x256.size inb) (fun _ => rfl)).squeeze S1024x256 squeezes_S1x1x1024x256_S1024x256)) (dst := (((Memref.whole cc0_scratch12).slice (Rect.unit (s := S4x2x1024x256) off S1x1x1024x256.size inb) (fun _ => rfl)).squeeze S1024x256 squeezes_S1x1x1024x256_S1024x256)) (h1 := h1) (h2 := h2) (h3 := h3) (fd := fd) ((credit_tc _).trans crT_o1.symm)
      (by rw [es]; exact BI.Entails.refl _)
      (by rw [ed]; exact Entails.of_eq (pointsTo_congr (fun i hi => (land_self (((Memref.whole cc0_scratch12).slice (Rect.unit (s := S4x2x1024x256) off S1x1x1024x256.size inb) (fun _ => rfl)).squeeze S1024x256 squeezes_S1x1x1024x256_S1024x256).view fd (OS m c) i (ed ▸ hi)).trans (congrFun (OS_gdev m c (jk c k)) i).symm)))) $$ [Hs Hd HO HT]
  · isplitr; · iexact HC
    isplitl [Hs]; · iexact Hs
    isplitl [Hd]; · iexact Hd
    isplitl [HO]; · iexact HO
    iexact HT
  iexact Hk

/-! ## The waits -/

theorem rcv_wait {t : Fin 5} {k : Fin 4} (hk : k ≠ 0) {n : ℕ} (hn : n ≤ 18) (hlev : ∀ i < n, lvI (some (some (true, t, jk c k))) < oblL i)
    {sm : DmaSem sig} (hsm : sm = rcvS t (jk c k)) {cs cs' : Space} {s s' : Shape} {e e' : EltTy} {srcw : Memref sig .tc cs s e} {dstw : Memref sig .tc cs' s' e'}
    {h1 : srcw.view.WordExact} {h2 : dstw.view.WordExact} (hN : crT t = RefSig.tileCredit s' e') {kk : PUnit → Prog (TpuEff nD τ sig (Elt F) Λ₀ .tc) α} :
    iprop(ctx m K ∗ rCred c t k ∗ OW c n ∗ rPos c t k 0)
      ⊢ iprop(((rcvPay m c t (jk c k) ∗ OW c n ∗ rPos c t k 1) -∗ WP c (kk ⟨⟩) Q) -∗ WP c (.op (.waitDma2 sm srcw dstw h1 h2) kk) Q) :=
  cell_wait c K (jk_ne c hk) hn hlev (congrArg SemLoc.dma hsm) ((credit_tc _).trans hN.symm)
theorem snd_wait {t : Fin 5} {k : Fin 4} (hk : k ≠ 0)
    {sm : DmaSem sig} (hsm : sm = sndS t (jk c k)) {cs cs' : Space} {s s' : Shape} {e e' : EltTy} {srcw : Memref sig .tc cs s e} {dstw : Memref sig .tc cs' s' e'}
    {h1 : srcw.view.WordExact} {h2 : dstw.view.WordExact} (hN : crT t = RefSig.tileCredit s' e') {kk : PUnit → Prog (TpuEff nD τ sig (Elt F) Λ₀ .tc) α} :
    iprop(ctx m K ∗ sCred c t k ∗ OW c 0 ∗ sPos c t k 0)
      ⊢ iprop(((sndPay m c t (jk c k) ∗ OW c 0 ∗ sPos c t k 1) -∗ WP c (kk ⟨⟩) Q) -∗ WP c (.op (.waitDma2 sm srcw dstw h1 h2) kk) Q) :=
  cell_wait c K (jk_ne c hk) (by decide) (fun i h => absurd h (Nat.not_lt_zero i)) (congrArg SemLoc.dma hsm) ((credit_tc _).trans hN.symm)
theorem lev2 {t : Fin 5} (ht : t.val < 3) (j : Fin 4) {n : ℕ} (h : n ≤ 6) : ∀ i < n, lvI (some (some (true, t, j))) < oblL i := fun i hi => by
  unfold lvI oblL; simp only []; rw [if_pos ht, if_pos (by omega)]; decide
theorem lev0 (i : Option CI) : ∀ j < 0, lvI i < oblL j := fun j h => absurd h (Nat.not_lt_zero j)

end

end Cert.KProof
-- ==== Proof.Args.lean ====
/-
  The buffers and the semaphores the body works on.
-/
module

public import proofs.«01_k».proof.Proof.Sends

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A part of the body on the kernel's own buffers and semaphores. -/
abbrev onArgs {β : Type 1} (f : (arg0 : Memref sig .tc .vmem S1x1024x2048 .f32) → (harg0 : arg0.IsWhole) → (arg1 : Memref sig .tc .vmem S2048x128 .f32) → (harg1 : arg1.IsWhole) → (arg2 : Memref sig .tc .vmem S128x2048 .f32) → (harg2 : arg2.IsWhole) → (arg3 : Memref sig .tc .vmem S128x2048 .f32) → (harg3 : arg3.IsWhole) → (arg4 : Memref sig .tc .hbm S2048x2048 .f32) → (harg4 : arg4.IsWhole) → (arg5 : Memref sig .tc .hbm S2048x512 .f32) → (harg5 : arg5.IsWhole) → (arg6 : Memref sig .tc .vmem S2048x32 .f32) → (harg6 : arg6.IsWhole) → (arg7 : Memref sig .tc .hbm S2048x2048 .f32) → (harg7 : arg7.IsWhole) → (arg8 : Memref sig .tc .vmem S1024x2048 .f32) → (harg8 : arg8.IsWhole) → (arg9 : Memref sig .tc .vmem S4x1024x128 .bf16) → (harg9 : arg9.IsWhole) → (arg10 : Memref sig .tc .vmem S4x128x512 .bf16) → (harg10 : arg10.IsWhole) → (arg11 : Memref sig .tc .vmem S4x128x512 .bf16) → (harg11 : arg11.IsWhole) → (arg12 : Memref sig .tc .vmem S128x2048 .bf16) → (harg12 : arg12.IsWhole) → (arg13 : Memref sig .tc .vmem S128x2048 .bf16) → (harg13 : arg13.IsWhole) → (arg14 : Memref sig .tc .vmem S2048x512 .f32) → (harg14 : arg14.IsWhole) → (arg15 : Memref sig .tc .vmem S2048x128 .f32) → (harg15 : arg15.IsWhole) → (arg16 : Memref sig .tc .vmem S2x256x2048 .f32) → (harg16 : arg16.IsWhole) → (arg17 : Memref sig .tc .vmem S1024x512 .bf16) → (harg17 : arg17.IsWhole) → (arg18 : Memref sig .tc .vmem S1024x128 .bf16) → (harg18 : arg18.IsWhole) → (arg19 : Memref sig .tc .vmem S1024x512 .bf16) → (harg19 : arg19.IsWhole) → (arg20 : Memref sig .tc .vmem S1024x512 .bf16) → (harg20 : arg20.IsWhole) → (arg21 : Memref sig .tc .vmem S4x2x1024x256 .bf16) → (harg21 : arg21.IsWhole) → (arg22 : DmaSems sig S5x4) → (arg23 : DmaSems sig S5x4) → (arg24 : DmaSems sig S4) → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_arg4) (Memref.isWhole_whole _) (Memref.whole main_arg5) (Memref.isWhole_whole _) (Memref.whole cc0_stg4_0) (Memref.isWhole_whole _) (Memref.whole main_arg7) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15

end Cert.KProof
-- ==== Proof.Access.lean ====
module

public import proofs.«01_k».proof.Proof.Args

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The parts' steps by the pieces they act on -/

section

variable {m}
variable (c : Dev nD) (K : Dev nD × CI → ℕ) {α : Type}
variable {Q : α → sProp (MT nD τ sig Unit (Elt F) ℕ UU ℕ)}

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

theorem ret_step {v : α} : Q v ⊢ WP c (.ret v) Q := by
  unfold WP; rw [wp_ret]; iintro H; imodintro; iexact H

/-- One head's columns in one half of an own slot. -/
def ohP (c : Dev nD) (j : Fin 4) (h s : Fin 2) (f : Vec F S4x2x1024x256 .bf16) : sProp 𝕄 := ((c : Thread nD τ).loc cc0_scratch12) ↦[ohSet j h s]{fullShare} f

theorem ld_gcP {j : Fin 4} {q : Sh} {f} {off : Fin 3 → ℕ} (h : off = ![j.val, 0, 0]) {inb} {hl} {k : Vec F S1x1024x128 .bf16 → Prog (TpuEff nD τ sig (Elt F) Λ₀ .tc) α} :
    gcP c j q f ⊢ iprop((gcP c j q f -∗ WP c (k (slC f j)) Q)
      -∗ WP c (.op (.load (Memref.whole cc0_scratch0) (Rect.unit (s := S4x1024x128) off S1x1024x128.size inb).toLoadRect hl) k) Q) :=
  ld c (Memref.whole cc0_scratch0) (Rect.unit (s := S4x1024x128) off S1x1024x128.size inb) (S := gcSet j)
    (le_of_eq ((set_whole_slice cc0_scratch0 _).trans (rect_gc j h inb))) (ld_gc j h inb f)
theorem ld_gukP {j : Fin 4} {q : Sh} {f} {off : Fin 3 → ℕ} (h : off = ![j.val, 0, 0]) {inb} {hl} {k : Vec F S1x128x512 .bf16 → Prog (TpuEff nD τ sig (Elt F) Λ₀ .tc) α} :
    gukP c j q f ⊢ iprop((gukP c j q f -∗ WP c (k (slU f j)) Q)
      -∗ WP c (.op (.load (Memref.whole cc0_scratch1) (Rect.unit (s := S4x128x512) off S1x128x512.size inb).toLoadRect hl) k) Q) :=
  ld c (Memref.whole cc0_scratch1) (Rect.unit (s := S4x128x512) off S1x128x512.size inb) (S := guSet j)
    (le_of_eq ((set_whole_slice cc0_scratch1 _).trans (rect_gu j h inb))) (ld_guk j h inb f)
theorem ld_guvP {j : Fin 4} {q : Sh} {f} {off : Fin 3 → ℕ} (h : off = ![j.val, 0, 0]) {inb} {hl} {k : Vec F S1x128x512 .bf16 → Prog (TpuEff nD τ sig (Elt F) Λ₀ .tc) α} :
    guvP c j q f ⊢ iprop((guvP c j q f -∗ WP c (k (slU f j)) Q)
      -∗ WP c (.op (.load (Memref.whole cc0_scratch2) (Rect.unit (s := S4x128x512) off S1x128x512.size inb).toLoadRect hl) k) Q) :=
  ld c (Memref.whole cc0_scratch2) (Rect.unit (s := S4x128x512) off S1x128x512.size inb) (S := guSet j)
    (le_of_eq ((set_whole_slice cc0_scratch2 _).trans (rect_gu j h inb))) (ld_guv j h inb f)
theorem ld_osP {j : Fin 4} {e : Fin 2} {q : Sh} {f} {off : Fin 4 → ℕ} (h : off = ![j.val, e.val, 0, 0]) {inb} {hl} {k : Vec F S1x1x1024x256 .bf16 → Prog (TpuEff nD τ sig (Elt F) Λ₀ .tc) α} :
    osP c j e q f ⊢ iprop((osP c j e q f -∗ WP c (k (slO f j e)) Q)
      -∗ WP c (.op (.load (Memref.whole cc0_scratch12) (Rect.unit (s := S4x2x1024x256) off S1x1x1024x256.size inb).toLoadRect hl) k) Q) :=
  ld c (Memref.whole cc0_scratch12) (Rect.unit (s := S4x2x1024x256) off S1x1x1024x256.size inb) (S := osSet j e)
    (le_of_eq ((set_whole_slice cc0_scratch12 _).trans (rect_os j e h inb))) (ld_os j e h inb f)
/-- A load whose value is not used. -/
theorem ld_ohP {j : Fin 4} {e s : Fin 2} {f} {off : Fin 4 → ℕ} (h : off = ![j.val, e.val, 0, 128 * s.val]) {inb} {hl}
    {k : Vec F S1x1x1024x128 .bf16 → Prog (TpuEff nD τ sig (Elt F) Λ₀ .tc) α} :
    ohP c j e s f ⊢ iprop((ohP c j e s f -∗ WP c (k ((Memref.whole cc0_scratch12).view.readAt (Elt F) (Rect.unit (s := S4x2x1024x256) off S1x1x1024x128.size inb).toLoadRect f)) Q)
      -∗ WP c (.op (.load (Memref.whole cc0_scratch12) (Rect.unit (s := S4x2x1024x256) off S1x1x1024x128.size inb).toLoadRect hl) k) Q) :=
  ld c (Memref.whole cc0_scratch12) (Rect.unit (s := S4x2x1024x256) off S1x1x1024x128.size inb) (S := ohSet j e s)
    (le_of_eq ((set_whole_slice cc0_scratch12 _).trans (rect_oh j e s h inb))) rfl
theorem ld_wfP {s : Fin 2} {w} {off : Fin 3 → ℕ} (h : off = ![s.val, 0, 0]) {inb} {hl} {k : Vec F S1x256x2048 .f32 → Prog (TpuEff nD τ sig (Elt F) Λ₀ .tc) α} :
    wfP c s (wfC w) ⊢ iprop((wfP c s (wfC w) -∗ WP c (k w) Q)
      -∗ WP c (.op (.load (Memref.whole cc0_scratch7) (Rect.unit (s := S2x256x2048) off S1x256x2048.size inb).toLoadRect hl) k) Q) :=
  ld c (Memref.whole cc0_scratch7) (Rect.unit (s := S2x256x2048) off S1x256x2048.size inb) (S := wfSet s)
    (le_of_eq ((set_whole_slice cc0_scratch7 _).trans (rect_wf s h inb))) (ld_wf s h inb w)
theorem ld_woR {s e : Fin 2} {j : Fin 4} {off : Fin 3 → ℕ} (h : off = ![s.val, 0, 0]) {inb} {hl} {k : Vec F S1x256x2048 .f32 → Prog (TpuEff nD τ sig (Elt F) Λ₀ .tc) α} :
    woR m c s j e ⊢ iprop((woR m c s j e -∗ WP c (k (woB m c j e)) Q)
      -∗ WP c (.op (.load (Memref.whole cc0_scratch7) (Rect.unit (s := S2x256x2048) off S1x256x2048.size inb).toLoadRect hl) k) Q) := by
  unfold woR
  iintro ⟨Hw, Hr⟩ Hk
  iapply (ld_wfP c h) $$ Hw
  iintro Hw
  iapply Hk
  isplitl [Hw]; · iexact Hw
  iexact Hr

theorem st_gcP {f} {off : Fin 3 → ℕ} (h : off = ![(zv c).val, 0, 0]) {inb} {hx} {hm} {k : PUnit → Prog (TpuEff nD τ sig (Elt F) Λ₀ .tc) α} :
    gcP c (zv c) fullShare f ⊢ iprop((gcP c (zv c) fullShare (GC m c) -∗ WP c (k ⟨⟩) Q)
      -∗ WP c (.op (.store (Memref.whole cc0_scratch0) (Rect.unit (s := S4x1024x128) off S1x1024x128.size inb) (cB m c) Finset.univ hx hm) k) Q) :=
  st c (Memref.whole cc0_scratch0) (Rect.unit (s := S4x1024x128) off S1x1024x128.size inb) (S := gcSet (zv c)) (GC m c)
    (le_of_eq ((set_whole_slice cc0_scratch0 _).trans (rect_gc (zv c) h inb))) (st_gc m c h inb f)
theorem st_gukP {f} {off : Fin 3 → ℕ} (h : off = ![(zv c).val, 0, 0]) {inb} {hx} {hm} {k : PUnit → Prog (TpuEff nD τ sig (Elt F) Λ₀ .tc) α} :
    gukP c (zv c) fullShare f ⊢ iprop((gukP c (zv c) fullShare (GUK m c) -∗ WP c (k ⟨⟩) Q)
      -∗ WP c (.op (.store (Memref.whole cc0_scratch1) (Rect.unit (s := S4x128x512) off S1x128x512.size inb)
        (k0_pay5 (fun x => wukB m c (ix2 (x 0 : Fin 128) (colZ (zv c) (x 1))))) Finset.univ hx hm) k) Q) :=
  st c (Memref.whole cc0_scratch1) (Rect.unit (s := S4x128x512) off S1x128x512.size inb) (S := guSet (zv c)) (GUK m c)
    (le_of_eq ((set_whole_slice cc0_scratch1 _).trans (rect_gu (zv c) h inb))) (st_guk m c h inb f)
theorem st_guvP {f} {off : Fin 3 → ℕ} (h : off = ![(zv c).val, 0, 0]) {inb} {hx} {hm} {k : PUnit → Prog (TpuEff nD τ sig (Elt F) Λ₀ .tc) α} :
    guvP c (zv c) fullShare f ⊢ iprop((guvP c (zv c) fullShare (GUV m c) -∗ WP c (k ⟨⟩) Q)
      -∗ WP c (.op (.store (Memref.whole cc0_scratch2) (Rect.unit (s := S4x128x512) off S1x128x512.size inb)
        (k0_pay6 (fun x => wuvB m c (ix2 (x 0 : Fin 128) (colZ (zv c) (x 1))))) Finset.univ hx hm) k) Q) :=
  st c (Memref.whole cc0_scratch2) (Rect.unit (s := S4x128x512) off S1x128x512.size inb) (S := guSet (zv c)) (GUV m c)
    (le_of_eq ((set_whole_slice cc0_scratch2 _).trans (rect_gu (zv c) h inb))) (st_guv m c h inb f)
theorem st_ohP {e s : Fin 2} {w : Vec F S1x1x1024x128 .bf16} (hw : w = hdAt m c e s) {f} {off : Fin 4 → ℕ} (h : off = ![(zv c).val, e.val, 0, 128 * s.val]) {inb} {hx} {hm}
    {k : PUnit → Prog (TpuEff nD τ sig (Elt F) Λ₀ .tc) α} :
    ohP c (zv c) e s f ⊢ iprop((ohP c (zv c) e s (OS m c) -∗ WP c (k ⟨⟩) Q)
      -∗ WP c (.op (.store (Memref.whole cc0_scratch12) (Rect.unit (s := S4x2x1024x256) off S1x1x1024x128.size inb) w Finset.univ hx hm) k) Q) :=
  st c (Memref.whole cc0_scratch12) (Rect.unit (s := S4x2x1024x256) off S1x1x1024x128.size inb) (S := ohSet (zv c) e s) (OS m c)
    (le_of_eq ((set_whole_slice cc0_scratch12 _).trans (rect_oh (zv c) e s h inb))) (st_os m c e s h inb f w hw)

/-- Starting the next copy into a slot of the staged output weights whose rows have been read. -/
theorem wo_next {s e e' : Fin 2} {j j' : Fin 4} {off : Fin 2 → ℕ} {off' : Fin 3 → ℕ} (h : off = ![512 * j.val + 256 * e.val, 0]) (h' : off' = ![s.val, 0, 0]) {inb} {inb'}
    {sm : DmaSem sig} (hsm : sm = cpyS (cW s)) {h1} {h2} {h3} {kk : PUnit → Prog (TpuEff nD τ sig (Elt F) Λ₀ .tc) α} :
    woR m c s j' e' ⊢ iprop((woF m c s j e -∗ WP c (kk ⟨⟩) Q) -∗ WP c (.op (.enqueueDma ((Memref.whole main_arg7).slice (Rect.unit (s := S2048x2048) off S256x2048.size inb) (fun _ => rfl))
          (.here (((Memref.whole cc0_scratch7).slice (Rect.unit (s := S2x256x2048) off' S1x256x2048.size inb') (fun _ => rfl)).squeeze S256x2048 squeezes_S1x256x2048_S256x2048)) (.dma sm) h1 h2 h3) kk) Q) :=
  (wo_idle (m := m) c s e' j').trans (wo_start c h h' hsm)

theorem rcvC {k : Fin 4} (hk : k ≠ 0) {sm : DmaSem sig} (hsm : sm = rcvS 0 (jk c k)) {cs cs' : Space} {s s' : Shape} {e e' : EltTy} {srcw : Memref sig .tc cs s e} {dstw : Memref sig .tc cs' s' e'}
    {h1 : srcw.view.WordExact} {h2 : dstw.view.WordExact} (hN : crT 0 = RefSig.tileCredit s' e') {kk : PUnit → Prog (TpuEff nD τ sig (Elt F) Λ₀ .tc) α} :
    iprop(ctx m K ∗ rCred c 0 k ∗ OW c 6 ∗ rPos c 0 k 0)
      ⊢ iprop(((gcP c (jk c k) fullShare (GC m c) ∗ OW c 6 ∗ rPos c 0 k 1) -∗ WP c (kk ⟨⟩) Q) -∗ WP c (.op (.waitDma2 sm srcw dstw h1 h2) kk) Q) :=
  rcv_wait c K hk (by decide) (lev2 (by decide) (jk c k) (Nat.le_refl 6)) hsm hN
theorem rcvUK {k : Fin 4} (hk : k ≠ 0) {sm : DmaSem sig} (hsm : sm = rcvS 1 (jk c k)) {cs cs' : Space} {s s' : Shape} {e e' : EltTy} {srcw : Memref sig .tc cs s e} {dstw : Memref sig .tc cs' s' e'}
    {h1 : srcw.view.WordExact} {h2 : dstw.view.WordExact} (hN : crT 1 = RefSig.tileCredit s' e') {kk : PUnit → Prog (TpuEff nD τ sig (Elt F) Λ₀ .tc) α} :
    iprop(ctx m K ∗ rCred c 1 k ∗ OW c 6 ∗ rPos c 1 k 0)
      ⊢ iprop(((gukP c (jk c k) fullShare (GUK m c) ∗ OW c 6 ∗ rPos c 1 k 1) -∗ WP c (kk ⟨⟩) Q) -∗ WP c (.op (.waitDma2 sm srcw dstw h1 h2) kk) Q) :=
  rcv_wait c K hk (by decide) (lev2 (by decide) (jk c k) (Nat.le_refl 6)) hsm hN
theorem rcvUV {k : Fin 4} (hk : k ≠ 0) {sm : DmaSem sig} (hsm : sm = rcvS 2 (jk c k)) {cs cs' : Space} {s s' : Shape} {e e' : EltTy} {srcw : Memref sig .tc cs s e} {dstw : Memref sig .tc cs' s' e'}
    {h1 : srcw.view.WordExact} {h2 : dstw.view.WordExact} (hN : crT 2 = RefSig.tileCredit s' e') {kk : PUnit → Prog (TpuEff nD τ sig (Elt F) Λ₀ .tc) α} :
    iprop(ctx m K ∗ rCred c 2 k ∗ OW c 6 ∗ rPos c 2 k 0)
      ⊢ iprop(((guvP c (jk c k) fullShare (GUV m c) ∗ OW c 6 ∗ rPos c 2 k 1) -∗ WP c (kk ⟨⟩) Q) -∗ WP c (.op (.waitDma2 sm srcw dstw h1 h2) kk) Q) :=
  rcv_wait c K hk (by decide) (lev2 (by decide) (jk c k) (Nat.le_refl 6)) hsm hN
theorem rcvO0 {k : Fin 4} (hk : k ≠ 0) {sm : DmaSem sig} (hsm : sm = rcvS 3 (jk c k)) {cs cs' : Space} {s s' : Shape} {e e' : EltTy} {srcw : Memref sig .tc cs s e} {dstw : Memref sig .tc cs' s' e'}
    {h1 : srcw.view.WordExact} {h2 : dstw.view.WordExact} (hN : crT 3 = RefSig.tileCredit s' e') {kk : PUnit → Prog (TpuEff nD τ sig (Elt F) Λ₀ .tc) α} :
    iprop(ctx m K ∗ rCred c 3 k ∗ OW c 0 ∗ rPos c 3 k 0)
      ⊢ iprop(((osP c (jk c k) 0 fullShare (OS m c) ∗ OW c 0 ∗ rPos c 3 k 1) -∗ WP c (kk ⟨⟩) Q) -∗ WP c (.op (.waitDma2 sm srcw dstw h1 h2) kk) Q) :=
  rcv_wait c K hk (by decide) (lev0 _) hsm hN
theorem rcvO1 {k : Fin 4} (hk : k ≠ 0) {sm : DmaSem sig} (hsm : sm = rcvS 4 (jk c k)) {cs cs' : Space} {s s' : Shape} {e e' : EltTy} {srcw : Memref sig .tc cs s e} {dstw : Memref sig .tc cs' s' e'}
    {h1 : srcw.view.WordExact} {h2 : dstw.view.WordExact} (hN : crT 4 = RefSig.tileCredit s' e') {kk : PUnit → Prog (TpuEff nD τ sig (Elt F) Λ₀ .tc) α} :
    iprop(ctx m K ∗ rCred c 4 k ∗ OW c 0 ∗ rPos c 4 k 0)
      ⊢ iprop(((osP c (jk c k) 1 fullShare (OS m c) ∗ OW c 0 ∗ rPos c 4 k 1) -∗ WP c (kk ⟨⟩) Q) -∗ WP c (.op (.waitDma2 sm srcw dstw h1 h2) kk) Q) :=
  rcv_wait c K hk (by decide) (lev0 _) hsm hN

end

end Cert.KProof
-- ==== Proof.Glue.lean ====
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cutting buffers into slots and shares, and putting them together -/

section

variable (c : Dev nD)

theorem gc_slots (f : Vec F S4x1024x128 .bf16) : bufP c cc0_scratch0 f
    = iprop(gcP c (zv c) fullShare f ∗ gcP c (jk c 1) fullShare f ∗ gcP c (jk c 2) fullShare f ∗ gcP c (jk c 3) fullShare f) := by
  refine Eq.trans ?_ (bigSep_places c fun j => gcP c j fullShare f)
  refine Eq.trans ?_ (pointsTo_biUnion (q := fullShare) (ℓ := (c : Thread nD τ).loc cc0_scratch0) (f := f) (Finset.univ : Finset (Fin 4)) gcSet fun _ _ _ _ h => gcSet_disj h)
  rw [gcSet_cover]
theorem guk_slots (f : Vec F S4x128x512 .bf16) : bufP c cc0_scratch1 f
    = iprop(gukP c (zv c) fullShare f ∗ gukP c (jk c 1) fullShare f ∗ gukP c (jk c 2) fullShare f ∗ gukP c (jk c 3) fullShare f) := by
  refine Eq.trans ?_ (bigSep_places c fun j => gukP c j fullShare f)
  refine Eq.trans ?_ (pointsTo_biUnion (q := fullShare) (ℓ := (c : Thread nD τ).loc cc0_scratch1) (f := f) (Finset.univ : Finset (Fin 4)) guSet fun _ _ _ _ h => guSet_disj h)
  rw [guSet_cover]
theorem guv_slots (f : Vec F S4x128x512 .bf16) : bufP c cc0_scratch2 f
    = iprop(guvP c (zv c) fullShare f ∗ guvP c (jk c 1) fullShare f ∗ guvP c (jk c 2) fullShare f ∗ guvP c (jk c 3) fullShare f) := by
  refine Eq.trans ?_ (bigSep_places c fun j => guvP c j fullShare f)
  refine Eq.trans ?_ (pointsTo_biUnion (q := fullShare) (ℓ := (c : Thread nD τ).loc cc0_scratch2) (f := f) (Finset.univ : Finset (Fin 4)) guSet fun _ _ _ _ h => guSet_disj h)
  rw [guSet_cover]
theorem wuk_slots (f : Vec F S128x2048 .bf16) : bufP c cc0_scratch3 f = iprop(wukP c (zv c) f ∗ wukP c (jk c 1) f ∗ wukP c (jk c 2) f ∗ wukP c (jk c 3) f) := by
  refine Eq.trans ?_ (bigSep_places c fun j => wukP c j f)
  refine Eq.trans ?_ (pointsTo_biUnion (q := fullShare) (ℓ := (c : Thread nD τ).loc cc0_scratch3) (f := f) (Finset.univ : Finset (Fin 4)) wkSet fun _ _ _ _ h => wkSet_disj h)
  rw [wkSet_cover]
theorem wuv_slots (f : Vec F S128x2048 .bf16) : bufP c cc0_scratch4 f = iprop(wuvP c (zv c) f ∗ wuvP c (jk c 1) f ∗ wuvP c (jk c 2) f ∗ wuvP c (jk c 3) f) := by
  refine Eq.trans ?_ (bigSep_places c fun j => wuvP c j f)
  refine Eq.trans ?_ (pointsTo_biUnion (q := fullShare) (ℓ := (c : Thread nD τ).loc cc0_scratch4) (f := f) (Finset.univ : Finset (Fin 4)) wkSet fun _ _ _ _ h => wkSet_disj h)
  rw [wkSet_cover]
theorem bigSep_two (Φ : Fin 2 → sProp 𝕄) : bigSep Finset.univ Φ = iprop(Φ 0 ∗ Φ 1) := bigSep_univ_eq_bigSepL [0, 1] (by decide) (by decide) Φ
theorem os_slots (f : Vec F S4x2x1024x256 .bf16) : bufP c cc0_scratch12 f
    = iprop((osP c (zv c) 0 fullShare f ∗ osP c (zv c) 1 fullShare f) ∗ (osP c (jk c 1) 0 fullShare f ∗ osP c (jk c 1) 1 fullShare f)
        ∗ (osP c (jk c 2) 0 fullShare f ∗ osP c (jk c 2) 1 fullShare f) ∗ (osP c (jk c 3) 0 fullShare f ∗ osP c (jk c 3) 1 fullShare f)) := by
  refine Eq.trans ?_ (bigSep_places c fun j => iprop(osP c j 0 fullShare f ∗ osP c j 1 fullShare f))
  refine Eq.trans ?_ (bigSep_congr fun j _ => bigSep_two fun h => osP c j h fullShare f)
  refine Eq.trans ?_ (bigSep_univ_prod fun p : Fin 4 × Fin 2 => osP c p.1 p.2 fullShare f)
  refine Eq.trans ?_ (pointsTo_biUnion (q := fullShare) (ℓ := (c : Thread nD τ).loc cc0_scratch12) (f := f) (Finset.univ : Finset (Fin 4 × Fin 2)) (fun p => osSet p.1 p.2) fun _ _ _ _ h => osSet_disj h)
  rw [osSet_cover]
theorem wf_slots (f : Vec F S2x256x2048 .f32) : bufP c cc0_scratch7 f = iprop(wfP c 0 f ∗ wfP c 1 f) := by
  refine Eq.trans ?_ (bigSep_two fun s => wfP c s f)
  refine Eq.trans ?_ (pointsTo_biUnion (q := fullShare) (ℓ := (c : Thread nD τ).loc cc0_scratch7) (f := f) (Finset.univ : Finset (Fin 2)) wfSet fun _ _ _ _ h => wfSet_disj h)
  rw [wfSet_cover]
theorem wf_join (f g : Vec F S2x256x2048 .f32) : iprop(wfP c 0 f ∗ wfP c 1 g) ⊢ iprop(∃ h, bufP c cc0_scratch7 h) := by
  have hu : wfSet 0 ∪ wfSet 1 = Finset.univ := by
    rw [← wfSet_cover]; ext i; simp [Fin.exists_fin_two]
  unfold wfP
  iintro H
  ihave H := (pointsTo_join (wfSet_disj (by decide : (0 : Fin 2) ≠ 1))) $$ H
  rw [hu]
  iexists _; iexact H
theorem oh_eq (j : Fin 4) (e : Fin 2) (f : Vec F S4x2x1024x256 .bf16) : osP c j e fullShare f ⊣⊢ iprop(ohP c j e 0 f ∗ ohP c j e 1 f) := by
  unfold osP ohP; rw [osSet_eq]; exact pointsTo_union (ohSet_disj j e)
theorem gc_toks (f : Vec F S4x1024x128 .bf16) : gcP c (zv c) fullShare f
    ⊣⊢ iprop(gcP c (zv c) shR f ∗ gcP c (zv c) (shJ (zv c)) f ∗ gcP c (zv c) (shJ (jk c 1)) f ∗ gcP c (zv c) (shJ (jk c 2)) f ∗ gcP c (zv c) (shJ (jk c 3)) f) := by
  have e := bigSep_places c fun j => gcP c (zv c) (shJ j) f
  constructor
  · refine (Transfers.pointsTo_toks_split (ℓ := (c : Thread nD τ).loc cc0_scratch0) (S := gcSet (zv c)) (f := f) fullShare 4).trans ?_
    exact sep_mono_right (Entails.of_eq e)
  · refine (sep_mono_right (Entails.of_eq e.symm)).trans ?_
    exact Transfers.pointsTo_toks_join (ℓ := (c : Thread nD τ).loc cc0_scratch0) (S := gcSet (zv c)) (f := f) fullShare 4
theorem os_toks (h : Fin 2) (f : Vec F S4x2x1024x256 .bf16) : osP c (zv c) h fullShare f
    ⊣⊢ iprop(osP c (zv c) h shR f ∗ osP c (zv c) h (shJ (zv c)) f ∗ osP c (zv c) h (shJ (jk c 1)) f ∗ osP c (zv c) h (shJ (jk c 2)) f ∗ osP c (zv c) h (shJ (jk c 3)) f) := by
  have e := bigSep_places c fun j => osP c (zv c) h (shJ j) f
  constructor
  · refine (Transfers.pointsTo_toks_split (ℓ := (c : Thread nD τ).loc cc0_scratch12) (S := osSet (zv c) h) (f := f) fullShare 4).trans ?_
    exact sep_mono_right (Entails.of_eq e)
  · refine (sep_mono_right (Entails.of_eq e.symm)).trans ?_
    exact Transfers.pointsTo_toks_join (ℓ := (c : Thread nD τ).loc cc0_scratch12) (S := osSet (zv c) h) (f := f) fullShare 4
/-- The share of the output weights that no copy reads with. -/
def woD (c : Dev nD) : sProp 𝕄 := ((c : Thread nD τ).loc main_arg7) ↦{Transfers.shareDrop fullShare 2} (woM m c)
theorem wo_toks : bufP c main_arg7 (woM m c) ⊣⊢ iprop(woD m c ∗ woP m c 0 ∗ woP m c 1) := by
  have e := bigSep_two fun s => woP m c s
  constructor
  · refine (Transfers.pointsTo_toks_split (ℓ := (c : Thread nD τ).loc main_arg7) (S := Finset.univ) (f := woM m c) fullShare 2).trans ?_
    exact sep_mono_right (Entails.of_eq e)
  · refine (sep_mono_right (Entails.of_eq e.symm)).trans ?_
    exact Transfers.pointsTo_toks_join (ℓ := (c : Thread nD τ).loc main_arg7) (S := Finset.univ) (f := woM m c) fullShare 2

variable {α : Type} {Q : α → sProp (MT nD τ sig Unit (Elt F) ℕ UU ℕ)}
theorem bind_step {β : Type} {p : Prog (TpuEff nD τ sig (Elt F) Λ₀ .tc) β} {k : β → Prog (TpuEff nD τ sig (Elt F) Λ₀ .tc) α} :
    WP c p (fun a => WP c (k a) Q) ⊢ WP c (p >>= k) Q := by
  unfold WP; rw [wp_bind]

end

end Cert.KProof
-- ==== Proof.PartsA.lean ====
/-
  From the start to this device's block of the compressed activations.
-/
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable (c : Dev nD) (K : Dev nD × CI → ℕ)

set_option maxRecDepth 65536 in
set_option maxHeartbeats 2000000 in
theorem part1 {Kt : (Σ' (d0 : Dev nD) (v2 : BitVec 32) (v5 : BitVec 32) (v8 : BitVec 32) (v10 : BitVec 32) (v21 : FVec F S1024x2048 .bf16), FVec F S128x2048 .bf16) → sProp (MT nD τ sig Unit (Elt F) ℕ UU ℕ)} :
    iprop(((∃ f, bufP c cc0_scratch5 f) ∗ bufP c main_arg4 (wqM m c) ∗ cIdle c 0 ∗ (∃ f, bufP c cc0_scratch6 f) ∗ bufP c main_arg5 (wqrM m c) ∗ cIdle c 1 ∗ bufP c cc0_stg0_0 (stg0 m c) ∗ bufP c cc0_stg2_0 (stg2 m c) ∗ (∃ f, bufP c cc0_scratch3 f) ∗ bufP c cc0_stg3_0 (stg3 m c) ∗ (∃ f, bufP c cc0_scratch4 f))
      ∗ (∀ rv2 : BitVec 32, ∀ rv5 : BitVec 32, ∀ rv8 : BitVec 32, ∀ rv10 : BitVec 32, (flyQ m c ∗ flyQr m c ∗ bufP c cc0_stg0_0 (stg0 m c) ∗ bufP c cc0_stg2_0 (stg2 m c) ∗ bufP c cc0_scratch3 (wukB m c) ∗ bufP c cc0_stg3_0 (stg3 m c) ∗ (∃ f, bufP c cc0_scratch4 f)) -∗ Kt ⟨c, rv2, rv5, rv8, rv10, xV m c, k0_pay3 (stg3 m c)⟩))
      ⊢ WP c (onArgs (k0_part1 (F := F)) ) Kt := by
  rw [k0_part1_eq_skeleton]; unfold k0_part1_skel
  simp only [semSignalWord, semWaitWord, Prog.lift, Prog.bind_op, Prog.bind_ret, Prog.pure_eq_ret, wp_deviceId]
  iintro ⟨⟨⟨%fSQ, HSQ⟩, HMQ, HC0, ⟨%fSQR, HSQR⟩, HMR, HC1, HX, HW2, ⟨%fSUK, HSUK⟩, HW3, ⟨%fSUV, HSUV⟩⟩, Hk⟩
  iapply (wq_start (m := m) c (k0_off1_eq c) cpy_sem0) $$ [HMQ HSQ HC0]
  · isplitl [HMQ]; · iexact HMQ
    isplitl [HSQ]; · iexact HSQ
    iexact HC0
  iintro HFQ
  iapply (wqr_start (m := m) c (k0_off2_eq c) cpy_sem1) $$ [HMR HSQR HC1]
  · isplitl [HMR]; · iexact HMR
    isplitl [HSQR]; · iexact HSQR
    iexact HC1
  iintro HFR
  iapply (ld c (Memref.whole cc0_stg0_0) (Rect.unit (s := S1x1024x2048) ![0, 0, 0] S1x1024x2048.size inb_S1x1024x2048_S1x1024x2048_0_0_0) (Finset.subset_univ _) (Memref.readAt_unit_zero (Elt F) cc0_stg0_0 hz3 _ _)) $$ HX
  iintro HX
  iapply (ld c (Memref.whole cc0_stg2_0) (Rect.unit (s := S128x2048) ![0, 0] S128x2048.size inb_S128x2048_S128x2048_0_0) (Finset.subset_univ _) (Memref.readAt_unit_zero (Elt F) cc0_stg2_0 hz2 _ _)) $$ HW2
  iintro HW2
  iapply (ld c (Memref.whole cc0_scratch3) (Rect.unit (s := S128x2048) ![0, 0] S128x2048.size inb_S128x2048_S128x2048_0_0) (Finset.subset_univ _) rfl) $$ HSUK
  iintro HSUK
  iapply (st c (Memref.whole cc0_scratch3) (Rect.unit (s := S128x2048) ![0, 0] S128x2048.size inb_S128x2048_S128x2048_0_0) (wukB m c) (Finset.subset_univ _) (fun i _ => congrFun (Memref.write_access_unit_zero_univ (Elt F) cc0_scratch3 hz2 _ _ _) i)) $$ HSUK
  iintro HSUK
  iapply (ld c (Memref.whole cc0_stg3_0) (Rect.unit (s := S128x2048) ![0, 0] S128x2048.size inb_S128x2048_S128x2048_0_0) (Finset.subset_univ _) (Memref.readAt_unit_zero (Elt F) cc0_stg3_0 hz2 _ _)) $$ HW3
  iintro HW3
  iapply (ld c (Memref.whole cc0_scratch4) (Rect.unit (s := S128x2048) ![0, 0] S128x2048.size inb_S128x2048_S128x2048_0_0) (Finset.subset_univ _) rfl) $$ HSUV
  iintro HSUV
  rw [show k0_pay1 (stg0 m c) = xV m c from rfl]
  iapply (ret_step c)
  iapply Hk
  isplitl [HFQ]; · iexact HFQ
  isplitl [HFR]; · iexact HFR
  isplitl [HX]; · iexact HX
  isplitl [HW2]; · iexact HW2
  isplitl [HSUK]; · iexact HSUK
  isplitl [HW3]; · iexact HW3
  iexists _; iexact HSUV

set_option maxRecDepth 65536 in
set_option maxHeartbeats 2000000 in
theorem part2 (v2 : BitVec 32) (v5 : BitVec 32) (v8 : BitVec 32) (v10 : BitVec 32) {Kt : (Σ' (v46 : Sems sig S_) (v64 : BitVec 32), BitVec 32) → sProp (MT nD τ sig Unit (Elt F) ℕ UU ℕ)} :
    iprop((ctx m K ∗ (∃ f, bufP c cc0_scratch4 f) ∗ bufP c cc0_scratch3 (wukB m c) ∗ (∃ f, gukP c (zv c) fullShare f) ∗ (∃ f, guvP c (zv c) fullShare f) ∗ landP c (jk c 1) ∗ OW c 18 ∗ bTok c 1)
      ∗ (∀ rv64 : BitVec 32, ∀ rv66 : BitVec 32, (bufP c cc0_scratch4 (wuvB m c) ∗ bufP c cc0_scratch3 (wukB m c) ∗ gukP c (zv c) fullShare (GUK m c) ∗ guvP c (zv c) fullShare (GUV m c) ∗ OW c 17) -∗ Kt ⟨SemArray.scalar (sig.barrier 0 rfl), rv64, rv66⟩))
      ⊢ WP c (onArgs (k0_part2 (F := F)) c v2 v5 v8 v10 (k0_pay3 (stg3 m c))) Kt := by
  rw [k0_part2_eq_skeleton]; unfold k0_part2_skel
  simp only [semSignalWord, semWaitWord, Prog.lift, Prog.bind_op, Prog.bind_ret, Prog.pure_eq_ret, wp_deviceId]
  iintro ⟨⟨#HC, ⟨%fSUV, HSUV⟩, HSUK, ⟨%fGUK, HGUK⟩, ⟨%fGUV, HGUV⟩, HL1, HOW, HBT1⟩, Hk⟩
  iapply (st c (Memref.whole cc0_scratch4) (Rect.unit (s := S128x2048) ![0, 0] S128x2048.size inb_S128x2048_S128x2048_0_0) (wuvB m c) (Finset.subset_univ _) (fun i _ => congrFun (Memref.write_access_unit_zero_univ (Elt F) cc0_scratch4 hz2 _ _ _) i)) $$ HSUV
  iintro HSUV
  iapply (ld c (Memref.whole cc0_scratch3) (Rect.unit (s := S128x2048) (k0_off3 c) S128x512.size (k0_off3_inb c)) (Finset.subset_univ _) (ld_wuk (zv c) (k0_off3_eq c) _ (wukB m c))) $$ HSUK
  iintro HSUK
  iapply (ld_gukP c (j := zv c) (k0_off4_eq c)) $$ HGUK
  iintro HGUK
  iapply (st_gukP (m := m) c (k0_off4_eq c)) $$ HGUK
  iintro HGUK
  iapply (ld c (Memref.whole cc0_scratch4) (Rect.unit (s := S128x2048) (k0_off3 c) S128x512.size (k0_off3_inb c)) (Finset.subset_univ _) (ld_wuv (zv c) (k0_off3_eq c) _ (wuvB m c))) $$ HSUV
  iintro HSUV
  iapply (ld_guvP c (j := zv c) (k0_off4_eq c)) $$ HGUV
  iintro HGUV
  iapply (st_guvP (m := m) c (k0_off4_eq c)) $$ HGUV
  iintro HGUV
  iapply (sig_step (m := m) c K (k := 1) (by decide) (n := 17) (by decide) rfl (dev1_eq c) rfl) $$ [HL1 HOW HBT1]
  · isplitr; · iexact HC
    isplitl [HL1]; · iexact HL1
    isplitl [HOW]; · iexact HOW
    iexact HBT1
  iintro HOW
  iapply (ret_step c)
  iapply Hk
  isplitl [HSUV]; · iexact HSUV
  isplitl [HSUK]; · iexact HSUK
  isplitl [HGUK]; · iexact HGUK
  isplitl [HGUV]; · iexact HGUV
  iexact HOW

set_option maxRecDepth 65536 in
set_option maxHeartbeats 2000000 in
theorem part3 (v2 : BitVec 32) (v5 : BitVec 32) (v8 : BitVec 32) (v64 : BitVec 32) (v66 : BitVec 32) {Kt : (Σ' (v98 : BitVec 32) (c4_i32_58 : BitVec 32), BitVec 32) → sProp (MT nD τ sig Unit (Elt F) ℕ UU ℕ)} :
    iprop((ctx m K ∗ landP c (jk c 2) ∗ OW c 17 ∗ bTok c 2 ∗ landP c (jk c 3) ∗ bTok c 3 ∗ cred (tallyAt (barCell c) () 3) ∗ atPos ER (barCell c) 0 ∅ 0)
      ∗ (∀ rv98 : BitVec 32, (OW c 15 ∗ atPos ER (barCell c) 1 ∅ 0 ∗ landP (gdev c (jk c 1)) (zv c) ∗ landP (gdev c (jk c 2)) (zv c) ∗ landP (gdev c (jk c 3)) (zv c)) -∗ Kt ⟨rv98, 4#32, 0#32⟩))
      ⊢ WP c (onArgs (k0_part3 (F := F)) c v2 v5 v8 (SemArray.scalar (sig.barrier 0 rfl)) v64 v66) Kt := by
  rw [k0_part3_eq_skeleton]; unfold k0_part3_skel
  simp only [semSignalWord, semWaitWord, Prog.lift, Prog.bind_op, Prog.bind_ret, Prog.pure_eq_ret, wp_deviceId]
  iintro ⟨⟨#HC, HL2, HOW, HBT2, HL3, HBT3, HBC, HBP⟩, Hk⟩
  iapply (sig_step (m := m) c K (k := 2) (by decide) (n := 16) (by decide) rfl (dev2_eq c) rfl) $$ [HL2 HOW HBT2]
  · isplitr; · iexact HC
    isplitl [HL2]; · iexact HL2
    isplitl [HOW]; · iexact HOW
    iexact HBT2
  iintro HOW
  iapply (sig_step (m := m) c K (k := 3) (by decide) (n := 15) (by decide) rfl (dev3_eq c) rfl) $$ [HL3 HOW HBT3]
  · isplitr; · iexact HC
    isplitl [HL3]; · iexact HL3
    isplitl [HOW]; · iexact HOW
    iexact HBT3
  iintro HOW
  iapply (bar_wait (m := m) c K rfl) $$ [HBC HOW HBP]
  · isplitr; · iexact HC
    isplitl [HBC]; · iexact HBC
    isplitl [HOW]; · iexact HOW
    iexact HBP
  iintro ⟨HOW, HBP, HPL1, HPL2, HPL3⟩
  iapply (ret_step c)
  iapply Hk
  isplitl [HOW]; · iexact HOW
  isplitl [HBP]; · iexact HBP
  isplitl [HPL1]; · iexact HPL1
  isplitl [HPL2]; · iexact HPL2
  iexact HPL3

set_option maxRecDepth 65536 in
set_option maxHeartbeats 2000000 in
theorem part4 (v2 : BitVec 32) (v5 : BitVec 32) (v98 : BitVec 32) (c4_i32_58 : BitVec 32) (c0_i32_59 : BitVec 32) {Kt : (PUnit) → sProp (MT nD τ sig Unit (Elt F) ℕ UU ℕ)} :
    iprop((ctx m K ∗ wukP c (jk c 1) (wukB m c) ∗ (∃ f, gukP (gdev c (jk c 1)) (zv c) fullShare f) ∗ OW c 15 ∗ sTok c 1 1)
      ∗ ((OW c 14 ∗ sCred c 1 1) -∗ Kt ⟨⟩))
      ⊢ WP c (onArgs (k0_part4 (F := F)) c v2 v5 v98 c4_i32_58 c0_i32_59) Kt := by
  rw [k0_part4_eq_skeleton]; unfold k0_part4_skel
  simp only [semSignalWord, semWaitWord, Prog.lift, Prog.bind_op, Prog.bind_ret, Prog.pure_eq_ret, wp_deviceId]
  iintro ⟨⟨#HC, HSRC11, HPG11, HOW, HST11⟩, Hk⟩
  iapply (send_uk (m := m) c K (k := 1) (by decide) (n := 14) (by decide) rfl (dev4_eq c) (snd_sem 1 (jk c 1) (off5_eq c 0) _) (rcv_sem 1 (zv c) (k0_off6_eq c) _) (off8_eq c 0) (k0_off7_eq c)) $$ [HSRC11 HPG11 HOW HST11]
  · isplitr; · iexact HC
    isplitl [HSRC11]; · iexact HSRC11
    isplitl [HPG11]; · iexact HPG11
    isplitl [HOW]; · iexact HOW
    iexact HST11
  iintro ⟨HSC11, HOW⟩
  iapply (ret_step c)
  iapply Hk
  isplitl [HOW]; · iexact HOW
  iexact HSC11

set_option maxRecDepth 65536 in
set_option maxHeartbeats 2000000 in
theorem part5 (v2 : BitVec 32) (v5 : BitVec 32) (v8 : BitVec 32) {Kt : (PUnit) → sProp (MT nD τ sig Unit (Elt F) ℕ UU ℕ)} :
    iprop((ctx m K ∗ wuvP c (jk c 1) (wuvB m c) ∗ (∃ f, guvP (gdev c (jk c 1)) (zv c) fullShare f) ∗ OW c 14 ∗ sTok c 2 1 ∗ wukP c (jk c 2) (wukB m c) ∗ (∃ f, gukP (gdev c (jk c 2)) (zv c) fullShare f) ∗ sTok c 1 2)
      ∗ ((OW c 12 ∗ sCred c 2 1 ∗ sCred c 1 2) -∗ Kt ⟨⟩))
      ⊢ WP c (onArgs (k0_part5 (F := F)) c v2 v5 v8) Kt := by
  rw [k0_part5_eq_skeleton]; unfold k0_part5_skel
  simp only [semSignalWord, semWaitWord, Prog.lift, Prog.bind_op, Prog.bind_ret, Prog.pure_eq_ret, wp_deviceId]
  iintro ⟨⟨#HC, HSRC21, HPG21, HOW, HST21, HSRC12, HPG12, HST12⟩, Hk⟩
  iapply (send_uv (m := m) c K (k := 1) (by decide) (n := 13) (by decide) rfl (dev5_eq c) (snd_sem 2 (jk c 1) (off9_eq c 0) _) (rcv_sem 2 (zv c) (k0_off10_eq c) _) (off8_eq c 0) (k0_off7_eq c)) $$ [HSRC21 HPG21 HOW HST21]
  · isplitr; · iexact HC
    isplitl [HSRC21]; · iexact HSRC21
    isplitl [HPG21]; · iexact HPG21
    isplitl [HOW]; · iexact HOW
    iexact HST21
  iintro ⟨HSC21, HOW⟩
  iapply (send_uk (m := m) c K (k := 2) (by decide) (n := 12) (by decide) rfl (dev6_eq c) (snd_sem 1 (jk c 2) (off5_eq c 1) _) (rcv_sem 1 (zv c) (k0_off6_eq c) _) (off8_eq c 1) (k0_off7_eq c)) $$ [HSRC12 HPG12 HOW HST12]
  · isplitr; · iexact HC
    isplitl [HSRC12]; · iexact HSRC12
    isplitl [HPG12]; · iexact HPG12
    isplitl [HOW]; · iexact HOW
    iexact HST12
  iintro ⟨HSC12, HOW⟩
  iapply (ret_step c)
  iapply Hk
  isplitl [HOW]; · iexact HOW
  isplitl [HSC21]; · iexact HSC21
  iexact HSC12

set_option maxRecDepth 65536 in
set_option maxHeartbeats 2000000 in
theorem part6 (v2 : BitVec 32) (v5 : BitVec 32) (v8 : BitVec 32) {Kt : (Σ' (v186 : BitVec 32), BitVec 32) → sProp (MT nD τ sig Unit (Elt F) ℕ UU ℕ)} :
    iprop((ctx m K ∗ wuvP c (jk c 2) (wuvB m c) ∗ (∃ f, guvP (gdev c (jk c 2)) (zv c) fullShare f) ∗ OW c 12 ∗ sTok c 2 2 ∗ wukP c (jk c 3) (wukB m c) ∗ (∃ f, gukP (gdev c (jk c 3)) (zv c) fullShare f) ∗ sTok c 1 3)
      ∗ (∀ rv186 : BitVec 32, ∀ rv203 : BitVec 32, (OW c 10 ∗ sCred c 2 2 ∗ sCred c 1 3) -∗ Kt ⟨rv186, rv203⟩))
      ⊢ WP c (onArgs (k0_part6 (F := F)) c v2 v5 v8) Kt := by
  rw [k0_part6_eq_skeleton]; unfold k0_part6_skel
  simp only [semSignalWord, semWaitWord, Prog.lift, Prog.bind_op, Prog.bind_ret, Prog.pure_eq_ret, wp_deviceId]
  iintro ⟨⟨#HC, HSRC22, HPG22, HOW, HST22, HSRC13, HPG13, HST13⟩, Hk⟩
  iapply (send_uv (m := m) c K (k := 2) (by decide) (n := 11) (by decide) rfl (dev7_eq c) (snd_sem 2 (jk c 2) (off9_eq c 1) _) (rcv_sem 2 (zv c) (k0_off10_eq c) _) (off8_eq c 1) (k0_off7_eq c)) $$ [HSRC22 HPG22 HOW HST22]
  · isplitr; · iexact HC
    isplitl [HSRC22]; · iexact HSRC22
    isplitl [HPG22]; · iexact HPG22
    isplitl [HOW]; · iexact HOW
    iexact HST22
  iintro ⟨HSC22, HOW⟩
  iapply (send_uk (m := m) c K (k := 3) (by decide) (n := 10) (by decide) rfl (dev8_eq c) (snd_sem 1 (jk c 3) (off5_eq c 2) _) (rcv_sem 1 (zv c) (k0_off6_eq c) _) (off8_eq c 2) (k0_off7_eq c)) $$ [HSRC13 HPG13 HOW HST13]
  · isplitr; · iexact HC
    isplitl [HSRC13]; · iexact HSRC13
    isplitl [HPG13]; · iexact HPG13
    isplitl [HOW]; · iexact HOW
    iexact HST13
  iintro ⟨HSC13, HOW⟩
  iapply (ret_step c)
  iapply Hk
  isplitl [HOW]; · iexact HOW
  isplitl [HSC22]; · iexact HSC22
  iexact HSC13

set_option maxRecDepth 65536 in
set_option maxHeartbeats 2000000 in
theorem part7 (v2 : BitVec 32) (v5 : BitVec 32) (v8 : BitVec 32) (v186 : BitVec 32) (v203 : BitVec 32) {Kt : (Σ' (v234 : BitVec 32) (v238 : BitVec 32), BitVec 32) → sProp (MT nD τ sig Unit (Elt F) ℕ UU ℕ)} :
    iprop((ctx m K ∗ wuvP c (jk c 3) (wuvB m c) ∗ (∃ f, guvP (gdev c (jk c 3)) (zv c) fullShare f) ∗ OW c 10 ∗ sTok c 2 3 ∗ bufP c cc0_stg1_0 (stg1 m c) ∗ (∃ f, gcP c (zv c) fullShare f))
      ∗ (∀ rv234 : BitVec 32, ∀ rv238 : BitVec 32, (OW c 9 ∗ sCred c 2 3 ∗ bufP c cc0_stg1_0 (stg1 m c) ∗ gcP c (zv c) fullShare (GC m c)) -∗ Kt ⟨rv234, rv238, 1#32⟩))
      ⊢ WP c (onArgs (k0_part7 (F := F)) c v2 v5 v8 (xV m c) v186 v203) Kt := by
  rw [k0_part7_eq_skeleton]; unfold k0_part7_skel
  simp only [semSignalWord, semWaitWord, Prog.lift, Prog.bind_op, Prog.bind_ret, Prog.pure_eq_ret, wp_deviceId]
  iintro ⟨⟨#HC, HSRC23, HPG23, HOW, HST23, HW1, ⟨%fGC, HGC⟩⟩, Hk⟩
  iapply (send_uv (m := m) c K (k := 3) (by decide) (n := 9) (by decide) rfl (dev9_eq c) (snd_sem 2 (jk c 3) (off9_eq c 2) _) (rcv_sem 2 (zv c) (k0_off10_eq c) _) (off8_eq c 2) (k0_off7_eq c)) $$ [HSRC23 HPG23 HOW HST23]
  · isplitr; · iexact HC
    isplitl [HSRC23]; · iexact HSRC23
    isplitl [HPG23]; · iexact HPG23
    isplitl [HOW]; · iexact HOW
    iexact HST23
  iintro ⟨HSC23, HOW⟩
  iapply (ld c (Memref.whole cc0_stg1_0) (Rect.unit (s := S2048x128) ![0, 0] S2048x128.size inb_S2048x128_S2048x128_0_0) (Finset.subset_univ _) (Memref.readAt_unit_zero (Elt F) cc0_stg1_0 hz2 _ _)) $$ HW1
  iintro HW1
  iapply (ld_gcP c (j := zv c) (k0_off11_eq c)) $$ HGC
  iintro HGC
  iapply (st_gcP (m := m) c (k0_off11_eq c)) $$ HGC
  iintro HGC
  iapply (ret_step c)
  iapply Hk
  isplitl [HOW]; · iexact HOW
  isplitl [HSC23]; · iexact HSC23
  isplitl [HW1]; · iexact HW1
  iexact HGC

end

end Cert.KProof
-- ==== Proof.PartsB.lean ====
/-
  The compressed activations go out; the first blocks of keys and values come in.
-/
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable (c : Dev nD) (K : Dev nD × CI → ℕ)

set_option maxRecDepth 65536 in
set_option maxHeartbeats 2000000 in
theorem part8 (v2 : BitVec 32) (v5 : BitVec 32) (v8 : BitVec 32) (v234 : BitVec 32) (v238 : BitVec 32) (c1_i32_151 : BitVec 32) {Kt : (BitVec 32) → sProp (MT nD τ sig Unit (Elt F) ℕ UU ℕ)} :
    iprop((ctx m K ∗ gcP c (zv c) (shJ (jk c 1)) (GC m c) ∗ (∃ f, gcP (gdev c (jk c 1)) (zv c) fullShare f) ∗ OW c 9 ∗ sTok c 0 1 ∗ gcP c (zv c) (shJ (jk c 2)) (GC m c) ∗ (∃ f, gcP (gdev c (jk c 2)) (zv c) fullShare f) ∗ sTok c 0 2)
      ∗ (∀ rv274 : BitVec 32, (OW c 7 ∗ sCred c 0 1 ∗ sCred c 0 2) -∗ Kt (rv274)))
      ⊢ WP c (onArgs (k0_part8 (F := F)) c v2 v5 v8 v234 v238 c1_i32_151) Kt := by
  rw [k0_part8_eq_skeleton]; unfold k0_part8_skel
  simp only [semSignalWord, semWaitWord, Prog.lift, Prog.bind_op, Prog.bind_ret, Prog.pure_eq_ret, wp_deviceId]
  iintro ⟨⟨#HC, HSRC01, HPG01, HOW, HST01, HSRC02, HPG02, HST02⟩, Hk⟩
  iapply (send_c (m := m) c K (k := 1) (by decide) (n := 8) (by decide) rfl (dev10_eq c) (snd_sem 0 (jk c 1) (off12_eq c 0) _) (rcv_sem 0 (zv c) (k0_off13_eq c) _) (k0_off14_eq c)) $$ [HSRC01 HPG01 HOW HST01]
  · isplitr; · iexact HC
    isplitl [HSRC01]; · iexact HSRC01
    isplitl [HPG01]; · iexact HPG01
    isplitl [HOW]; · iexact HOW
    iexact HST01
  iintro ⟨HSC01, HOW⟩
  iapply (send_c (m := m) c K (k := 2) (by decide) (n := 7) (by decide) rfl (dev11_eq c) (snd_sem 0 (jk c 2) (off12_eq c 1) _) (rcv_sem 0 (zv c) (k0_off13_eq c) _) (k0_off14_eq c)) $$ [HSRC02 HPG02 HOW HST02]
  · isplitr; · iexact HC
    isplitl [HSRC02]; · iexact HSRC02
    isplitl [HPG02]; · iexact HPG02
    isplitl [HOW]; · iexact HOW
    iexact HST02
  iintro ⟨HSC02, HOW⟩
  iapply (ret_step c)
  iapply Hk
  isplitl [HOW]; · iexact HOW
  isplitl [HSC01]; · iexact HSC01
  iexact HSC02

set_option maxRecDepth 65536 in
set_option maxHeartbeats 2000000 in
theorem part9 (v2 : BitVec 32) (v5 : BitVec 32) (v274 : BitVec 32) {Kt : (Σ' (v307 : FVec F S1024x512 .bf16), Vec F S1024x512 .bf16) → sProp (MT nD τ sig Unit (Elt F) ℕ UU ℕ)} :
    iprop((ctx m K ∗ gcP c (zv c) (shJ (jk c 3)) (GC m c) ∗ (∃ f, gcP (gdev c (jk c 3)) (zv c) fullShare f) ∗ OW c 7 ∗ sTok c 0 3 ∗ flyQ m c ∗ (∃ f, bufP c cc0_scratch8 f))
      ∗ (∀ rv308 : Vec F S1024x512 .bf16, (OW c 6 ∗ sCred c 0 3 ∗ bufP c cc0_scratch5 (wqF m c) ∗ bufP c main_arg4 (wqM m c) ∗ cIdle c 0 ∗ (∃ f, bufP c cc0_scratch8 f)) -∗ Kt ⟨k0_pay8 (xV m c) (wqF m c), rv308⟩))
      ⊢ WP c (onArgs (k0_part9 (F := F)) c v2 v5 (xV m c) v274) Kt := by
  rw [k0_part9_eq_skeleton]; unfold k0_part9_skel
  simp only [semSignalWord, semWaitWord, Prog.lift, Prog.bind_op, Prog.bind_ret, Prog.pure_eq_ret, wp_deviceId]
  iintro ⟨⟨#HC, HSRC03, HPG03, HOW, HST03, HFQ, ⟨%fQS, HQS⟩⟩, Hk⟩
  iapply (send_c (m := m) c K (k := 3) (by decide) (n := 6) (by decide) rfl (dev12_eq c) (snd_sem 0 (jk c 3) (off12_eq c 2) _) (rcv_sem 0 (zv c) (k0_off13_eq c) _) (k0_off14_eq c)) $$ [HSRC03 HPG03 HOW HST03]
  · isplitr; · iexact HC
    isplitl [HSRC03]; · iexact HSRC03
    isplitl [HPG03]; · iexact HPG03
    isplitl [HOW]; · iexact HOW
    iexact HST03
  iintro ⟨HSC03, HOW⟩
  iapply (wq_wait (m := m) c K (n := 6) (by decide) cpy_sem0) $$ [HFQ HOW]
  · isplitr; · iexact HC
    isplitl [HFQ]; · iexact HFQ
    iexact HOW
  iintro ⟨⟨HSQ, HMQ⟩, HC0, HOW⟩
  iapply (ld c (Memref.whole cc0_scratch5) (Rect.unit (s := S2048x512) ![0, 0] S2048x512.size inb_S2048x512_S2048x512_0_0) (Finset.subset_univ _) (Memref.readAt_unit_zero (Elt F) cc0_scratch5 hz2 _ _)) $$ HSQ
  iintro HSQ
  iapply (ld c (Memref.whole cc0_scratch8) (Rect.unit (s := S1024x512) ![0, 0] S1024x512.size inb_S1024x512_S1024x512_0_0) (Finset.subset_univ _) rfl) $$ HQS
  iintro HQS
  iapply (ret_step c)
  iapply Hk
  isplitl [HOW]; · iexact HOW
  isplitl [HSC03]; · iexact HSC03
  isplitl [HSQ]; · iexact HSQ
  isplitl [HMQ]; · iexact HMQ
  isplitl [HC0]; · iexact HC0
  iexists _; iexact HQS

set_option maxRecDepth 65536 in
set_option maxHeartbeats 2000000 in
theorem part10 (v8 : BitVec 32) (v308 : Vec F S1024x512 .bf16) {Kt : (Σ' (v327 : FVec F S1024x32 .bf16) (v334 : FVec F S1024x512 .f32) (v341 : FVec F S1024x512 .f32) (v342 : BitVec 32), BitVec 32) → sProp (MT nD τ sig Unit (Elt F) ℕ UU ℕ)} :
    iprop((ctx m K ∗ (∃ f, bufP c cc0_scratch8 f) ∗ flyQr m c ∗ OW c 6 ∗ (∃ f, bufP c cc0_scratch9 f) ∗ bufP c cc0_stg4_0 (stg4 m c) ∗ gcP c (zv c) shR (GC m c) ∗ gukP c (zv c) fullShare (GUK m c) ∗ guvP c (zv c) fullShare (GUV m c))
      ∗ (∀ rv342 : BitVec 32, (bufP c cc0_scratch8 (qS m c) ∗ OW c 6 ∗ bufP c cc0_scratch6 (wqrF m c) ∗ bufP c main_arg5 (wqrM m c) ∗ cIdle c 1 ∗ bufP c cc0_scratch9 (qrS m c) ∗ bufP c cc0_stg4_0 (stg4 m c) ∗ gcP c (zv c) shR (GC m c) ∗ gukP c (zv c) fullShare (GUK m c) ∗ guvP c (zv c) fullShare (GUV m c)) -∗ Kt ⟨krV m c, kA0 m c, vA0 m c, rv342, 4#32⟩))
      ⊢ WP c (onArgs (k0_part10 (F := F)) c v8 (xV m c) (k0_pay8 (xV m c) (wqF m c)) v308) Kt := by
  rw [k0_part10_eq_skeleton]; unfold k0_part10_skel
  simp only [semSignalWord, semWaitWord, Prog.lift, Prog.bind_op, Prog.bind_ret, Prog.pure_eq_ret, wp_deviceId]
  iintro ⟨⟨#HC, ⟨%fQS, HQS⟩, HFR, HOW, ⟨%fQRS, HQRS⟩, HWR, HGC, HGUK, HGUV⟩, Hk⟩
  iapply (st c (Memref.whole cc0_scratch8) (Rect.unit (s := S1024x512) ![0, 0] S1024x512.size inb_S1024x512_S1024x512_0_0) (qS m c) (Finset.subset_univ _) (fun i _ => congrFun (Memref.write_access_unit_zero_univ (Elt F) cc0_scratch8 hz2 _ _ _) i)) $$ HQS
  iintro HQS
  iapply (wqr_wait (m := m) c K (n := 6) (by decide) cpy_sem1) $$ [HFR HOW]
  · isplitr; · iexact HC
    isplitl [HFR]; · iexact HFR
    iexact HOW
  iintro ⟨⟨HSQR, HMR⟩, HC1, HOW⟩
  iapply (ld c (Memref.whole cc0_scratch6) (Rect.unit (s := S2048x128) ![0, 0] S2048x128.size inb_S2048x128_S2048x128_0_0) (Finset.subset_univ _) (Memref.readAt_unit_zero (Elt F) cc0_scratch6 hz2 _ _)) $$ HSQR
  iintro HSQR
  iapply (ld c (Memref.whole cc0_scratch9) (Rect.unit (s := S1024x128) ![0, 0] S1024x128.size inb_S1024x128_S1024x128_0_0) (Finset.subset_univ _) rfl) $$ HQRS
  iintro HQRS
  iapply (st c (Memref.whole cc0_scratch9) (Rect.unit (s := S1024x128) ![0, 0] S1024x128.size inb_S1024x128_S1024x128_0_0) (qrS m c) (Finset.subset_univ _) (fun i _ => congrFun (Memref.write_access_unit_zero_univ (Elt F) cc0_scratch9 hz2 _ _ _) i)) $$ HQRS
  iintro HQRS
  iapply (ld c (Memref.whole cc0_stg4_0) (Rect.unit (s := S2048x32) ![0, 0] S2048x32.size inb_S2048x32_S2048x32_0_0) (Finset.subset_univ _) (Memref.readAt_unit_zero (Elt F) cc0_stg4_0 hz2 _ _)) $$ HWR
  iintro HWR
  iapply (ld_gcP c (j := zv c) (k0_off11_eq c)) $$ HGC
  iintro HGC
  iapply (ld_gukP c (j := zv c) (k0_off4_eq c)) $$ HGUK
  iintro HGUK
  iapply (ld_gcP c (j := zv c) (k0_off11_eq c)) $$ HGC
  iintro HGC
  iapply (ld_guvP c (j := zv c) (k0_off4_eq c)) $$ HGUV
  iintro HGUV
  rw [show k0_pay11 (xV m c) (stg4 m c) = krV m c from rfl]
  rw [show k0_pay12 (slC (GC m c) (zv c)) (slU (GUK m c) (zv c)) = kA0 m c from rfl]
  rw [show k0_pay13 (slC (GC m c) (zv c)) (slU (GUV m c) (zv c)) = vA0 m c from rfl]
  iapply (ret_step c)
  iapply Hk
  isplitl [HQS]; · iexact HQS
  isplitl [HOW]; · iexact HOW
  isplitl [HSQR]; · iexact HSQR
  isplitl [HMR]; · iexact HMR
  isplitl [HC1]; · iexact HC1
  isplitl [HQRS]; · iexact HQRS
  isplitl [HWR]; · iexact HWR
  isplitl [HGC]; · iexact HGC
  isplitl [HGUK]; · iexact HGUK
  iexact HGUV

set_option maxRecDepth 65536 in
set_option maxHeartbeats 2000000 in
theorem part11 (v2 : BitVec 32) (v5 : BitVec 32) (v342 : BitVec 32) (c4_i32_220 : BitVec 32) {Kt : (BitVec 32) → sProp (MT nD τ sig Unit (Elt F) ℕ UU ℕ)} :
    iprop((ctx m K ∗ rCred c 0 1 ∗ OW c 6 ∗ rPos c 0 1 0)
      ∗ (∀ rv352 : BitVec 32, (OW c 6 ∗ rPos c 0 1 1 ∗ gcP c (jk c 1) fullShare (GC m c)) -∗ Kt (rv352)))
      ⊢ WP c (onArgs (k0_part11 (F := F)) c v2 v5 v342 c4_i32_220) Kt := by
  rw [k0_part11_eq_skeleton]; unfold k0_part11_skel
  simp only [semSignalWord, semWaitWord, Prog.lift, Prog.bind_op, Prog.bind_ret, Prog.pure_eq_ret, wp_deviceId]
  iintro ⟨⟨#HC, HRC01, HOW, HRP01⟩, Hk⟩
  iapply (rcvC (m := m) c K (k := 1) (by decide) (rcv_sem 0 (jk c 1) (off12_eq c 0) _) crT_c) $$ [HRC01 HOW HRP01]
  · isplitr; · iexact HC
    isplitl [HRC01]; · iexact HRC01
    isplitl [HOW]; · iexact HOW
    iexact HRP01
  iintro ⟨HR01, HOW, HRP01⟩
  iapply (ret_step c)
  iapply Hk
  isplitl [HOW]; · iexact HOW
  isplitl [HRP01]; · iexact HRP01
  iexact HR01

set_option maxRecDepth 65536 in
set_option maxHeartbeats 2000000 in
theorem part12 (v2 : BitVec 32) (v5 : BitVec 32) (v8 : BitVec 32) (v352 : BitVec 32) {Kt : (Σ' (v396 : FVec F S1024x512 .f32) (v404 : FVec F S1024x512 .f32) (v407 : BitVec 32) (v408 : BitVec 32), BitVec 1) → sProp (MT nD τ sig Unit (Elt F) ℕ UU ℕ)} :
    iprop((ctx m K ∗ rCred c 1 1 ∗ OW c 6 ∗ rPos c 1 1 0 ∗ rCred c 2 1 ∗ rPos c 2 1 0 ∗ gcP c (jk c 1) fullShare (GC m c))
      ∗ (∀ rv407 : BitVec 32, ∀ rv408 : BitVec 32, ∀ rv409 : BitVec 1, (OW c 6 ∗ rPos c 1 1 1 ∗ gukP c (jk c 1) fullShare (GUK m c) ∗ rPos c 2 1 1 ∗ guvP c (jk c 1) fullShare (GUV m c) ∗ gcP c (jk c 1) fullShare (GC m c)) -∗ Kt ⟨kA1 m c, vA1 m c, rv407, rv408, rv409⟩))
      ⊢ WP c (onArgs (k0_part12 (F := F)) c v2 v5 v8 (kA0 m c) (vA0 m c) v352) Kt := by
  rw [k0_part12_eq_skeleton]; unfold k0_part12_skel
  simp only [semSignalWord, semWaitWord, Prog.lift, Prog.bind_op, Prog.bind_ret, Prog.pure_eq_ret, wp_deviceId]
  iintro ⟨⟨#HC, HRC11, HOW, HRP11, HRC21, HRP21, HR01⟩, Hk⟩
  iapply (rcvUK (m := m) c K (k := 1) (by decide) (rcv_sem 1 (jk c 1) (off5_eq c 0) _) crT_uk) $$ [HRC11 HOW HRP11]
  · isplitr; · iexact HC
    isplitl [HRC11]; · iexact HRC11
    isplitl [HOW]; · iexact HOW
    iexact HRP11
  iintro ⟨HR11, HOW, HRP11⟩
  iapply (rcvUV (m := m) c K (k := 1) (by decide) (rcv_sem 2 (jk c 1) (off9_eq c 0) _) crT_uv) $$ [HRC21 HOW HRP21]
  · isplitr; · iexact HC
    isplitl [HRC21]; · iexact HRC21
    isplitl [HOW]; · iexact HOW
    iexact HRP21
  iintro ⟨HR21, HOW, HRP21⟩
  iapply (ld_gcP c (j := jk c 1) (off17_eq c 0)) $$ HR01
  iintro HR01
  iapply (ld_gukP c (j := jk c 1) (off18_eq c 0)) $$ HR11
  iintro HR11
  iapply (ld_gcP c (j := jk c 1) (off17_eq c 0)) $$ HR01
  iintro HR01
  iapply (ld_guvP c (j := jk c 1) (off18_eq c 0)) $$ HR21
  iintro HR21
  rw [show k0_pay14 (kA0 m c) (slC (GC m c) (jk c 1)) (slU (GUK m c) (jk c 1)) = kA1 m c from rfl]
  rw [show k0_pay15 (vA0 m c) (slC (GC m c) (jk c 1)) (slU (GUV m c) (jk c 1)) = vA1 m c from rfl]
  iapply (ret_step c)
  iapply Hk
  isplitl [HOW]; · iexact HOW
  isplitl [HRP11]; · iexact HRP11
  isplitl [HR11]; · iexact HR11
  isplitl [HRP21]; · iexact HRP21
  isplitl [HR21]; · iexact HR21
  iexact HR01

set_option maxRecDepth 65536 in
set_option maxHeartbeats 2000000 in
theorem part13 (v2 : BitVec 32) (v5 : BitVec 32) (v407 : BitVec 32) (v408 : BitVec 32) (v409 : BitVec 1) {Kt : (Σ' (v415 : BitVec 32), BitVec 32) → sProp (MT nD τ sig Unit (Elt F) ℕ UU ℕ)} :
    iprop((ctx m K ∗ rCred c 0 2 ∗ OW c 6 ∗ rPos c 0 2 0 ∗ rCred c 1 2 ∗ rPos c 1 2 0)
      ∗ (∀ rv415 : BitVec 32, ∀ rv441 : BitVec 32, (OW c 6 ∗ rPos c 0 2 1 ∗ gcP c (jk c 2) fullShare (GC m c) ∗ rPos c 1 2 1 ∗ gukP c (jk c 2) fullShare (GUK m c)) -∗ Kt ⟨rv415, rv441⟩))
      ⊢ WP c (onArgs (k0_part13 (F := F)) c v2 v5 v407 v408 v409) Kt := by
  rw [k0_part13_eq_skeleton]; unfold k0_part13_skel
  simp only [semSignalWord, semWaitWord, Prog.lift, Prog.bind_op, Prog.bind_ret, Prog.pure_eq_ret, wp_deviceId]
  iintro ⟨⟨#HC, HRC02, HOW, HRP02, HRC12, HRP12⟩, Hk⟩
  iapply (rcvC (m := m) c K (k := 2) (by decide) (rcv_sem 0 (jk c 2) (off12_eq c 1) _) crT_c) $$ [HRC02 HOW HRP02]
  · isplitr; · iexact HC
    isplitl [HRC02]; · iexact HRC02
    isplitl [HOW]; · iexact HOW
    iexact HRP02
  iintro ⟨HR02, HOW, HRP02⟩
  iapply (rcvUK (m := m) c K (k := 2) (by decide) (rcv_sem 1 (jk c 2) (off5_eq c 1) _) crT_uk) $$ [HRC12 HOW HRP12]
  · isplitr; · iexact HC
    isplitl [HRC12]; · iexact HRC12
    isplitl [HOW]; · iexact HOW
    iexact HRP12
  iintro ⟨HR12, HOW, HRP12⟩
  iapply (ret_step c)
  iapply Hk
  isplitl [HOW]; · iexact HOW
  isplitl [HRP02]; · iexact HRP02
  isplitl [HR02]; · iexact HR02
  isplitl [HRP12]; · iexact HRP12
  iexact HR12

end

end Cert.KProof
-- ==== Proof.PartsC.lean ====
/-
  The remaining keys and values, and the heads.
-/
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable (c : Dev nD) (K : Dev nD × CI → ℕ)

set_option maxRecDepth 65536 in
set_option maxHeartbeats 2000000 in
theorem part14 (v5 : BitVec 32) (v8 : BitVec 32) (v415 : BitVec 32) (v441 : BitVec 32) {Kt : (Σ' (v459 : FVec F S1024x512 .f32) (v467 : FVec F S1024x512 .f32) (v471 : BitVec 32) (v476 : BitVec 1), BitVec 32) → sProp (MT nD τ sig Unit (Elt F) ℕ UU ℕ)} :
    iprop((ctx m K ∗ rCred c 2 2 ∗ OW c 6 ∗ rPos c 2 2 0 ∗ gcP c (jk c 2) fullShare (GC m c) ∗ gukP c (jk c 2) fullShare (GUK m c))
      ∗ (∀ rv471 : BitVec 32, ∀ rv476 : BitVec 1, ∀ rv477 : BitVec 32, (OW c 6 ∗ rPos c 2 2 1 ∗ guvP c (jk c 2) fullShare (GUV m c) ∗ gcP c (jk c 2) fullShare (GC m c) ∗ gukP c (jk c 2) fullShare (GUK m c)) -∗ Kt ⟨kA2 m c, vA2 m c, rv471, rv476, rv477⟩))
      ⊢ WP c (onArgs (k0_part14 (F := F)) c v5 v8 (kA1 m c) (vA1 m c) v415 v441) Kt := by
  rw [k0_part14_eq_skeleton]; unfold k0_part14_skel
  simp only [semSignalWord, semWaitWord, Prog.lift, Prog.bind_op, Prog.bind_ret, Prog.pure_eq_ret, wp_deviceId]
  iintro ⟨⟨#HC, HRC22, HOW, HRP22, HR02, HR12⟩, Hk⟩
  iapply (rcvUV (m := m) c K (k := 2) (by decide) (rcv_sem 2 (jk c 2) (off9_eq c 1) _) crT_uv) $$ [HRC22 HOW HRP22]
  · isplitr; · iexact HC
    isplitl [HRC22]; · iexact HRC22
    isplitl [HOW]; · iexact HOW
    iexact HRP22
  iintro ⟨HR22, HOW, HRP22⟩
  iapply (ld_gcP c (j := jk c 2) (off17_eq c 1)) $$ HR02
  iintro HR02
  iapply (ld_gukP c (j := jk c 2) (off18_eq c 1)) $$ HR12
  iintro HR12
  iapply (ld_gcP c (j := jk c 2) (off17_eq c 1)) $$ HR02
  iintro HR02
  iapply (ld_guvP c (j := jk c 2) (off18_eq c 1)) $$ HR22
  iintro HR22
  rw [show k0_pay16 (kA1 m c) (slC (GC m c) (jk c 2)) (slU (GUK m c) (jk c 2)) = kA2 m c from rfl]
  rw [show k0_pay17 (vA1 m c) (slC (GC m c) (jk c 2)) (slU (GUV m c) (jk c 2)) = vA2 m c from rfl]
  iapply (ret_step c)
  iapply Hk
  isplitl [HOW]; · iexact HOW
  isplitl [HRP22]; · iexact HRP22
  isplitl [HR22]; · iexact HR22
  isplitl [HR02]; · iexact HR02
  iexact HR12

set_option maxRecDepth 65536 in
set_option maxHeartbeats 2000000 in
theorem part15 (v2 : BitVec 32) (v5 : BitVec 32) (v471 : BitVec 32) (v476 : BitVec 1) (v477 : BitVec 32) {Kt : (BitVec 32) → sProp (MT nD τ sig Unit (Elt F) ℕ UU ℕ)} :
    iprop((ctx m K ∗ rCred c 0 3 ∗ OW c 6 ∗ rPos c 0 3 0 ∗ rCred c 1 3 ∗ rPos c 1 3 0)
      ∗ (∀ rv478 : BitVec 32, (OW c 6 ∗ rPos c 0 3 1 ∗ gcP c (jk c 3) fullShare (GC m c) ∗ rPos c 1 3 1 ∗ gukP c (jk c 3) fullShare (GUK m c)) -∗ Kt (rv478)))
      ⊢ WP c (onArgs (k0_part15 (F := F)) c v2 v5 v471 v476 v477) Kt := by
  rw [k0_part15_eq_skeleton]; unfold k0_part15_skel
  simp only [semSignalWord, semWaitWord, Prog.lift, Prog.bind_op, Prog.bind_ret, Prog.pure_eq_ret, wp_deviceId]
  iintro ⟨⟨#HC, HRC03, HOW, HRP03, HRC13, HRP13⟩, Hk⟩
  iapply (rcvC (m := m) c K (k := 3) (by decide) (rcv_sem 0 (jk c 3) (off12_eq c 2) _) crT_c) $$ [HRC03 HOW HRP03]
  · isplitr; · iexact HC
    isplitl [HRC03]; · iexact HRC03
    isplitl [HOW]; · iexact HOW
    iexact HRP03
  iintro ⟨HR03, HOW, HRP03⟩
  iapply (rcvUK (m := m) c K (k := 3) (by decide) (rcv_sem 1 (jk c 3) (off5_eq c 2) _) crT_uk) $$ [HRC13 HOW HRP13]
  · isplitr; · iexact HC
    isplitl [HRC13]; · iexact HRC13
    isplitl [HOW]; · iexact HOW
    iexact HRP13
  iintro ⟨HR13, HOW, HRP13⟩
  iapply (ret_step c)
  iapply Hk
  isplitl [HOW]; · iexact HOW
  isplitl [HRP03]; · iexact HRP03
  isplitl [HR03]; · iexact HR03
  isplitl [HRP13]; · iexact HRP13
  iexact HR13

set_option maxRecDepth 65536 in
set_option maxHeartbeats 2000000 in
theorem part16 (v478 : BitVec 32) {Kt : (Σ' (v539 : Vec F S1024x128 .bf16) (v540 : Vec F S1024x32 .bf16) (v541 : Vec F S1024x128 .bf16), FVec F S1024x1024 .f32) → sProp (MT nD τ sig Unit (Elt F) ℕ UU ℕ)} :
    iprop((ctx m K ∗ rCred c 2 3 ∗ OW c 6 ∗ rPos c 2 3 0 ∗ gcP c (jk c 3) fullShare (GC m c) ∗ gukP c (jk c 3) fullShare (GUK m c) ∗ (∃ f, bufP c cc0_scratch10 f) ∗ (∃ f, bufP c cc0_scratch11 f) ∗ bufP c cc0_scratch8 (qS m c) ∗ bufP c cc0_scratch9 (qrS m c))
      ∗ ((OW c 6 ∗ rPos c 2 3 1 ∗ guvP c (jk c 3) fullShare (GUV m c) ∗ gcP c (jk c 3) fullShare (GC m c) ∗ gukP c (jk c 3) fullShare (GUK m c) ∗ bufP c cc0_scratch10 (kS m c) ∗ bufP c cc0_scratch11 (vS m c) ∗ bufP c cc0_scratch8 (qS m c) ∗ bufP c cc0_scratch9 (qrS m c)) -∗ Kt ⟨colH (qS m c) 0, colR (qrS m c) 0, colH (kS m c) 0, constant S1024x1024 .f32 0x00000000#32⟩))
      ⊢ WP c (onArgs (k0_part16 (F := F)) c (kA2 m c) (vA2 m c) v478) Kt := by
  rw [k0_part16_eq_skeleton]; unfold k0_part16_skel
  simp only [semSignalWord, semWaitWord, Prog.lift, Prog.bind_op, Prog.bind_ret, Prog.pure_eq_ret, wp_deviceId]
  iintro ⟨⟨#HC, HRC23, HOW, HRP23, HR03, HR13, ⟨%fKS, HKS⟩, ⟨%fVS, HVS⟩, HQS, HQRS⟩, Hk⟩
  iapply (rcvUV (m := m) c K (k := 3) (by decide) (rcv_sem 2 (jk c 3) (off9_eq c 2) _) crT_uv) $$ [HRC23 HOW HRP23]
  · isplitr; · iexact HC
    isplitl [HRC23]; · iexact HRC23
    isplitl [HOW]; · iexact HOW
    iexact HRP23
  iintro ⟨HR23, HOW, HRP23⟩
  iapply (ld_gcP c (j := jk c 3) (off17_eq c 2)) $$ HR03
  iintro HR03
  iapply (ld_gukP c (j := jk c 3) (off18_eq c 2)) $$ HR13
  iintro HR13
  iapply (ld_gcP c (j := jk c 3) (off17_eq c 2)) $$ HR03
  iintro HR03
  iapply (ld_guvP c (j := jk c 3) (off18_eq c 2)) $$ HR23
  iintro HR23
  iapply (ld c (Memref.whole cc0_scratch10) (Rect.unit (s := S1024x512) ![0, 0] S1024x512.size inb_S1024x512_S1024x512_0_0) (Finset.subset_univ _) rfl) $$ HKS
  iintro HKS
  iapply (st c (Memref.whole cc0_scratch10) (Rect.unit (s := S1024x512) ![0, 0] S1024x512.size inb_S1024x512_S1024x512_0_0) (kS m c) (Finset.subset_univ _) (fun i _ => congrFun (Memref.write_access_unit_zero_univ (Elt F) cc0_scratch10 hz2 _ _ _) i)) $$ HKS
  iintro HKS
  iapply (ld c (Memref.whole cc0_scratch11) (Rect.unit (s := S1024x512) ![0, 0] S1024x512.size inb_S1024x512_S1024x512_0_0) (Finset.subset_univ _) rfl) $$ HVS
  iintro HVS
  iapply (st c (Memref.whole cc0_scratch11) (Rect.unit (s := S1024x512) ![0, 0] S1024x512.size inb_S1024x512_S1024x512_0_0) (vS m c) (Finset.subset_univ _) (fun i _ => congrFun (Memref.write_access_unit_zero_univ (Elt F) cc0_scratch11 hz2 _ _ _) i)) $$ HVS
  iintro HVS
  iapply (ld c (Memref.whole cc0_scratch8) (Rect.unit (s := S1024x512) ![0, 0] S1024x128.size inb_S1024x512_S1024x128_0_0) (Finset.subset_univ _) (ld_q 0 _ (qS m c))) $$ HQS
  iintro HQS
  iapply (ld c (Memref.whole cc0_scratch9) (Rect.unit (s := S1024x128) ![0, 0] S1024x32.size inb_S1024x128_S1024x32_0_0) (Finset.subset_univ _) (ld_qr 0 _ (qrS m c))) $$ HQRS
  iintro HQRS
  iapply (ld c (Memref.whole cc0_scratch10) (Rect.unit (s := S1024x512) ![0, 0] S1024x128.size inb_S1024x512_S1024x128_0_0) (Finset.subset_univ _) (ld_k 0 _ (kS m c))) $$ HKS
  iintro HKS
  iapply (ret_step c)
  iapply Hk
  isplitl [HOW]; · iexact HOW
  isplitl [HRP23]; · iexact HRP23
  isplitl [HR23]; · iexact HR23
  isplitl [HR03]; · iexact HR03
  isplitl [HR13]; · iexact HR13
  isplitl [HKS]; · iexact HKS
  isplitl [HVS]; · iexact HVS
  isplitl [HQS]; · iexact HQS
  iexact HQRS

set_option maxRecDepth 65536 in
set_option maxHeartbeats 2000000 in
theorem part17 (v8 : BitVec 32) {Kt : (PUnit) → sProp (MT nD τ sig Unit (Elt F) ℕ UU ℕ)} :
    iprop((bufP c cc0_scratch11 (vS m c) ∗ (∃ f, ohP c (zv c) 0 0 f) ∗ bufP c cc0_scratch8 (qS m c) ∗ bufP c cc0_scratch9 (qrS m c) ∗ bufP c cc0_scratch10 (kS m c) ∗ (∃ f, ohP c (zv c) 0 1 f))
      ∗ ((bufP c cc0_scratch11 (vS m c) ∗ ohP c (zv c) 0 0 (OS m c) ∗ bufP c cc0_scratch8 (qS m c) ∗ bufP c cc0_scratch9 (qrS m c) ∗ bufP c cc0_scratch10 (kS m c) ∗ ohP c (zv c) 0 1 (OS m c)) -∗ Kt ⟨⟩))
      ⊢ WP c (onArgs (k0_part17 (F := F)) c v8 (krV m c) (colH (qS m c) 0) (colR (qrS m c) 0) (colH (kS m c) 0) (constant S1024x1024 .f32 0x00000000#32)) Kt := by
  rw [k0_part17_eq_skeleton]; unfold k0_part17_skel
  simp only [semSignalWord, semWaitWord, Prog.lift, Prog.bind_op, Prog.bind_ret, Prog.pure_eq_ret, wp_deviceId]
  iintro ⟨⟨HVS, ⟨%fOH00, HOH00⟩, HQS, HQRS, HKS, ⟨%fOH01, HOH01⟩⟩, Hk⟩
  iapply (ld c (Memref.whole cc0_scratch11) (Rect.unit (s := S1024x512) ![0, 0] S1024x128.size inb_S1024x512_S1024x128_0_0) (Finset.subset_univ _) (ld_v 0 _ (vS m c))) $$ HVS
  iintro HVS
  iapply (ld_ohP c (j := zv c) (e := 0) (s := 0) (k0_off19_eq c)) $$ HOH00
  iintro HOH00
  iapply (st_ohP (m := m) c (e := 0) (s := 0) rfl (k0_off19_eq c)) $$ HOH00
  iintro HOH00
  iapply (ld c (Memref.whole cc0_scratch8) (Rect.unit (s := S1024x512) ![0, 128] S1024x128.size inb_S1024x512_S1024x128_0_128) (Finset.subset_univ _) (ld_q 1 _ (qS m c))) $$ HQS
  iintro HQS
  iapply (ld c (Memref.whole cc0_scratch9) (Rect.unit (s := S1024x128) ![0, 32] S1024x32.size inb_S1024x128_S1024x32_0_32) (Finset.subset_univ _) (ld_qr 1 _ (qrS m c))) $$ HQRS
  iintro HQRS
  iapply (ld c (Memref.whole cc0_scratch10) (Rect.unit (s := S1024x512) ![0, 128] S1024x128.size inb_S1024x512_S1024x128_0_128) (Finset.subset_univ _) (ld_k 1 _ (kS m c))) $$ HKS
  iintro HKS
  iapply (ld c (Memref.whole cc0_scratch11) (Rect.unit (s := S1024x512) ![0, 128] S1024x128.size inb_S1024x512_S1024x128_0_128) (Finset.subset_univ _) (ld_v 1 _ (vS m c))) $$ HVS
  iintro HVS
  iapply (ld_ohP c (j := zv c) (e := 0) (s := 1) (k0_off20_eq c)) $$ HOH01
  iintro HOH01
  iapply (st_ohP (m := m) c (e := 0) (s := 1) rfl (k0_off20_eq c)) $$ HOH01
  iintro HOH01
  iapply (ret_step c)
  iapply Hk
  isplitl [HVS]; · iexact HVS
  isplitl [HOH00]; · iexact HOH00
  isplitl [HQS]; · iexact HQS
  isplitl [HQRS]; · iexact HQRS
  isplitl [HKS]; · iexact HKS
  iexact HOH01

set_option maxRecDepth 65536 in
set_option maxHeartbeats 2000000 in
theorem part18 (v2 : BitVec 32) (v5 : BitVec 32) (v8 : BitVec 32) {Kt : (Σ' (v604 : BitVec 32) (v605 : BitVec 32) (v606 : BitVec 1), BitVec 1) → sProp (MT nD τ sig Unit (Elt F) ℕ UU ℕ)} :
    iprop((ctx m K ∗ osP c (zv c) 0 (shJ (jk c 1)) (OS m c) ∗ (∃ f, osP (gdev c (jk c 1)) (zv c) 0 fullShare f) ∗ OW c 6 ∗ sTok c 3 1)
      ∗ (∀ rv604 : BitVec 32, ∀ rv605 : BitVec 32, ∀ rv606 : BitVec 1, ∀ rv609 : BitVec 1, (OW c 5 ∗ sCred c 3 1) -∗ Kt ⟨rv604, rv605, rv606, rv609⟩))
      ⊢ WP c (onArgs (k0_part18 (F := F)) c v2 v5 v8) Kt := by
  rw [k0_part18_eq_skeleton]; unfold k0_part18_skel
  simp only [semSignalWord, semWaitWord, Prog.lift, Prog.bind_op, Prog.bind_ret, Prog.pure_eq_ret, wp_deviceId]
  iintro ⟨⟨#HC, HSRC31, HPG31, HOW, HST31⟩, Hk⟩
  iapply (send_o0 (m := m) c K (k := 1) (by decide) (n := 5) (by decide) rfl (dev13_eq c) (snd_sem 3 (jk c 1) (off21_eq c 0) _) (rcv_sem 3 (zv c) (k0_off22_eq c) _) (k0_off23_eq c)) $$ [HSRC31 HPG31 HOW HST31]
  · isplitr; · iexact HC
    isplitl [HSRC31]; · iexact HSRC31
    isplitl [HPG31]; · iexact HPG31
    isplitl [HOW]; · iexact HOW
    iexact HST31
  iintro ⟨HSC31, HOW⟩
  iapply (ret_step c)
  iapply Hk
  isplitl [HOW]; · iexact HOW
  iexact HSC31

set_option maxRecDepth 65536 in
set_option maxHeartbeats 2000000 in
theorem part19 (v2 : BitVec 32) (v5 : BitVec 32) (v8 : BitVec 32) (v604 : BitVec 32) (v605 : BitVec 32) (v606 : BitVec 1) (v609 : BitVec 1) {Kt : (Σ' (v637 : BitVec 32) (v641 : BitVec 32), BitVec 32) → sProp (MT nD τ sig Unit (Elt F) ℕ UU ℕ)} :
    iprop((ctx m K ∗ osP c (zv c) 0 (shJ (jk c 2)) (OS m c) ∗ (∃ f, osP (gdev c (jk c 2)) (zv c) 0 fullShare f) ∗ OW c 5 ∗ sTok c 3 2)
      ∗ (∀ rv637 : BitVec 32, ∀ rv641 : BitVec 32, (OW c 4 ∗ sCred c 3 2) -∗ Kt ⟨rv637, rv641, 1#32⟩))
      ⊢ WP c (onArgs (k0_part19 (F := F)) c v2 v5 v8 v604 v605 v606 v609) Kt := by
  rw [k0_part19_eq_skeleton]; unfold k0_part19_skel
  simp only [semSignalWord, semWaitWord, Prog.lift, Prog.bind_op, Prog.bind_ret, Prog.pure_eq_ret, wp_deviceId]
  iintro ⟨⟨#HC, HSRC32, HPG32, HOW, HST32⟩, Hk⟩
  iapply (send_o0 (m := m) c K (k := 2) (by decide) (n := 4) (by decide) rfl (dev14_eq c) (snd_sem 3 (jk c 2) (off21_eq c 1) _) (rcv_sem 3 (zv c) (k0_off22_eq c) _) (k0_off23_eq c)) $$ [HSRC32 HPG32 HOW HST32]
  · isplitr; · iexact HC
    isplitl [HSRC32]; · iexact HSRC32
    isplitl [HPG32]; · iexact HPG32
    isplitl [HOW]; · iexact HOW
    iexact HST32
  iintro ⟨HSC32, HOW⟩
  iapply (ret_step c)
  iapply Hk
  isplitl [HOW]; · iexact HOW
  iexact HSC32

set_option maxRecDepth 65536 in
set_option maxHeartbeats 2000000 in
theorem part20 (v8 : BitVec 32) (v637 : BitVec 32) (v641 : BitVec 32) (c1_i32_444 : BitVec 32) {Kt : (Σ' (v671 : Vec F S1024x128 .bf16) (v672 : Vec F S1024x32 .bf16) (v673 : Vec F S1024x128 .bf16), FVec F S1024x1024 .f32) → sProp (MT nD τ sig Unit (Elt F) ℕ UU ℕ)} :
    iprop((ctx m K ∗ osP c (zv c) 0 (shJ (jk c 3)) (OS m c) ∗ (∃ f, osP (gdev c (jk c 3)) (zv c) 0 fullShare f) ∗ OW c 4 ∗ sTok c 3 3 ∗ bufP c cc0_scratch8 (qS m c) ∗ bufP c cc0_scratch9 (qrS m c) ∗ bufP c cc0_scratch10 (kS m c) ∗ bufP c cc0_scratch11 (vS m c) ∗ (∃ f, ohP c (zv c) 1 0 f))
      ∗ ((OW c 3 ∗ sCred c 3 3 ∗ bufP c cc0_scratch8 (qS m c) ∗ bufP c cc0_scratch9 (qrS m c) ∗ bufP c cc0_scratch10 (kS m c) ∗ bufP c cc0_scratch11 (vS m c) ∗ ohP c (zv c) 1 0 (OS m c)) -∗ Kt ⟨colH (qS m c) 3, colR (qrS m c) 3, colH (kS m c) 3, constant S1024x1024 .f32 0x00000000#32⟩))
      ⊢ WP c (onArgs (k0_part20 (F := F)) c v8 (krV m c) v637 v641 c1_i32_444) Kt := by
  rw [k0_part20_eq_skeleton]; unfold k0_part20_skel
  simp only [semSignalWord, semWaitWord, Prog.lift, Prog.bind_op, Prog.bind_ret, Prog.pure_eq_ret, wp_deviceId]
  iintro ⟨⟨#HC, HSRC33, HPG33, HOW, HST33, HQS, HQRS, HKS, HVS, ⟨%fOH10, HOH10⟩⟩, Hk⟩
  iapply (send_o0 (m := m) c K (k := 3) (by decide) (n := 3) (by decide) rfl (dev15_eq c) (snd_sem 3 (jk c 3) (off21_eq c 2) _) (rcv_sem 3 (zv c) (k0_off22_eq c) _) (k0_off23_eq c)) $$ [HSRC33 HPG33 HOW HST33]
  · isplitr; · iexact HC
    isplitl [HSRC33]; · iexact HSRC33
    isplitl [HPG33]; · iexact HPG33
    isplitl [HOW]; · iexact HOW
    iexact HST33
  iintro ⟨HSC33, HOW⟩
  iapply (ld c (Memref.whole cc0_scratch8) (Rect.unit (s := S1024x512) ![0, 256] S1024x128.size inb_S1024x512_S1024x128_0_256) (Finset.subset_univ _) (ld_q 2 _ (qS m c))) $$ HQS
  iintro HQS
  iapply (ld c (Memref.whole cc0_scratch9) (Rect.unit (s := S1024x128) ![0, 64] S1024x32.size inb_S1024x128_S1024x32_0_64) (Finset.subset_univ _) (ld_qr 2 _ (qrS m c))) $$ HQRS
  iintro HQRS
  iapply (ld c (Memref.whole cc0_scratch10) (Rect.unit (s := S1024x512) ![0, 256] S1024x128.size inb_S1024x512_S1024x128_0_256) (Finset.subset_univ _) (ld_k 2 _ (kS m c))) $$ HKS
  iintro HKS
  iapply (ld c (Memref.whole cc0_scratch11) (Rect.unit (s := S1024x512) ![0, 256] S1024x128.size inb_S1024x512_S1024x128_0_256) (Finset.subset_univ _) (ld_v 2 _ (vS m c))) $$ HVS
  iintro HVS
  iapply (ld_ohP c (j := zv c) (e := 1) (s := 0) (k0_off24_eq c)) $$ HOH10
  iintro HOH10
  iapply (st_ohP (m := m) c (e := 1) (s := 0) rfl (k0_off24_eq c)) $$ HOH10
  iintro HOH10
  iapply (ld c (Memref.whole cc0_scratch8) (Rect.unit (s := S1024x512) ![0, 384] S1024x128.size inb_S1024x512_S1024x128_0_384) (Finset.subset_univ _) (ld_q 3 _ (qS m c))) $$ HQS
  iintro HQS
  iapply (ld c (Memref.whole cc0_scratch9) (Rect.unit (s := S1024x128) ![0, 96] S1024x32.size inb_S1024x128_S1024x32_0_96) (Finset.subset_univ _) (ld_qr 3 _ (qrS m c))) $$ HQRS
  iintro HQRS
  iapply (ld c (Memref.whole cc0_scratch10) (Rect.unit (s := S1024x512) ![0, 384] S1024x128.size inb_S1024x512_S1024x128_0_384) (Finset.subset_univ _) (ld_k 3 _ (kS m c))) $$ HKS
  iintro HKS
  iapply (ret_step c)
  iapply Hk
  isplitl [HOW]; · iexact HOW
  isplitl [HSC33]; · iexact HSC33
  isplitl [HQS]; · iexact HQS
  isplitl [HQRS]; · iexact HQRS
  isplitl [HKS]; · iexact HKS
  isplitl [HVS]; · iexact HVS
  iexact HOH10

set_option maxRecDepth 65536 in
set_option maxHeartbeats 2000000 in
theorem part21 (v2 : BitVec 32) (v5 : BitVec 32) (v8 : BitVec 32) {Kt : (PUnit) → sProp (MT nD τ sig Unit (Elt F) ℕ UU ℕ)} :
    iprop((bufP c cc0_scratch11 (vS m c) ∗ (∃ f, ohP c (zv c) 1 1 f))
      ∗ ((bufP c cc0_scratch11 (vS m c) ∗ ohP c (zv c) 1 1 (OS m c)) -∗ Kt ⟨⟩))
      ⊢ WP c (onArgs (k0_part21 (F := F)) c v2 v5 v8 (krV m c) (colH (qS m c) 3) (colR (qrS m c) 3) (colH (kS m c) 3) (constant S1024x1024 .f32 0x00000000#32)) Kt := by
  rw [k0_part21_eq_skeleton]; unfold k0_part21_skel
  simp only [semSignalWord, semWaitWord, Prog.lift, Prog.bind_op, Prog.bind_ret, Prog.pure_eq_ret, wp_deviceId]
  iintro ⟨⟨HVS, ⟨%fOH11, HOH11⟩⟩, Hk⟩
  iapply (ld c (Memref.whole cc0_scratch11) (Rect.unit (s := S1024x512) ![0, 384] S1024x128.size inb_S1024x512_S1024x128_0_384) (Finset.subset_univ _) (ld_v 3 _ (vS m c))) $$ HVS
  iintro HVS
  iapply (ld_ohP c (j := zv c) (e := 1) (s := 1) (k0_off25_eq c)) $$ HOH11
  iintro HOH11
  iapply (st_ohP (m := m) c (e := 1) (s := 1) rfl (k0_off25_eq c)) $$ HOH11
  iintro HOH11
  iapply (ret_step c)
  iapply Hk
  isplitl [HVS]; · iexact HVS
  iexact HOH11

end

end Cert.KProof
-- ==== Proof.PartsD.lean ====
/-
  The heads go out; the first blocks of the output product.
-/
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable (c : Dev nD) (K : Dev nD × CI → ℕ)

set_option maxRecDepth 65536 in
set_option maxHeartbeats 2000000 in
theorem part22 (v2 : BitVec 32) (v5 : BitVec 32) (v8 : BitVec 32) {Kt : (Σ' (v740 : BitVec 32) (c4_i32_513 : BitVec 32), BitVec 1) → sProp (MT nD τ sig Unit (Elt F) ℕ UU ℕ)} :
    iprop((ctx m K ∗ osP c (zv c) 1 (shJ (jk c 1)) (OS m c) ∗ (∃ f, osP (gdev c (jk c 1)) (zv c) 1 fullShare f) ∗ OW c 3 ∗ sTok c 4 1 ∗ osP c (zv c) 1 (shJ (jk c 2)) (OS m c) ∗ (∃ f, osP (gdev c (jk c 2)) (zv c) 1 fullShare f) ∗ sTok c 4 2)
      ∗ (∀ rv740 : BitVec 32, ∀ rv741 : BitVec 1, (OW c 1 ∗ sCred c 4 1 ∗ sCred c 4 2) -∗ Kt ⟨rv740, 4#32, rv741⟩))
      ⊢ WP c (onArgs (k0_part22 (F := F)) c v2 v5 v8) Kt := by
  rw [k0_part22_eq_skeleton]; unfold k0_part22_skel
  simp only [semSignalWord, semWaitWord, Prog.lift, Prog.bind_op, Prog.bind_ret, Prog.pure_eq_ret, wp_deviceId]
  iintro ⟨⟨#HC, HSRC41, HPG41, HOW, HST41, HSRC42, HPG42, HST42⟩, Hk⟩
  iapply (send_o1 (m := m) c K (k := 1) (by decide) (n := 2) (by decide) rfl (dev16_eq c) (snd_sem 4 (jk c 1) (off26_eq c 0) _) (rcv_sem 4 (zv c) (k0_off27_eq c) _) (k0_off28_eq c)) $$ [HSRC41 HPG41 HOW HST41]
  · isplitr; · iexact HC
    isplitl [HSRC41]; · iexact HSRC41
    isplitl [HPG41]; · iexact HPG41
    isplitl [HOW]; · iexact HOW
    iexact HST41
  iintro ⟨HSC41, HOW⟩
  iapply (send_o1 (m := m) c K (k := 2) (by decide) (n := 1) (by decide) rfl (dev17_eq c) (snd_sem 4 (jk c 2) (off26_eq c 1) _) (rcv_sem 4 (zv c) (k0_off27_eq c) _) (k0_off28_eq c)) $$ [HSRC42 HPG42 HOW HST42]
  · isplitr; · iexact HC
    isplitl [HSRC42]; · iexact HSRC42
    isplitl [HPG42]; · iexact HPG42
    isplitl [HOW]; · iexact HOW
    iexact HST42
  iintro ⟨HSC42, HOW⟩
  iapply (ret_step c)
  iapply Hk
  isplitl [HOW]; · iexact HOW
  isplitl [HSC41]; · iexact HSC41
  iexact HSC42

set_option maxRecDepth 65536 in
set_option maxHeartbeats 2000000 in
theorem part23 (v2 : BitVec 32) (v5 : BitVec 32) (v8 : BitVec 32) (v740 : BitVec 32) (c4_i32_513 : BitVec 32) (v741 : BitVec 1) {Kt : (Σ' (v775 : BitVec 32), BitVec 32) → sProp (MT nD τ sig Unit (Elt F) ℕ UU ℕ)} :
    iprop((ctx m K ∗ osP c (zv c) 1 (shJ (jk c 3)) (OS m c) ∗ (∃ f, osP (gdev c (jk c 3)) (zv c) 1 fullShare f) ∗ OW c 1 ∗ sTok c 4 3)
      ∗ (∀ rv775 : BitVec 32, ∀ rv776 : BitVec 32, (OW c 0 ∗ sCred c 4 3) -∗ Kt ⟨rv775, rv776⟩))
      ⊢ WP c (onArgs (k0_part23 (F := F)) c v2 v5 v8 v740 c4_i32_513 v741) Kt := by
  rw [k0_part23_eq_skeleton]; unfold k0_part23_skel
  simp only [semSignalWord, semWaitWord, Prog.lift, Prog.bind_op, Prog.bind_ret, Prog.pure_eq_ret, wp_deviceId]
  iintro ⟨⟨#HC, HSRC43, HPG43, HOW, HST43⟩, Hk⟩
  iapply (send_o1 (m := m) c K (k := 3) (by decide) (n := 0) (by decide) rfl (dev18_eq c) (snd_sem 4 (jk c 3) (off26_eq c 2) _) (rcv_sem 4 (zv c) (k0_off27_eq c) _) (k0_off28_eq c)) $$ [HSRC43 HPG43 HOW HST43]
  · isplitr; · iexact HC
    isplitl [HSRC43]; · iexact HSRC43
    isplitl [HPG43]; · iexact HPG43
    isplitl [HOW]; · iexact HOW
    iexact HST43
  iintro ⟨HSC43, HOW⟩
  iapply (ret_step c)
  iapply Hk
  isplitl [HOW]; · iexact HOW
  iexact HSC43

set_option maxRecDepth 65536 in
set_option maxHeartbeats 2000000 in
theorem part24 (v8 : BitVec 32) (v776 : BitVec 32) {Kt : (Σ' (v786 : BitVec 32), BitVec 32) → sProp (MT nD τ sig Unit (Elt F) ℕ UU ℕ)} :
    iprop((woI m c 0)
      ∗ (∀ rv786 : BitVec 32, ∀ rv797 : BitVec 32, (woF m c 0 (zv c) 0) -∗ Kt ⟨rv786, rv797⟩))
      ⊢ WP c (onArgs (k0_part24 (F := F)) c v8 v776) Kt := by
  rw [k0_part24_eq_skeleton]; unfold k0_part24_skel
  simp only [semSignalWord, semWaitWord, Prog.lift, Prog.bind_op, Prog.bind_ret, Prog.pure_eq_ret, wp_deviceId]
  iintro ⟨HWO0, Hk⟩
  iapply (wo_start (m := m) c (s := 0) (e := 0) (j := (zv c)) (k0_off29_eq c 0) rfl cpy_sem2) $$ HWO0
  iintro HWO0
  iapply (ret_step c)
  iapply Hk
  iexact HWO0

set_option maxRecDepth 65536 in
set_option maxHeartbeats 2000000 in
theorem part25 (v8 : BitVec 32) (v775 : BitVec 32) {Kt : (PUnit) → sProp (MT nD τ sig Unit (Elt F) ℕ UU ℕ)} :
    iprop((ctx m K ∗ woI m c 1 ∗ woF m c 0 (zv c) 0 ∗ OW c 0 ∗ osP c (zv c) 0 shR (OS m c) ∗ (∃ f, bufP c cc0_stg5_0 f))
      ∗ ((woF m c 1 (zv c) 1 ∗ woF m c 0 (jk c 1) 0 ∗ OW c 0 ∗ osP c (zv c) 0 shR (OS m c) ∗ bufP c cc0_stg5_0 (oA0 m c)) -∗ Kt ⟨⟩))
      ⊢ WP c (onArgs (k0_part25 (F := F)) c v8 v775) Kt := by
  rw [k0_part25_eq_skeleton]; unfold k0_part25_skel
  simp only [semSignalWord, semWaitWord, Prog.lift, Prog.bind_op, Prog.bind_ret, Prog.pure_eq_ret, wp_deviceId]
  iintro ⟨⟨#HC, HWO1, HWO0, HOW, HOS0, ⟨%fOUT, HOUT⟩⟩, Hk⟩
  iapply (wo_start (m := m) c (s := 1) (e := 1) (j := (zv c)) (k0_off29_eq c 1) rfl cpy_sem3) $$ HWO1
  iintro HWO1
  iapply (wo_wait (m := m) c K (n := 0) (by decide) (s := 0) (e := 0) (j := (zv c)) cpy_sem2) $$ [HWO0 HOW]
  · isplitr; · iexact HC
    isplitl [HWO0]; · iexact HWO0
    iexact HOW
  iintro ⟨HWO0, HOW⟩
  iapply (ld_osP c (j := zv c) (e := 0) (k0_off30_eq c)) $$ HOS0
  iintro HOS0
  iapply (ld_woR (m := m) c (s := 0) rfl) $$ HWO0
  iintro HWO0
  iapply (wo_next (m := m) c (s := 0) (e := 0) (j := (jk c 1)) (off31_eq c 0 0) rfl cpy_sem2) $$ HWO0
  iintro HWO0
  iapply (ld c (Memref.whole cc0_stg5_0) (Rect.unit (s := S1024x2048) ![0, 0] S1024x2048.size inb_S1024x2048_S1024x2048_0_0) (Finset.subset_univ _) rfl) $$ HOUT
  iintro HOUT
  iapply (st c (Memref.whole cc0_stg5_0) (Rect.unit (s := S1024x2048) ![0, 0] S1024x2048.size inb_S1024x2048_S1024x2048_0_0) (oA0 m c) (Finset.subset_univ _) (fun i _ => congrFun (Memref.write_access_unit_zero_univ (Elt F) cc0_stg5_0 hz2 _ _ _) i)) $$ HOUT
  iintro HOUT
  iapply (ret_step c)
  iapply Hk
  isplitl [HWO1]; · iexact HWO1
  isplitl [HWO0]; · iexact HWO0
  isplitl [HOW]; · iexact HOW
  isplitl [HOS0]; · iexact HOS0
  iexact HOUT

set_option maxRecDepth 65536 in
set_option maxHeartbeats 2000000 in
theorem part26 (v2 : BitVec 32) (v5 : BitVec 32) (v8 : BitVec 32) (v775 : BitVec 32) {Kt : (PUnit) → sProp (MT nD τ sig Unit (Elt F) ℕ UU ℕ)} :
    iprop((ctx m K ∗ woF m c 1 (zv c) 1 ∗ OW c 0 ∗ osP c (zv c) 1 shR (OS m c) ∗ bufP c cc0_stg5_0 (oA0 m c))
      ∗ ((woF m c 1 (jk c 1) 1 ∗ OW c 0 ∗ osP c (zv c) 1 shR (OS m c) ∗ bufP c cc0_stg5_0 (oA1 m c)) -∗ Kt ⟨⟩))
      ⊢ WP c (onArgs (k0_part26 (F := F)) c v2 v5 v8 v775) Kt := by
  rw [k0_part26_eq_skeleton]; unfold k0_part26_skel
  simp only [semSignalWord, semWaitWord, Prog.lift, Prog.bind_op, Prog.bind_ret, Prog.pure_eq_ret, wp_deviceId]
  iintro ⟨⟨#HC, HWO1, HOW, HOS1, HOUT⟩, Hk⟩
  iapply (wo_wait (m := m) c K (n := 0) (by decide) (s := 1) (e := 1) (j := (zv c)) cpy_sem3) $$ [HWO1 HOW]
  · isplitr; · iexact HC
    isplitl [HWO1]; · iexact HWO1
    iexact HOW
  iintro ⟨HWO1, HOW⟩
  iapply (ld_osP c (j := zv c) (e := 1) (k0_off32_eq c)) $$ HOS1
  iintro HOS1
  iapply (ld_woR (m := m) c (s := 1) rfl) $$ HWO1
  iintro HWO1
  iapply (wo_next (m := m) c (s := 1) (e := 1) (j := (jk c 1)) (off31_eq c 0 1) rfl cpy_sem3) $$ HWO1
  iintro HWO1
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA1 m c) (Finset.subset_univ _) (fun i _ => congrFun (Memref.write_access_unit_zero_univ (Elt F) cc0_stg5_0 hz2 _ _ _) i)) $$ HOUT
  iintro HOUT
  iapply (ret_step c)
  iapply Hk
  isplitl [HWO1]; · iexact HWO1
  isplitl [HOW]; · iexact HOW
  isplitl [HOS1]; · iexact HOS1
  iexact HOUT

set_option maxRecDepth 65536 in
set_option maxHeartbeats 2000000 in
theorem part27 (v775 : BitVec 32) (v786 : BitVec 32) {Kt : (PUnit) → sProp (MT nD τ sig Unit (Elt F) ℕ UU ℕ)} :
    iprop((ctx m K ∗ rCred c 3 1 ∗ OW c 0 ∗ rPos c 3 1 0 ∗ woF m c 0 (jk c 1) 0 ∗ bufP c cc0_stg5_0 (oA1 m c))
      ∗ ((OW c 0 ∗ rPos c 3 1 1 ∗ osP c (jk c 1) 0 fullShare (OS m c) ∗ woF m c 0 (jk c 2) 0 ∗ bufP c cc0_stg5_0 (oA2 m c)) -∗ Kt ⟨⟩))
      ⊢ WP c (onArgs (k0_part27 (F := F)) c v775 v786) Kt := by
  rw [k0_part27_eq_skeleton]; unfold k0_part27_skel
  simp only [semSignalWord, semWaitWord, Prog.lift, Prog.bind_op, Prog.bind_ret, Prog.pure_eq_ret, wp_deviceId]
  iintro ⟨⟨#HC, HRC31, HOW, HRP31, HWO0, HOUT⟩, Hk⟩
  iapply (rcvO0 (m := m) c K (k := 1) (by decide) (rcv_sem 3 (jk c 1) (off21_eq c 0) _) crT_o0) $$ [HRC31 HOW HRP31]
  · isplitr; · iexact HC
    isplitl [HRC31]; · iexact HRC31
    isplitl [HOW]; · iexact HOW
    iexact HRP31
  iintro ⟨HR31, HOW, HRP31⟩
  iapply (wo_wait (m := m) c K (n := 0) (by decide) (s := 0) (e := 0) (j := (jk c 1)) cpy_sem2) $$ [HWO0 HOW]
  · isplitr; · iexact HC
    isplitl [HWO0]; · iexact HWO0
    iexact HOW
  iintro ⟨HWO0, HOW⟩
  iapply (ld_osP c (j := jk c 1) (e := 0) (off34_eq c 0)) $$ HR31
  iintro HR31
  iapply (ld_woR (m := m) c (s := 0) rfl) $$ HWO0
  iintro HWO0
  iapply (wo_next (m := m) c (s := 0) (e := 0) (j := (jk c 2)) (off31_eq c 1 0) rfl cpy_sem2) $$ HWO0
  iintro HWO0
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA2 m c) (Finset.subset_univ _) (fun i _ => congrFun (Memref.write_access_unit_zero_univ (Elt F) cc0_stg5_0 hz2 _ _ _) i)) $$ HOUT
  iintro HOUT
  iapply (ret_step c)
  iapply Hk
  isplitl [HOW]; · iexact HOW
  isplitl [HRP31]; · iexact HRP31
  isplitl [HR31]; · iexact HR31
  isplitl [HWO0]; · iexact HWO0
  iexact HOUT

set_option maxRecDepth 65536 in
set_option maxHeartbeats 2000000 in
theorem part28 (v2 : BitVec 32) (v5 : BitVec 32) (v775 : BitVec 32) (v786 : BitVec 32) {Kt : (FVec F S1024x2048 .f32) → sProp (MT nD τ sig Unit (Elt F) ℕ UU ℕ)} :
    iprop((ctx m K ∗ rCred c 4 1 ∗ OW c 0 ∗ rPos c 4 1 0 ∗ woF m c 1 (jk c 1) 1)
      ∗ ((OW c 0 ∗ rPos c 4 1 1 ∗ osP c (jk c 1) 1 fullShare (OS m c) ∗ woR m c 1 (jk c 1) 1) -∗ Kt (k0_pay27 (slO (OS m c) (jk c 1) 1) (woB m c (jk c 1) 1))))
      ⊢ WP c (onArgs (k0_part28 (F := F)) c v2 v5 v775 v786) Kt := by
  rw [k0_part28_eq_skeleton]; unfold k0_part28_skel
  simp only [semSignalWord, semWaitWord, Prog.lift, Prog.bind_op, Prog.bind_ret, Prog.pure_eq_ret, wp_deviceId]
  iintro ⟨⟨#HC, HRC41, HOW, HRP41, HWO1⟩, Hk⟩
  iapply (rcvO1 (m := m) c K (k := 1) (by decide) (rcv_sem 4 (jk c 1) (off26_eq c 0) _) crT_o1) $$ [HRC41 HOW HRP41]
  · isplitr; · iexact HC
    isplitl [HRC41]; · iexact HRC41
    isplitl [HOW]; · iexact HOW
    iexact HRP41
  iintro ⟨HR41, HOW, HRP41⟩
  iapply (wo_wait (m := m) c K (n := 0) (by decide) (s := 1) (e := 1) (j := (jk c 1)) cpy_sem3) $$ [HWO1 HOW]
  · isplitr; · iexact HC
    isplitl [HWO1]; · iexact HWO1
    iexact HOW
  iintro ⟨HWO1, HOW⟩
  iapply (ld_osP c (j := jk c 1) (e := 1) (off36_eq c 0)) $$ HR41
  iintro HR41
  iapply (ld_woR (m := m) c (s := 1) rfl) $$ HWO1
  iintro HWO1
  iapply (ret_step c)
  iapply Hk
  isplitl [HOW]; · iexact HOW
  isplitl [HRP41]; · iexact HRP41
  isplitl [HR41]; · iexact HR41
  iexact HWO1

end

end Cert.KProof
-- ==== Proof.PartsE.lean ====
/-
  The remaining blocks of the output product.
-/
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable (c : Dev nD) (K : Dev nD × CI → ℕ)

set_option maxRecDepth 65536 in
set_option maxHeartbeats 2000000 in
theorem part29 (v2 : BitVec 32) (v5 : BitVec 32) (v786 : BitVec 32) {Kt : (Σ' (v950 : FVec F S1024x256 .bf16) (v953 : FVec F S256x2048 .bf16), FVec F S1024x2048 .f32) → sProp (MT nD τ sig Unit (Elt F) ℕ UU ℕ)} :
    iprop((ctx m K ∗ woR m c 1 (jk c 1) 1 ∗ bufP c cc0_stg5_0 (oA2 m c) ∗ rCred c 3 2 ∗ OW c 0 ∗ rPos c 3 2 0 ∗ woF m c 0 (jk c 2) 0)
      ∗ ((woF m c 1 (jk c 2) 1 ∗ bufP c cc0_stg5_0 (oA3 m c) ∗ OW c 0 ∗ rPos c 3 2 1 ∗ osP c (jk c 2) 0 fullShare (OS m c) ∗ woR m c 0 (jk c 2) 0) -∗ Kt ⟨k0_pay29 (slO (OS m c) (jk c 2) 0), k0_pay30 (woB m c (jk c 2) 0), constant S1024x2048 .f32 0x00000000#32⟩))
      ⊢ WP c (onArgs (k0_part29 (F := F)) c v2 v5 v786 (k0_pay27 (slO (OS m c) (jk c 1) 1) (woB m c (jk c 1) 1))) Kt := by
  rw [k0_part29_eq_skeleton]; unfold k0_part29_skel
  simp only [semSignalWord, semWaitWord, Prog.lift, Prog.bind_op, Prog.bind_ret, Prog.pure_eq_ret, wp_deviceId]
  iintro ⟨⟨#HC, HWO1, HOUT, HRC32, HOW, HRP32, HWO0⟩, Hk⟩
  iapply (wo_next (m := m) c (s := 1) (e := 1) (j := (jk c 2)) (off31_eq c 1 1) rfl cpy_sem3) $$ HWO1
  iintro HWO1
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA3 m c) (Finset.subset_univ _) (fun i _ => congrFun (Memref.write_access_unit_zero_univ (Elt F) cc0_stg5_0 hz2 _ _ _) i)) $$ HOUT
  iintro HOUT
  iapply (rcvO0 (m := m) c K (k := 2) (by decide) (rcv_sem 3 (jk c 2) (off21_eq c 1) _) crT_o0) $$ [HRC32 HOW HRP32]
  · isplitr; · iexact HC
    isplitl [HRC32]; · iexact HRC32
    isplitl [HOW]; · iexact HOW
    iexact HRP32
  iintro ⟨HR32, HOW, HRP32⟩
  iapply (wo_wait (m := m) c K (n := 0) (by decide) (s := 0) (e := 0) (j := (jk c 2)) cpy_sem2) $$ [HWO0 HOW]
  · isplitr; · iexact HC
    isplitl [HWO0]; · iexact HWO0
    iexact HOW
  iintro ⟨HWO0, HOW⟩
  iapply (ld_osP c (j := jk c 2) (e := 0) (off34_eq c 1)) $$ HR32
  iintro HR32
  iapply (ld_woR (m := m) c (s := 0) rfl) $$ HWO0
  iintro HWO0
  iapply (ret_step c)
  iapply Hk
  isplitl [HWO1]; · iexact HWO1
  isplitl [HOUT]; · iexact HOUT
  isplitl [HOW]; · iexact HOW
  isplitl [HRP32]; · iexact HRP32
  isplitl [HR32]; · iexact HR32
  iexact HWO0

set_option maxRecDepth 65536 in
set_option maxHeartbeats 2000000 in
theorem part30 (v2 : BitVec 32) (v5 : BitVec 32) (v786 : BitVec 32) (v797 : BitVec 32) {Kt : (PUnit) → sProp (MT nD τ sig Unit (Elt F) ℕ UU ℕ)} :
    iprop((ctx m K ∗ woR m c 0 (jk c 2) 0 ∗ bufP c cc0_stg5_0 (oA3 m c) ∗ rCred c 4 2 ∗ OW c 0 ∗ rPos c 4 2 0)
      ∗ ((woF m c 0 (jk c 3) 0 ∗ bufP c cc0_stg5_0 (oA4 m c) ∗ OW c 0 ∗ rPos c 4 2 1 ∗ osP c (jk c 2) 1 fullShare (OS m c)) -∗ Kt ⟨⟩))
      ⊢ WP c (onArgs (k0_part30 (F := F)) c v2 v5 v786 v797 (k0_pay29 (slO (OS m c) (jk c 2) 0)) (k0_pay30 (woB m c (jk c 2) 0)) (constant S1024x2048 .f32 0x00000000#32)) Kt := by
  rw [k0_part30_eq_skeleton]; unfold k0_part30_skel
  simp only [semSignalWord, semWaitWord, Prog.lift, Prog.bind_op, Prog.bind_ret, Prog.pure_eq_ret, wp_deviceId]
  iintro ⟨⟨#HC, HWO0, HOUT, HRC42, HOW, HRP42⟩, Hk⟩
  iapply (wo_next (m := m) c (s := 0) (e := 0) (j := (jk c 3)) (off31_eq c 2 0) rfl cpy_sem2) $$ HWO0
  iintro HWO0
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA4 m c) (Finset.subset_univ _) (fun i _ => congrFun (Memref.write_access_unit_zero_univ (Elt F) cc0_stg5_0 hz2 _ _ _) i)) $$ HOUT
  iintro HOUT
  iapply (rcvO1 (m := m) c K (k := 2) (by decide) (rcv_sem 4 (jk c 2) (off26_eq c 1) _) crT_o1) $$ [HRC42 HOW HRP42]
  · isplitr; · iexact HC
    isplitl [HRC42]; · iexact HRC42
    isplitl [HOW]; · iexact HOW
    iexact HRP42
  iintro ⟨HR42, HOW, HRP42⟩
  iapply (ret_step c)
  iapply Hk
  isplitl [HWO0]; · iexact HWO0
  isplitl [HOUT]; · iexact HOUT
  isplitl [HOW]; · iexact HOW
  isplitl [HRP42]; · iexact HRP42
  iexact HR42

set_option maxRecDepth 65536 in
set_option maxHeartbeats 2000000 in
theorem part31 (v2 : BitVec 32) (v5 : BitVec 32) (v786 : BitVec 32) (v797 : BitVec 32) {Kt : (PUnit) → sProp (MT nD τ sig Unit (Elt F) ℕ UU ℕ)} :
    iprop((ctx m K ∗ woF m c 1 (jk c 2) 1 ∗ OW c 0 ∗ osP c (jk c 2) 1 fullShare (OS m c) ∗ bufP c cc0_stg5_0 (oA4 m c))
      ∗ ((woF m c 1 (jk c 3) 1 ∗ OW c 0 ∗ osP c (jk c 2) 1 fullShare (OS m c) ∗ bufP c cc0_stg5_0 (oA5 m c)) -∗ Kt ⟨⟩))
      ⊢ WP c (onArgs (k0_part31 (F := F)) c v2 v5 v786 v797) Kt := by
  rw [k0_part31_eq_skeleton]; unfold k0_part31_skel
  simp only [semSignalWord, semWaitWord, Prog.lift, Prog.bind_op, Prog.bind_ret, Prog.pure_eq_ret, wp_deviceId]
  iintro ⟨⟨#HC, HWO1, HOW, HR42, HOUT⟩, Hk⟩
  iapply (wo_wait (m := m) c K (n := 0) (by decide) (s := 1) (e := 1) (j := (jk c 2)) cpy_sem3) $$ [HWO1 HOW]
  · isplitr; · iexact HC
    isplitl [HWO1]; · iexact HWO1
    iexact HOW
  iintro ⟨HWO1, HOW⟩
  iapply (ld_osP c (j := jk c 2) (e := 1) (off36_eq c 1)) $$ HR42
  iintro HR42
  iapply (ld_woR (m := m) c (s := 1) rfl) $$ HWO1
  iintro HWO1
  iapply (wo_next (m := m) c (s := 1) (e := 1) (j := (jk c 3)) (off31_eq c 2 1) rfl cpy_sem3) $$ HWO1
  iintro HWO1
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA5 m c) (Finset.subset_univ _) (fun i _ => congrFun (Memref.write_access_unit_zero_univ (Elt F) cc0_stg5_0 hz2 _ _ _) i)) $$ HOUT
  iintro HOUT
  iapply (ret_step c)
  iapply Hk
  isplitl [HWO1]; · iexact HWO1
  isplitl [HOW]; · iexact HOW
  isplitl [HR42]; · iexact HR42
  iexact HOUT

set_option maxRecDepth 65536 in
set_option maxHeartbeats 2000000 in
theorem part32 (v2 : BitVec 32) (v5 : BitVec 32) (v797 : BitVec 32) {Kt : (PUnit) → sProp (MT nD τ sig Unit (Elt F) ℕ UU ℕ)} :
    iprop((ctx m K ∗ rCred c 3 3 ∗ OW c 0 ∗ rPos c 3 3 0 ∗ woF m c 0 (jk c 3) 0 ∗ bufP c cc0_stg5_0 (oA5 m c))
      ∗ ((OW c 0 ∗ rPos c 3 3 1 ∗ osP c (jk c 3) 0 fullShare (OS m c) ∗ woR m c 0 (jk c 3) 0 ∗ bufP c cc0_stg5_0 (oA6 m c)) -∗ Kt ⟨⟩))
      ⊢ WP c (onArgs (k0_part32 (F := F)) c v2 v5 v797) Kt := by
  rw [k0_part32_eq_skeleton]; unfold k0_part32_skel
  simp only [semSignalWord, semWaitWord, Prog.lift, Prog.bind_op, Prog.bind_ret, Prog.pure_eq_ret, wp_deviceId]
  iintro ⟨⟨#HC, HRC33, HOW, HRP33, HWO0, HOUT⟩, Hk⟩
  iapply (rcvO0 (m := m) c K (k := 3) (by decide) (rcv_sem 3 (jk c 3) (off21_eq c 2) _) crT_o0) $$ [HRC33 HOW HRP33]
  · isplitr; · iexact HC
    isplitl [HRC33]; · iexact HRC33
    isplitl [HOW]; · iexact HOW
    iexact HRP33
  iintro ⟨HR33, HOW, HRP33⟩
  iapply (wo_wait (m := m) c K (n := 0) (by decide) (s := 0) (e := 0) (j := (jk c 3)) cpy_sem2) $$ [HWO0 HOW]
  · isplitr; · iexact HC
    isplitl [HWO0]; · iexact HWO0
    iexact HOW
  iintro ⟨HWO0, HOW⟩
  iapply (ld_osP c (j := jk c 3) (e := 0) (off34_eq c 2)) $$ HR33
  iintro HR33
  iapply (ld_woR (m := m) c (s := 0) rfl) $$ HWO0
  iintro HWO0
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA6 m c) (Finset.subset_univ _) (fun i _ => congrFun (Memref.write_access_unit_zero_univ (Elt F) cc0_stg5_0 hz2 _ _ _) i)) $$ HOUT
  iintro HOUT
  iapply (ret_step c)
  iapply Hk
  isplitl [HOW]; · iexact HOW
  isplitl [HRP33]; · iexact HRP33
  isplitl [HR33]; · iexact HR33
  isplitl [HWO0]; · iexact HWO0
  iexact HOUT

set_option maxRecDepth 65536 in
set_option maxHeartbeats 2000000 in
theorem part33 (v797 : BitVec 32) {Kt : (PUnit) → sProp (MT nD τ sig Unit (Elt F) ℕ UU ℕ)} :
    iprop((ctx m K ∗ rCred c 4 3 ∗ OW c 0 ∗ rPos c 4 3 0 ∗ woF m c 1 (jk c 3) 1 ∗ bufP c cc0_stg5_0 (oA6 m c) ∗ sCred c 1 1 ∗ sPos c 1 1 0)
      ∗ ((OW c 0 ∗ rPos c 4 3 1 ∗ osP c (jk c 3) 1 fullShare (OS m c) ∗ woR m c 1 (jk c 3) 1 ∗ bufP c cc0_stg5_0 (oA7 m c) ∗ sPos c 1 1 1 ∗ sndPay m c 1 (jk c 1)) -∗ Kt ⟨⟩))
      ⊢ WP c (onArgs (k0_part33 (F := F)) c v797) Kt := by
  rw [k0_part33_eq_skeleton]; unfold k0_part33_skel
  simp only [semSignalWord, semWaitWord, Prog.lift, Prog.bind_op, Prog.bind_ret, Prog.pure_eq_ret, wp_deviceId]
  iintro ⟨⟨#HC, HRC43, HOW, HRP43, HWO1, HOUT, HSC11, HSP11⟩, Hk⟩
  iapply (rcvO1 (m := m) c K (k := 3) (by decide) (rcv_sem 4 (jk c 3) (off26_eq c 2) _) crT_o1) $$ [HRC43 HOW HRP43]
  · isplitr; · iexact HC
    isplitl [HRC43]; · iexact HRC43
    isplitl [HOW]; · iexact HOW
    iexact HRP43
  iintro ⟨HR43, HOW, HRP43⟩
  iapply (wo_wait (m := m) c K (n := 0) (by decide) (s := 1) (e := 1) (j := (jk c 3)) cpy_sem3) $$ [HWO1 HOW]
  · isplitr; · iexact HC
    isplitl [HWO1]; · iexact HWO1
    iexact HOW
  iintro ⟨HWO1, HOW⟩
  iapply (ld_osP c (j := jk c 3) (e := 1) (off36_eq c 2)) $$ HR43
  iintro HR43
  iapply (ld_woR (m := m) c (s := 1) rfl) $$ HWO1
  iintro HWO1
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (ld c (Memref.whole cc0_stg5_0) (Rect.unit (s := S1024x2048) ![0, 0] S1024x2048.size inb_S1024x2048_S1024x2048_0_0) (Finset.subset_univ _) (Memref.readAt_unit_zero (Elt F) cc0_stg5_0 hz2 _ _)) $$ HOUT
  iintro HOUT
  iapply (st c (Memref.whole cc0_stg5_0) (Rect.unit (s := S1024x2048) ![0, 0] S1024x2048.size inb_S1024x2048_S1024x2048_0_0) (oA7 m c) (Finset.subset_univ _) (fun i _ => congrFun (Memref.write_access_unit_zero_univ (Elt F) cc0_stg5_0 hz2 _ _ _) i)) $$ HOUT
  iintro HOUT
  iapply (snd_wait (m := m) c K (t := 1) (k := 1) (by decide) (snd_sem 1 (jk c 1) (off5_eq c 0) _) crT_uk) $$ [HSC11 HOW HSP11]
  · isplitr; · iexact HC
    isplitl [HSC11]; · iexact HSC11
    isplitl [HOW]; · iexact HOW
    iexact HSP11
  iintro ⟨HS11, HOW, HSP11⟩
  iapply (ret_step c)
  iapply Hk
  isplitl [HOW]; · iexact HOW
  isplitl [HRP43]; · iexact HRP43
  isplitl [HR43]; · iexact HR43
  isplitl [HWO1]; · iexact HWO1
  isplitl [HOUT]; · iexact HOUT
  isplitl [HSP11]; · iexact HSP11
  iexact HS11

end

end Cert.KProof
-- ==== Proof.PartsF.lean ====
/-
  The sends complete.
-/
module

public import proofs.«01_k».proof.Proof.Access

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section

variable {m}
variable (c : Dev nD) (K : Dev nD × CI → ℕ)

set_option maxRecDepth 65536 in
set_option maxHeartbeats 2000000 in
theorem part34 {Kt : (PUnit) → sProp (MT nD τ sig Unit (Elt F) ℕ UU ℕ)} :
    iprop((ctx m K ∗ sCred c 2 1 ∗ OW c 0 ∗ sPos c 2 1 0 ∗ sCred c 1 2 ∗ sPos c 1 2 0 ∗ sCred c 2 2 ∗ sPos c 2 2 0 ∗ sCred c 1 3 ∗ sPos c 1 3 0 ∗ sCred c 2 3 ∗ sPos c 2 3 0)
      ∗ ((OW c 0 ∗ sPos c 2 1 1 ∗ sndPay m c 2 (jk c 1) ∗ sPos c 1 2 1 ∗ sndPay m c 1 (jk c 2) ∗ sPos c 2 2 1 ∗ sndPay m c 2 (jk c 2) ∗ sPos c 1 3 1 ∗ sndPay m c 1 (jk c 3) ∗ sPos c 2 3 1 ∗ sndPay m c 2 (jk c 3)) -∗ Kt ⟨⟩))
      ⊢ WP c (onArgs (k0_part34 (F := F)) c) Kt := by
  rw [k0_part34_eq_skeleton]; unfold k0_part34_skel
  simp only [semSignalWord, semWaitWord, Prog.lift, Prog.bind_op, Prog.bind_ret, Prog.pure_eq_ret, wp_deviceId]
  iintro ⟨⟨#HC, HSC21, HOW, HSP21, HSC12, HSP12, HSC22, HSP22, HSC13, HSP13, HSC23, HSP23⟩, Hk⟩
  iapply (snd_wait (m := m) c K (t := 2) (k := 1) (by decide) (snd_sem 2 (jk c 1) (off9_eq c 0) _) crT_uv) $$ [HSC21 HOW HSP21]
  · isplitr; · iexact HC
    isplitl [HSC21]; · iexact HSC21
    isplitl [HOW]; · iexact HOW
    iexact HSP21
  iintro ⟨HS21, HOW, HSP21⟩
  iapply (snd_wait (m := m) c K (t := 1) (k := 2) (by decide) (snd_sem 1 (jk c 2) (off5_eq c 1) _) crT_uk) $$ [HSC12 HOW HSP12]
  · isplitr; · iexact HC
    isplitl [HSC12]; · iexact HSC12
    isplitl [HOW]; · iexact HOW
    iexact HSP12
  iintro ⟨HS12, HOW, HSP12⟩
  iapply (snd_wait (m := m) c K (t := 2) (k := 2) (by decide) (snd_sem 2 (jk c 2) (off9_eq c 1) _) crT_uv) $$ [HSC22 HOW HSP22]
  · isplitr; · iexact HC
    isplitl [HSC22]; · iexact HSC22
    isplitl [HOW]; · iexact HOW
    iexact HSP22
  iintro ⟨HS22, HOW, HSP22⟩
  iapply (snd_wait (m := m) c K (t := 1) (k := 3) (by decide) (snd_sem 1 (jk c 3) (off5_eq c 2) _) crT_uk) $$ [HSC13 HOW HSP13]
  · isplitr; · iexact HC
    isplitl [HSC13]; · iexact HSC13
    isplitl [HOW]; · iexact HOW
    iexact HSP13
  iintro ⟨HS13, HOW, HSP13⟩
  iapply (snd_wait (m := m) c K (t := 2) (k := 3) (by decide) (snd_sem 2 (jk c 3) (off9_eq c 2) _) crT_uv) $$ [HSC23 HOW HSP23]
  · isplitr; · iexact HC
    isplitl [HSC23]; · iexact HSC23
    isplitl [HOW]; · iexact HOW
    iexact HSP23
  iintro ⟨HS23, HOW, HSP23⟩
  iapply (ret_step c)
  iapply Hk
  isplitl [HOW]; · iexact HOW
  isplitl [HSP21]; · iexact HSP21
  isplitl [HS21]; · iexact HS21
  isplitl [HSP12]; · iexact HSP12
  isplitl [HS12]; · iexact HS12
  isplitl [HSP22]; · iexact HSP22
  isplitl [HS22]; · iexact HS22
  isplitl [HSP13]; · iexact HSP13
  isplitl [HS13]; · iexact HS13
  isplitl [HSP23]; · iexact HSP23
  iexact HS23

set_option maxRecDepth 65536 in
set_option maxHeartbeats 2000000 in
theorem part35 {Kt : (PUnit) → sProp (MT nD τ sig Unit (Elt F) ℕ UU ℕ)} :
    iprop((ctx m K ∗ sCred c 0 1 ∗ OW c 0 ∗ sPos c 0 1 0 ∗ sCred c 0 2 ∗ sPos c 0 2 0 ∗ sCred c 0 3 ∗ sPos c 0 3 0 ∗ sCred c 3 1 ∗ sPos c 3 1 0)
      ∗ ((OW c 0 ∗ sPos c 0 1 1 ∗ sndPay m c 0 (jk c 1) ∗ sPos c 0 2 1 ∗ sndPay m c 0 (jk c 2) ∗ sPos c 0 3 1 ∗ sndPay m c 0 (jk c 3) ∗ sPos c 3 1 1 ∗ sndPay m c 3 (jk c 1)) -∗ Kt ⟨⟩))
      ⊢ WP c (onArgs (k0_part35 (F := F)) c) Kt := by
  rw [k0_part35_eq_skeleton]; unfold k0_part35_skel
  simp only [semSignalWord, semWaitWord, Prog.lift, Prog.bind_op, Prog.bind_ret, Prog.pure_eq_ret, wp_deviceId]
  iintro ⟨⟨#HC, HSC01, HOW, HSP01, HSC02, HSP02, HSC03, HSP03, HSC31, HSP31⟩, Hk⟩
  iapply (snd_wait (m := m) c K (t := 0) (k := 1) (by decide) (snd_sem 0 (jk c 1) (off12_eq c 0) _) crT_c) $$ [HSC01 HOW HSP01]
  · isplitr; · iexact HC
    isplitl [HSC01]; · iexact HSC01
    isplitl [HOW]; · iexact HOW
    iexact HSP01
  iintro ⟨HS01, HOW, HSP01⟩
  iapply (snd_wait (m := m) c K (t := 0) (k := 2) (by decide) (snd_sem 0 (jk c 2) (off12_eq c 1) _) crT_c) $$ [HSC02 HOW HSP02]
  · isplitr; · iexact HC
    isplitl [HSC02]; · iexact HSC02
    isplitl [HOW]; · iexact HOW
    iexact HSP02
  iintro ⟨HS02, HOW, HSP02⟩
  iapply (snd_wait (m := m) c K (t := 0) (k := 3) (by decide) (snd_sem 0 (jk c 3) (off12_eq c 2) _) crT_c) $$ [HSC03 HOW HSP03]
  · isplitr; · iexact HC
    isplitl [HSC03]; · iexact HSC03
    isplitl [HOW]; · iexact HOW
    iexact HSP03
  iintro ⟨HS03, HOW, HSP03⟩
  iapply (snd_wait (m := m) c K (t := 3) (k := 1) (by decide) (snd_sem 3 (jk c 1) (off21_eq c 0) _) crT_o0) $$ [HSC31 HOW HSP31]
  · isplitr; · iexact HC
    isplitl [HSC31]; · iexact HSC31
    isplitl [HOW]; · iexact HOW
    iexact HSP31
  iintro ⟨HS31, HOW, HSP31⟩
  iapply (ret_step c)
  iapply Hk
  isplitl [HOW]; · iexact HOW
  isplitl [HSP01]; · iexact HSP01
  isplitl [HS01]; · iexact HS01
  isplitl [HSP02]; · iexact HSP02
  isplitl [HS02]; · iexact HS02
  isplitl [HSP03]; · iexact HSP03
  isplitl [HS03]; · iexact HS03
  isplitl [HSP31]; · iexact HSP31
  iexact HS31

set_option maxRecDepth 65536 in
set_option maxHeartbeats 2000000 in
theorem part36 {Kt : (PUnit) → sProp (MT nD τ sig Unit (Elt F) ℕ UU ℕ)} :
    iprop((ctx m K ∗ sCred c 3 2 ∗ OW c 0 ∗ sPos c 3 2 0 ∗ sCred c 3 3 ∗ sPos c 3 3 0 ∗ sCred c 4 1 ∗ sPos c 4 1 0 ∗ sCred c 4 2 ∗ sPos c 4 2 0)
      ∗ ((OW c 0 ∗ sPos c 3 2 1 ∗ sndPay m c 3 (jk c 2) ∗ sPos c 3 3 1 ∗ sndPay m c 3 (jk c 3) ∗ sPos c 4 1 1 ∗ sndPay m c 4 (jk c 1) ∗ sPos c 4 2 1 ∗ sndPay m c 4 (jk c 2)) -∗ Kt ⟨⟩))
      ⊢ WP c (onArgs (k0_part36 (F := F)) c) Kt := by
  rw [k0_part36_eq_skeleton]; unfold k0_part36_skel
  simp only [semSignalWord, semWaitWord, Prog.lift, Prog.bind_op, Prog.bind_ret, Prog.pure_eq_ret, wp_deviceId]
  iintro ⟨⟨#HC, HSC32, HOW, HSP32, HSC33, HSP33, HSC41, HSP41, HSC42, HSP42⟩, Hk⟩
  iapply (snd_wait (m := m) c K (t := 3) (k := 2) (by decide) (snd_sem 3 (jk c 2) (off21_eq c 1) _) crT_o0) $$ [HSC32 HOW HSP32]
  · isplitr; · iexact HC
    isplitl [HSC32]; · iexact HSC32
    isplitl [HOW]; · iexact HOW
    iexact HSP32
  iintro ⟨HS32, HOW, HSP32⟩
  iapply (snd_wait (m := m) c K (t := 3) (k := 3) (by decide) (snd_sem 3 (jk c 3) (off21_eq c 2) _) crT_o0) $$ [HSC33 HOW HSP33]
  · isplitr; · iexact HC
    isplitl [HSC33]; · iexact HSC33
    isplitl [HOW]; · iexact HOW
    iexact HSP33
  iintro ⟨HS33, HOW, HSP33⟩
  iapply (snd_wait (m := m) c K (t := 4) (k := 1) (by decide) (snd_sem 4 (jk c 1) (off26_eq c 0) _) crT_o1) $$ [HSC41 HOW HSP41]
  · isplitr; · iexact HC
    isplitl [HSC41]; · iexact HSC41
    isplitl [HOW]; · iexact HOW
    iexact HSP41
  iintro ⟨HS41, HOW, HSP41⟩
  iapply (snd_wait (m := m) c K (t := 4) (k := 2) (by decide) (snd_sem 4 (jk c 2) (off26_eq c 1) _) crT_o1) $$ [HSC42 HOW HSP42]
  · isplitr; · iexact HC
    isplitl [HSC42]; · iexact HSC42
    isplitl [HOW]; · iexact HOW
    iexact HSP42
  iintro ⟨HS42, HOW, HSP42⟩
  iapply (ret_step c)
  iapply Hk
  isplitl [HOW]; · iexact HOW
  isplitl [HSP32]; · iexact HSP32
  isplitl [HS32]; · iexact HS32
  isplitl [HSP33]; · iexact HSP33
  isplitl [HS33]; · iexact HS33
  isplitl [HSP41]; · iexact HSP41
  isplitl [HS41]; · iexact HS41
  isplitl [HSP42]; · iexact HSP42
  iexact HS42

end

end Cert.KProof
-- ==== Proof.Run.lean ====
module

public import proofs.«01_k».proof.Proof.Glue
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The whole body, part by part -/

/-- The ghost state device `c` starts its body with: its tokens, positions and credits. -/
def ghostIn (c : Dev nD) : sProp 𝕄 := iprop(atPos ER (barCell c) 0 ∅ 0 ∗ cred (tallyAt (barCell c) () 3) ∗ bTok c 1 ∗ bTok c 2 ∗ bTok c 3 ∗ sTok c 0 1
      ∗ sTok c 0 2 ∗ sTok c 0 3 ∗ sTok c 1 1 ∗ sTok c 1 2 ∗ sTok c 1 3 ∗ sTok c 2 1
      ∗ sTok c 2 2 ∗ sTok c 2 3 ∗ sTok c 3 1 ∗ sTok c 3 2 ∗ sTok c 3 3 ∗ sTok c 4 1
      ∗ sTok c 4 2 ∗ sTok c 4 3 ∗ sPos c 0 1 0 ∗ sPos c 0 2 0 ∗ sPos c 0 3 0 ∗ sPos c 1 1 0
      ∗ sPos c 1 2 0 ∗ sPos c 1 3 0 ∗ sPos c 2 1 0 ∗ sPos c 2 2 0 ∗ sPos c 2 3 0 ∗ sPos c 3 1 0
      ∗ sPos c 3 2 0 ∗ sPos c 3 3 0 ∗ sPos c 4 1 0 ∗ sPos c 4 2 0 ∗ sPos c 4 3 0 ∗ rPos c 0 1 0
      ∗ rPos c 0 2 0 ∗ rPos c 0 3 0 ∗ rPos c 1 1 0 ∗ rPos c 1 2 0 ∗ rPos c 1 3 0 ∗ rPos c 2 1 0
      ∗ rPos c 2 2 0 ∗ rPos c 2 3 0 ∗ rPos c 3 1 0 ∗ rPos c 3 2 0 ∗ rPos c 3 3 0 ∗ rPos c 4 1 0
      ∗ rPos c 4 2 0 ∗ rPos c 4 3 0 ∗ rCred c 0 1 ∗ rCred c 0 2 ∗ rCred c 0 3 ∗ rCred c 1 1
      ∗ rCred c 1 2 ∗ rCred c 1 3 ∗ rCred c 2 1 ∗ rCred c 2 2 ∗ rCred c 2 3 ∗ rCred c 3 1
      ∗ rCred c 3 2 ∗ rCred c 3 3 ∗ rCred c 4 1 ∗ rCred c 4 2 ∗ rCred c 4 3)
/-- And the positions it ends with. -/
def ghostOut (c : Dev nD) : sProp 𝕄 := iprop(atPos ER (barCell c) 1 ∅ 0 ∗ sPos c 0 1 1 ∗ sPos c 0 2 1 ∗ sPos c 0 3 1 ∗ sPos c 1 1 1 ∗ sPos c 1 2 1
      ∗ sPos c 1 3 1 ∗ sPos c 2 1 1 ∗ sPos c 2 2 1 ∗ sPos c 2 3 1 ∗ sPos c 3 1 1 ∗ sPos c 3 2 1
      ∗ sPos c 3 3 1 ∗ sPos c 4 1 1 ∗ sPos c 4 2 1 ∗ sPos c 4 3 1 ∗ rPos c 0 1 1 ∗ rPos c 0 2 1
      ∗ rPos c 0 3 1 ∗ rPos c 1 1 1 ∗ rPos c 1 2 1 ∗ rPos c 1 3 1 ∗ rPos c 2 1 1 ∗ rPos c 2 2 1
      ∗ rPos c 2 3 1 ∗ rPos c 3 1 1 ∗ rPos c 3 2 1 ∗ rPos c 3 3 1 ∗ rPos c 4 1 1 ∗ rPos c 4 2 1
      ∗ rPos c 4 3 1)
/-- The scratch buffers, whole, with whatever they hold. -/
def scratchAny (c : Dev nD) : sProp 𝕄 := iprop((∃ f, bufP c cc0_scratch0 f) ∗ (∃ f, bufP c cc0_scratch1 f) ∗ (∃ f, bufP c cc0_scratch2 f) ∗ (∃ f, bufP c cc0_scratch3 f) ∗ (∃ f, bufP c cc0_scratch4 f) ∗ (∃ f, bufP c cc0_scratch5 f)
      ∗ (∃ f, bufP c cc0_scratch6 f) ∗ (∃ f, bufP c cc0_scratch7 f) ∗ (∃ f, bufP c cc0_scratch8 f) ∗ (∃ f, bufP c cc0_scratch9 f) ∗ (∃ f, bufP c cc0_scratch10 f) ∗ (∃ f, bufP c cc0_scratch11 f)
      ∗ (∃ f, bufP c cc0_scratch12 f))
/-- The input blocks staged for the body. -/
def stagedIn (c : Dev nD) : sProp 𝕄 := iprop(bufP c cc0_stg0_0 (stg0 m c) ∗ bufP c cc0_stg1_0 (stg1 m c) ∗ bufP c cc0_stg2_0 (stg2 m c) ∗ bufP c cc0_stg3_0 (stg3 m c) ∗ bufP c cc0_stg4_0 (stg4 m c))
/-- The arrays the body reads where they are, and its local copies' semaphores. -/
def rawIn (c : Dev nD) : sProp 𝕄 := iprop(bufP c main_arg4 (wqM m c) ∗ bufP c main_arg5 (wqrM m c) ∗ bufP c main_arg7 (woM m c) ∗ cIdle c 0 ∗ cIdle c 1 ∗ cIdle c 2
      ∗ cIdle c 3)

section

variable (c : Dev nD)

theorem gc_end : iprop(gcP c (zv c) shR (GC m c) ∗ gcP c (zv c) (shJ (zv c)) (GC m c) ∗ (sndPay m c 0 (jk c 1) ∗ sndPay m c 0 (jk c 2) ∗ sndPay m c 0 (jk c 3))
    ∗ gcP c (jk c 1) fullShare (GC m c) ∗ gcP c (jk c 2) fullShare (GC m c) ∗ gcP c (jk c 3) fullShare (GC m c)) ⊢ iprop(∃ f, bufP c cc0_scratch0 f) := by
  rw [show sndPay m c 0 (jk c 1) = gcP c (zv c) (shJ (jk c 1)) (GC m c) from rfl, show sndPay m c 0 (jk c 2) = gcP c (zv c) (shJ (jk c 2)) (GC m c) from rfl, show sndPay m c 0 (jk c 3) = gcP c (zv c) (shJ (jk c 3)) (GC m c) from rfl]
  iintro ⟨H, H0, ⟨H1, H2, H3⟩, R1, R2, R3⟩
  iexists GC m c
  rw [gc_slots]
  isplitl [H H0 H1 H2 H3]
  · iapply (gc_toks c (GC m c)).2
    isplitl [H]; · iexact H
    isplitl [H0]; · iexact H0
    isplitl [H1]; · iexact H1
    isplitl [H2]; · iexact H2
    iexact H3
  isplitl [R1]; · iexact R1
  isplitl [R2]; · iexact R2
  iexact R3

theorem os_end : iprop((osP c (zv c) 0 shR (OS m c) ∗ osP c (zv c) 0 (shJ (zv c)) (OS m c) ∗ (sndPay m c 3 (jk c 1) ∗ sndPay m c 3 (jk c 2) ∗ sndPay m c 3 (jk c 3)))
    ∗ (osP c (zv c) 1 shR (OS m c) ∗ osP c (zv c) 1 (shJ (zv c)) (OS m c) ∗ (sndPay m c 4 (jk c 1) ∗ sndPay m c 4 (jk c 2) ∗ sndPay m c 4 (jk c 3)))
    ∗ (osP c (jk c 1) 0 fullShare (OS m c) ∗ osP c (jk c 2) 0 fullShare (OS m c) ∗ osP c (jk c 3) 0 fullShare (OS m c))
    ∗ (osP c (jk c 1) 1 fullShare (OS m c) ∗ osP c (jk c 2) 1 fullShare (OS m c) ∗ osP c (jk c 3) 1 fullShare (OS m c))) ⊢ iprop(∃ f, bufP c cc0_scratch12 f) := by
  rw [show sndPay m c 3 (jk c 1) = osP c (zv c) 0 (shJ (jk c 1)) (OS m c) from rfl, show sndPay m c 3 (jk c 2) = osP c (zv c) 0 (shJ (jk c 2)) (OS m c) from rfl, show sndPay m c 3 (jk c 3) = osP c (zv c) 0 (shJ (jk c 3)) (OS m c) from rfl,
    show sndPay m c 4 (jk c 1) = osP c (zv c) 1 (shJ (jk c 1)) (OS m c) from rfl, show sndPay m c 4 (jk c 2) = osP c (zv c) 1 (shJ (jk c 2)) (OS m c) from rfl, show sndPay m c 4 (jk c 3) = osP c (zv c) 1 (shJ (jk c 3)) (OS m c) from rfl]
  iintro ⟨⟨H, H0, H1, H2, H3⟩, ⟨G, G0, G1, G2, G3⟩, ⟨R1, R2, R3⟩, T1, T2, T3⟩
  iexists OS m c
  rw [os_slots]
  isplitl [H H0 H1 H2 H3 G G0 G1 G2 G3]
  · isplitl [H H0 H1 H2 H3]
    · iapply (os_toks c 0 (OS m c)).2
      isplitl [H]; · iexact H
      isplitl [H0]; · iexact H0
      isplitl [H1]; · iexact H1
      isplitl [H2]; · iexact H2
      iexact H3
    · iapply (os_toks c 1 (OS m c)).2
      isplitl [G]; · iexact G
      isplitl [G0]; · iexact G0
      isplitl [G1]; · iexact G1
      isplitl [G2]; · iexact G2
      iexact G3
  isplitl [R1 T1]; · isplitl [R1] <;> iassumption
  isplitl [R2 T2]; · isplitl [R2] <;> iassumption
  isplitl [R3] <;> iassumption

theorem guk_end : iprop(gukP c (zv c) fullShare (GUK m c) ∗ gukP c (jk c 1) fullShare (GUK m c) ∗ gukP c (jk c 2) fullShare (GUK m c) ∗ gukP c (jk c 3) fullShare (GUK m c))
    ⊢ iprop(∃ f, bufP c cc0_scratch1 f) := by
  iintro H; iexists GUK m c; rw [guk_slots]; iexact H

theorem guv_end : iprop(guvP c (zv c) fullShare (GUV m c) ∗ guvP c (jk c 1) fullShare (GUV m c) ∗ guvP c (jk c 2) fullShare (GUV m c) ∗ guvP c (jk c 3) fullShare (GUV m c))
    ⊢ iprop(∃ f, bufP c cc0_scratch2 f) := by
  iintro H; iexists GUV m c; rw [guv_slots]; iexact H

theorem wuk_end : iprop(wukP c (zv c) (wukB m c) ∗ sndPay m c 1 (jk c 1) ∗ sndPay m c 1 (jk c 2) ∗ sndPay m c 1 (jk c 3))
    ⊢ iprop(∃ f, bufP c cc0_scratch3 f) := by
  rw [show sndPay m c 1 (jk c 1) = wukP c (jk c 1) (wukB m c) from rfl, show sndPay m c 1 (jk c 2) = wukP c (jk c 2) (wukB m c) from rfl, show sndPay m c 1 (jk c 3) = wukP c (jk c 3) (wukB m c) from rfl]
  iintro H; iexists wukB m c; rw [wuk_slots]; iexact H

theorem wuv_end : iprop(wuvP c (zv c) (wuvB m c) ∗ sndPay m c 2 (jk c 1) ∗ sndPay m c 2 (jk c 2) ∗ sndPay m c 2 (jk c 3))
    ⊢ iprop(∃ f, bufP c cc0_scratch4 f) := by
  rw [show sndPay m c 2 (jk c 1) = wuvP c (jk c 1) (wuvB m c) from rfl, show sndPay m c 2 (jk c 2) = wuvP c (jk c 2) (wuvB m c) from rfl, show sndPay m c 2 (jk c 3) = wuvP c (jk c 3) (wuvB m c) from rfl]
  iintro H; iexists wuvB m c; rw [wuv_slots]; iexact H

theorem land_make (k : Fin 4) (f0 : Vec F S4x1024x128 .bf16) (f1 f2 : Vec F S4x128x512 .bf16) (f3 : Vec F S4x2x1024x256 .bf16) :
    iprop(gcP c k fullShare f0 ∗ gukP c k fullShare f1 ∗ guvP c k fullShare f2 ∗ osP c k 0 fullShare f3 ∗ osP c k 1 fullShare f3) ⊢ landP c k := by
  unfold landP
  iintro ⟨H0, H1, H2, H3, H4⟩
  isplitl [H0]; · iexists _; iexact H0
  isplitl [H1]; · iexists _; iexact H1
  isplitl [H2]; · iexists _; iexact H2
  isplitl [H3]; · iexists _; iexact H3
  iexists _; iexact H4

set_option maxHeartbeats 4000000 in
/-- The whole body, from its resources to its results. -/
theorem run_parts (K : Dev nD × CI → ℕ) {Kt : PUnit → sProp (MT nD τ sig Unit (Elt F) ℕ UU ℕ)} :
    iprop((ctx m K ∗ stagedIn m c ∗ (∃ f, bufP c cc0_stg5_0 f) ∗ rawIn m c ∗ scratchAny c ∗ ghostIn c ∗ OW c 18)
      ∗ ((stagedIn m c ∗ bufP c cc0_stg5_0 (oA7 m c) ∗ rawIn m c ∗ scratchAny c ∗ ghostOut c ∗ OW c 0) -∗ Kt ⟨⟩))
      ⊢ WP c (onArgs (cc0__body (F := F))) Kt := by
  rw [cc0__body_eq_skeleton]; unfold cc0__body_skel
  dsimp only [onArgs]
  unfold stagedIn rawIn scratchAny ghostIn ghostOut
  iintro ⟨⟨#HC, ⟨HX, HW1, HW2, HW3, HWR⟩, HOUT, ⟨HMQ, HMR, HMO, HC0, HC1, HC2, HC3⟩, ⟨⟨%f0, HZ0⟩, ⟨%f1, HZ1⟩, ⟨%f2, HZ2⟩, HSUK, HSUV, HSQ, HSQR, ⟨%f7, HZ7⟩, HQS, HQRS, HKS, HVS, ⟨%f12, HZ12⟩⟩, ⟨HBP, HBC, HBT1, HBT2, HBT3, HST01, HST02, HST03, HST11, HST12, HST13, HST21, HST22, HST23, HST31, HST32, HST33, HST41, HST42, HST43, HSP01, HSP02, HSP03, HSP11, HSP12, HSP13, HSP21, HSP22, HSP23, HSP31, HSP32, HSP33, HSP41, HSP42, HSP43, HRP01, HRP02, HRP03, HRP11, HRP12, HRP13, HRP21, HRP22, HRP23, HRP31, HRP32, HRP33, HRP41, HRP42, HRP43, HRC01, HRC02, HRC03, HRC11, HRC12, HRC13, HRC21, HRC22, HRC23, HRC31, HRC32, HRC33, HRC41, HRC42, HRC43⟩, HOW⟩, Hk⟩
  ihave HZ0 := (Entails.of_eq (gc_slots c f0)) $$ HZ0
  icases HZ0 with ⟨HGC, HA1, HA2, HA3⟩
  ihave HZ1 := (Entails.of_eq (guk_slots c f1)) $$ HZ1
  icases HZ1 with ⟨HGUK, HB1, HB2, HB3⟩
  ihave HZ2 := (Entails.of_eq (guv_slots c f2)) $$ HZ2
  icases HZ2 with ⟨HGUV, HD1, HD2, HD3⟩
  ihave HZ12 := (Entails.of_eq (os_slots c f12)) $$ HZ12
  icases HZ12 with ⟨⟨HE0, HF0⟩, ⟨HE1, HF1⟩, ⟨HE2, HF2⟩, ⟨HE3, HF3⟩⟩
  ihave HE0 := (oh_eq c (zv c) 0 f12).1 $$ HE0
  icases HE0 with ⟨HOH00, HOH01⟩
  ihave HF0 := (oh_eq c (zv c) 1 f12).1 $$ HF0
  icases HF0 with ⟨HOH10, HOH11⟩
  ihave HZ7 := (Entails.of_eq (wf_slots c f7)) $$ HZ7
  icases HZ7 with ⟨HY0, HY1⟩
  ihave HMO := (wo_toks m c).1 $$ HMO
  icases HMO with ⟨HMO, HM0, HM1⟩
  ihave HL1 := (land_make c (jk c 1) f0 f1 f2 f12) $$ [HA1 HB1 HD1 HE1 HF1]
  · isplitl [HA1]; · iexact HA1
    isplitl [HB1]; · iexact HB1
    isplitl [HD1]; · iexact HD1
    isplitl [HE1]; · iexact HE1
    iexact HF1
  ihave HL2 := (land_make c (jk c 2) f0 f1 f2 f12) $$ [HA2 HB2 HD2 HE2 HF2]
  · isplitl [HA2]; · iexact HA2
    isplitl [HB2]; · iexact HB2
    isplitl [HD2]; · iexact HD2
    isplitl [HE2]; · iexact HE2
    iexact HF2
  ihave HL3 := (land_make c (jk c 3) f0 f1 f2 f12) $$ [HA3 HB3 HD3 HE3 HF3]
  · isplitl [HA3]; · iexact HA3
    isplitl [HB3]; · iexact HB3
    isplitl [HD3]; · iexact HD3
    isplitl [HE3]; · iexact HE3
    iexact HF3
  ihave HWO0 : iprop(woI m c 0) $$ [HY0 HM0 HC2]
  · unfold woI
    isplitl [HY0]; · iexists _; iexact HY0
    isplitl [HM0]; · iexact HM0
    iexact HC2
  ihave HWO1 : iprop(woI m c 1) $$ [HY1 HM1 HC3]
  · unfold woI
    isplitl [HY1]; · iexists _; iexact HY1
    isplitl [HM1]; · iexact HM1
    iexact HC3
  ihave HGC : iprop(∃ f, gcP c (zv c) fullShare f) $$ [HGC]
  · iexists _; iexact HGC
  ihave HGUK : iprop(∃ f, gukP c (zv c) fullShare f) $$ [HGUK]
  · iexists _; iexact HGUK
  ihave HGUV : iprop(∃ f, guvP c (zv c) fullShare f) $$ [HGUV]
  · iexists _; iexact HGUV
  ihave HOH00 : iprop(∃ f, ohP c (zv c) 0 0 f) $$ [HOH00]
  · iexists _; iexact HOH00
  ihave HOH01 : iprop(∃ f, ohP c (zv c) 0 1 f) $$ [HOH01]
  · iexists _; iexact HOH01
  ihave HOH10 : iprop(∃ f, ohP c (zv c) 1 0 f) $$ [HOH10]
  · iexists _; iexact HOH10
  ihave HOH11 : iprop(∃ f, ohP c (zv c) 1 1 f) $$ [HOH11]
  · iexists _; iexact HOH11
  iapply (bind_step c)
  iapply (part1 (m := m) c )
  isplitl [HSQ HMQ HC0 HSQR HMR HC1 HX HW2 HSUK HW3 HSUV]
  · isplitl [HSQ]; · iexact HSQ
    isplitl [HMQ]; · iexact HMQ
    isplitl [HC0]; · iexact HC0
    isplitl [HSQR]; · iexact HSQR
    isplitl [HMR]; · iexact HMR
    isplitl [HC1]; · iexact HC1
    isplitl [HX]; · iexact HX
    isplitl [HW2]; · iexact HW2
    isplitl [HSUK]; · iexact HSUK
    isplitl [HW3]; · iexact HW3
    iexact HSUV
  iintro %v2 %v5 %v8 %v10 ⟨HFQ, HFR, HX, HW2, HSUK, HW3, HSUV⟩
  try dsimp only
  iapply (bind_step c)
  iapply (part2 (m := m) c K _ _ _ _)
  isplitl [HSUV HSUK HGUK HGUV HL1 HOW HBT1]
  · isplitr; · iexact HC
    isplitl [HSUV]; · iexact HSUV
    isplitl [HSUK]; · iexact HSUK
    isplitl [HGUK]; · iexact HGUK
    isplitl [HGUV]; · iexact HGUV
    isplitl [HL1]; · iexact HL1
    isplitl [HOW]; · iexact HOW
    iexact HBT1
  iintro %v64 %v66 ⟨HSUV, HSUK, HGUK, HGUV, HOW⟩
  try dsimp only
  iapply (bind_step c)
  iapply (part3 (m := m) c K _ _ _ _ _)
  isplitl [HL2 HOW HBT2 HL3 HBT3 HBC HBP]
  · isplitr; · iexact HC
    isplitl [HL2]; · iexact HL2
    isplitl [HOW]; · iexact HOW
    isplitl [HBT2]; · iexact HBT2
    isplitl [HL3]; · iexact HL3
    isplitl [HBT3]; · iexact HBT3
    isplitl [HBC]; · iexact HBC
    iexact HBP
  iintro %v98 ⟨HOW, HBP, HPL1, HPL2, HPL3⟩
  try dsimp only
  ihave HSUK := (Entails.of_eq (wuk_slots c (wukB m c))) $$ HSUK
  icases HSUK with ⟨HSUK, HSRC11, HSRC12, HSRC13⟩
  ihave HSUV := (Entails.of_eq (wuv_slots c (wuvB m c))) $$ HSUV
  icases HSUV with ⟨HSUV, HSRC21, HSRC22, HSRC23⟩
  ihave HPL1 := (Entails.of_eq (landP.eq_1 (gdev c (jk c 1)) (zv c))) $$ HPL1
  icases HPL1 with ⟨HPG01, HPG11, HPG21, HPG31, HPG41⟩
  ihave HPL2 := (Entails.of_eq (landP.eq_1 (gdev c (jk c 2)) (zv c))) $$ HPL2
  icases HPL2 with ⟨HPG02, HPG12, HPG22, HPG32, HPG42⟩
  ihave HPL3 := (Entails.of_eq (landP.eq_1 (gdev c (jk c 3)) (zv c))) $$ HPL3
  icases HPL3 with ⟨HPG03, HPG13, HPG23, HPG33, HPG43⟩
  iapply (bind_step c)
  iapply (part4 (m := m) c K _ _ _ _ _)
  isplitl [HSRC11 HPG11 HOW HST11]
  · isplitr; · iexact HC
    isplitl [HSRC11]; · iexact HSRC11
    isplitl [HPG11]; · iexact HPG11
    isplitl [HOW]; · iexact HOW
    iexact HST11
  iintro  ⟨HOW, HSC11⟩
  try dsimp only
  iapply (bind_step c)
  iapply (part5 (m := m) c K _ _ _)
  isplitl [HSRC21 HPG21 HOW HST21 HSRC12 HPG12 HST12]
  · isplitr; · iexact HC
    isplitl [HSRC21]; · iexact HSRC21
    isplitl [HPG21]; · iexact HPG21
    isplitl [HOW]; · iexact HOW
    isplitl [HST21]; · iexact HST21
    isplitl [HSRC12]; · iexact HSRC12
    isplitl [HPG12]; · iexact HPG12
    iexact HST12
  iintro  ⟨HOW, HSC21, HSC12⟩
  try dsimp only
  iapply (bind_step c)
  iapply (part6 (m := m) c K _ _ _)
  isplitl [HSRC22 HPG22 HOW HST22 HSRC13 HPG13 HST13]
  · isplitr; · iexact HC
    isplitl [HSRC22]; · iexact HSRC22
    isplitl [HPG22]; · iexact HPG22
    isplitl [HOW]; · iexact HOW
    isplitl [HST22]; · iexact HST22
    isplitl [HSRC13]; · iexact HSRC13
    isplitl [HPG13]; · iexact HPG13
    iexact HST13
  iintro %v186 %v203 ⟨HOW, HSC22, HSC13⟩
  try dsimp only
  iapply (bind_step c)
  iapply (part7 (m := m) c K _ _ _ _ _)
  isplitl [HSRC23 HPG23 HOW HST23 HW1 HGC]
  · isplitr; · iexact HC
    isplitl [HSRC23]; · iexact HSRC23
    isplitl [HPG23]; · iexact HPG23
    isplitl [HOW]; · iexact HOW
    isplitl [HST23]; · iexact HST23
    isplitl [HW1]; · iexact HW1
    iexact HGC
  iintro %v234 %v238 ⟨HOW, HSC23, HW1, HGC⟩
  try dsimp only
  ihave HGC := (gc_toks c (GC m c)).1 $$ HGC
  icases HGC with ⟨HGC, HV0, HSRC01, HSRC02, HSRC03⟩
  iapply (bind_step c)
  iapply (part8 (m := m) c K _ _ _ _ _ _)
  isplitl [HSRC01 HPG01 HOW HST01 HSRC02 HPG02 HST02]
  · isplitr; · iexact HC
    isplitl [HSRC01]; · iexact HSRC01
    isplitl [HPG01]; · iexact HPG01
    isplitl [HOW]; · iexact HOW
    isplitl [HST01]; · iexact HST01
    isplitl [HSRC02]; · iexact HSRC02
    isplitl [HPG02]; · iexact HPG02
    iexact HST02
  iintro %v274 ⟨HOW, HSC01, HSC02⟩
  try dsimp only
  iapply (bind_step c)
  iapply (part9 (m := m) c K _ _ _)
  isplitl [HSRC03 HPG03 HOW HST03 HFQ HQS]
  · isplitr; · iexact HC
    isplitl [HSRC03]; · iexact HSRC03
    isplitl [HPG03]; · iexact HPG03
    isplitl [HOW]; · iexact HOW
    isplitl [HST03]; · iexact HST03
    isplitl [HFQ]; · iexact HFQ
    iexact HQS
  iintro %v308 ⟨HOW, HSC03, HSQ, HMQ, HC0, HQS⟩
  try dsimp only
  iapply (bind_step c)
  iapply (part10 (m := m) c K _ _)
  isplitl [HQS HFR HOW HQRS HWR HGC HGUK HGUV]
  · isplitr; · iexact HC
    isplitl [HQS]; · iexact HQS
    isplitl [HFR]; · iexact HFR
    isplitl [HOW]; · iexact HOW
    isplitl [HQRS]; · iexact HQRS
    isplitl [HWR]; · iexact HWR
    isplitl [HGC]; · iexact HGC
    isplitl [HGUK]; · iexact HGUK
    iexact HGUV
  iintro %v342 ⟨HQS, HOW, HSQR, HMR, HC1, HQRS, HWR, HGC, HGUK, HGUV⟩
  try dsimp only
  iapply (bind_step c)
  iapply (part11 (m := m) c K _ _ _ _)
  isplitl [HRC01 HOW HRP01]
  · isplitr; · iexact HC
    isplitl [HRC01]; · iexact HRC01
    isplitl [HOW]; · iexact HOW
    iexact HRP01
  iintro %v352 ⟨HOW, HRP01, HR01⟩
  try dsimp only
  iapply (bind_step c)
  iapply (part12 (m := m) c K _ _ _ _)
  isplitl [HRC11 HOW HRP11 HRC21 HRP21 HR01]
  · isplitr; · iexact HC
    isplitl [HRC11]; · iexact HRC11
    isplitl [HOW]; · iexact HOW
    isplitl [HRP11]; · iexact HRP11
    isplitl [HRC21]; · iexact HRC21
    isplitl [HRP21]; · iexact HRP21
    iexact HR01
  iintro %v407 %v408 %v409 ⟨HOW, HRP11, HR11, HRP21, HR21, HR01⟩
  try dsimp only
  iapply (bind_step c)
  iapply (part13 (m := m) c K _ _ _ _ _)
  isplitl [HRC02 HOW HRP02 HRC12 HRP12]
  · isplitr; · iexact HC
    isplitl [HRC02]; · iexact HRC02
    isplitl [HOW]; · iexact HOW
    isplitl [HRP02]; · iexact HRP02
    isplitl [HRC12]; · iexact HRC12
    iexact HRP12
  iintro %v415 %v441 ⟨HOW, HRP02, HR02, HRP12, HR12⟩
  try dsimp only
  iapply (bind_step c)
  iapply (part14 (m := m) c K _ _ _ _)
  isplitl [HRC22 HOW HRP22 HR02 HR12]
  · isplitr; · iexact HC
    isplitl [HRC22]; · iexact HRC22
    isplitl [HOW]; · iexact HOW
    isplitl [HRP22]; · iexact HRP22
    isplitl [HR02]; · iexact HR02
    iexact HR12
  iintro %v471 %v476 %v477 ⟨HOW, HRP22, HR22, HR02, HR12⟩
  try dsimp only
  iapply (bind_step c)
  iapply (part15 (m := m) c K _ _ _ _ _)
  isplitl [HRC03 HOW HRP03 HRC13 HRP13]
  · isplitr; · iexact HC
    isplitl [HRC03]; · iexact HRC03
    isplitl [HOW]; · iexact HOW
    isplitl [HRP03]; · iexact HRP03
    isplitl [HRC13]; · iexact HRC13
    iexact HRP13
  iintro %v478 ⟨HOW, HRP03, HR03, HRP13, HR13⟩
  try dsimp only
  iapply (bind_step c)
  iapply (part16 (m := m) c K _)
  isplitl [HRC23 HOW HRP23 HR03 HR13 HKS HVS HQS HQRS]
  · isplitr; · iexact HC
    isplitl [HRC23]; · iexact HRC23
    isplitl [HOW]; · iexact HOW
    isplitl [HRP23]; · iexact HRP23
    isplitl [HR03]; · iexact HR03
    isplitl [HR13]; · iexact HR13
    isplitl [HKS]; · iexact HKS
    isplitl [HVS]; · iexact HVS
    isplitl [HQS]; · iexact HQS
    iexact HQRS
  iintro  ⟨HOW, HRP23, HR23, HR03, HR13, HKS, HVS, HQS, HQRS⟩
  try dsimp only
  iapply (bind_step c)
  iapply (part17 (m := m) c _)
  isplitl [HVS HOH00 HQS HQRS HKS HOH01]
  · isplitl [HVS]; · iexact HVS
    isplitl [HOH00]; · iexact HOH00
    isplitl [HQS]; · iexact HQS
    isplitl [HQRS]; · iexact HQRS
    isplitl [HKS]; · iexact HKS
    iexact HOH01
  iintro  ⟨HVS, HOH00, HQS, HQRS, HKS, HOH01⟩
  try dsimp only
  ihave HOS0 : iprop(osP c (zv c) 0 fullShare (OS m c)) $$ [HOH00 HOH01]
  · iapply (oh_eq c (zv c) 0 (OS m c)).2; isplitl [HOH00] <;> iassumption
  ihave HOS0 := (os_toks c 0 (OS m c)).1 $$ HOS0
  icases HOS0 with ⟨HOS0, HV3, HSRC31, HSRC32, HSRC33⟩
  iapply (bind_step c)
  iapply (part18 (m := m) c K _ _ _)
  isplitl [HSRC31 HPG31 HOW HST31]
  · isplitr; · iexact HC
    isplitl [HSRC31]; · iexact HSRC31
    isplitl [HPG31]; · iexact HPG31
    isplitl [HOW]; · iexact HOW
    iexact HST31
  iintro %v604 %v605 %v606 %v609 ⟨HOW, HSC31⟩
  try dsimp only
  iapply (bind_step c)
  iapply (part19 (m := m) c K _ _ _ _ _ _ _)
  isplitl [HSRC32 HPG32 HOW HST32]
  · isplitr; · iexact HC
    isplitl [HSRC32]; · iexact HSRC32
    isplitl [HPG32]; · iexact HPG32
    isplitl [HOW]; · iexact HOW
    iexact HST32
  iintro %v637 %v641 ⟨HOW, HSC32⟩
  try dsimp only
  iapply (bind_step c)
  iapply (part20 (m := m) c K _ _ _ _)
  isplitl [HSRC33 HPG33 HOW HST33 HQS HQRS HKS HVS HOH10]
  · isplitr; · iexact HC
    isplitl [HSRC33]; · iexact HSRC33
    isplitl [HPG33]; · iexact HPG33
    isplitl [HOW]; · iexact HOW
    isplitl [HST33]; · iexact HST33
    isplitl [HQS]; · iexact HQS
    isplitl [HQRS]; · iexact HQRS
    isplitl [HKS]; · iexact HKS
    isplitl [HVS]; · iexact HVS
    iexact HOH10
  iintro  ⟨HOW, HSC33, HQS, HQRS, HKS, HVS, HOH10⟩
  try dsimp only
  iapply (bind_step c)
  iapply (part21 (m := m) c _ _ _)
  isplitl [HVS HOH11]
  · isplitl [HVS]; · iexact HVS
    iexact HOH11
  iintro  ⟨HVS, HOH11⟩
  try dsimp only
  ihave HOS1 : iprop(osP c (zv c) 1 fullShare (OS m c)) $$ [HOH10 HOH11]
  · iapply (oh_eq c (zv c) 1 (OS m c)).2; isplitl [HOH10] <;> iassumption
  ihave HOS1 := (os_toks c 1 (OS m c)).1 $$ HOS1
  icases HOS1 with ⟨HOS1, HV4, HSRC41, HSRC42, HSRC43⟩
  iapply (bind_step c)
  iapply (part22 (m := m) c K _ _ _)
  isplitl [HSRC41 HPG41 HOW HST41 HSRC42 HPG42 HST42]
  · isplitr; · iexact HC
    isplitl [HSRC41]; · iexact HSRC41
    isplitl [HPG41]; · iexact HPG41
    isplitl [HOW]; · iexact HOW
    isplitl [HST41]; · iexact HST41
    isplitl [HSRC42]; · iexact HSRC42
    isplitl [HPG42]; · iexact HPG42
    iexact HST42
  iintro %v740 %v741 ⟨HOW, HSC41, HSC42⟩
  try dsimp only
  iapply (bind_step c)
  iapply (part23 (m := m) c K _ _ _ _ _ _)
  isplitl [HSRC43 HPG43 HOW HST43]
  · isplitr; · iexact HC
    isplitl [HSRC43]; · iexact HSRC43
    isplitl [HPG43]; · iexact HPG43
    isplitl [HOW]; · iexact HOW
    iexact HST43
  iintro %v775 %v776 ⟨HOW, HSC43⟩
  try dsimp only
  iapply (bind_step c)
  iapply (part24 (m := m) c _ _)
  isplitl [HWO0]
  · iexact HWO0
  iintro %v786 %v797 ⟨HWO0⟩
  try dsimp only
  iapply (bind_step c)
  iapply (part25 (m := m) c K _ _)
  isplitl [HWO1 HWO0 HOW HOS0 HOUT]
  · isplitr; · iexact HC
    isplitl [HWO1]; · iexact HWO1
    isplitl [HWO0]; · iexact HWO0
    isplitl [HOW]; · iexact HOW
    isplitl [HOS0]; · iexact HOS0
    iexact HOUT
  iintro  ⟨HWO1, HWO0, HOW, HOS0, HOUT⟩
  try dsimp only
  iapply (bind_step c)
  iapply (part26 (m := m) c K _ _ _ _)
  isplitl [HWO1 HOW HOS1 HOUT]
  · isplitr; · iexact HC
    isplitl [HWO1]; · iexact HWO1
    isplitl [HOW]; · iexact HOW
    isplitl [HOS1]; · iexact HOS1
    iexact HOUT
  iintro  ⟨HWO1, HOW, HOS1, HOUT⟩
  try dsimp only
  iapply (bind_step c)
  iapply (part27 (m := m) c K _ _)
  isplitl [HRC31 HOW HRP31 HWO0 HOUT]
  · isplitr; · iexact HC
    isplitl [HRC31]; · iexact HRC31
    isplitl [HOW]; · iexact HOW
    isplitl [HRP31]; · iexact HRP31
    isplitl [HWO0]; · iexact HWO0
    iexact HOUT
  iintro  ⟨HOW, HRP31, HR31, HWO0, HOUT⟩
  try dsimp only
  iapply (bind_step c)
  iapply (part28 (m := m) c K _ _ _ _)
  isplitl [HRC41 HOW HRP41 HWO1]
  · isplitr; · iexact HC
    isplitl [HRC41]; · iexact HRC41
    isplitl [HOW]; · iexact HOW
    isplitl [HRP41]; · iexact HRP41
    iexact HWO1
  iintro  ⟨HOW, HRP41, HR41, HWO1⟩
  try dsimp only
  iapply (bind_step c)
  iapply (part29 (m := m) c K _ _ _)
  isplitl [HWO1 HOUT HRC32 HOW HRP32 HWO0]
  · isplitr; · iexact HC
    isplitl [HWO1]; · iexact HWO1
    isplitl [HOUT]; · iexact HOUT
    isplitl [HRC32]; · iexact HRC32
    isplitl [HOW]; · iexact HOW
    isplitl [HRP32]; · iexact HRP32
    iexact HWO0
  iintro  ⟨HWO1, HOUT, HOW, HRP32, HR32, HWO0⟩
  try dsimp only
  iapply (bind_step c)
  iapply (part30 (m := m) c K _ _ _ _)
  isplitl [HWO0 HOUT HRC42 HOW HRP42]
  · isplitr; · iexact HC
    isplitl [HWO0]; · iexact HWO0
    isplitl [HOUT]; · iexact HOUT
    isplitl [HRC42]; · iexact HRC42
    isplitl [HOW]; · iexact HOW
    iexact HRP42
  iintro  ⟨HWO0, HOUT, HOW, HRP42, HR42⟩
  try dsimp only
  iapply (bind_step c)
  iapply (part31 (m := m) c K _ _ _ _)
  isplitl [HWO1 HOW HR42 HOUT]
  · isplitr; · iexact HC
    isplitl [HWO1]; · iexact HWO1
    isplitl [HOW]; · iexact HOW
    isplitl [HR42]; · iexact HR42
    iexact HOUT
  iintro  ⟨HWO1, HOW, HR42, HOUT⟩
  try dsimp only
  iapply (bind_step c)
  iapply (part32 (m := m) c K _ _ _)
  isplitl [HRC33 HOW HRP33 HWO0 HOUT]
  · isplitr; · iexact HC
    isplitl [HRC33]; · iexact HRC33
    isplitl [HOW]; · iexact HOW
    isplitl [HRP33]; · iexact HRP33
    isplitl [HWO0]; · iexact HWO0
    iexact HOUT
  iintro  ⟨HOW, HRP33, HR33, HWO0, HOUT⟩
  try dsimp only
  iapply (bind_step c)
  iapply (part33 (m := m) c K _)
  isplitl [HRC43 HOW HRP43 HWO1 HOUT HSC11 HSP11]
  · isplitr; · iexact HC
    isplitl [HRC43]; · iexact HRC43
    isplitl [HOW]; · iexact HOW
    isplitl [HRP43]; · iexact HRP43
    isplitl [HWO1]; · iexact HWO1
    isplitl [HOUT]; · iexact HOUT
    isplitl [HSC11]; · iexact HSC11
    iexact HSP11
  iintro  ⟨HOW, HRP43, HR43, HWO1, HOUT, HSP11, HS11⟩
  try dsimp only
  iapply (bind_step c)
  iapply (part34 (m := m) c K )
  isplitl [HSC21 HOW HSP21 HSC12 HSP12 HSC22 HSP22 HSC13 HSP13 HSC23 HSP23]
  · isplitr; · iexact HC
    isplitl [HSC21]; · iexact HSC21
    isplitl [HOW]; · iexact HOW
    isplitl [HSP21]; · iexact HSP21
    isplitl [HSC12]; · iexact HSC12
    isplitl [HSP12]; · iexact HSP12
    isplitl [HSC22]; · iexact HSC22
    isplitl [HSP22]; · iexact HSP22
    isplitl [HSC13]; · iexact HSC13
    isplitl [HSP13]; · iexact HSP13
    isplitl [HSC23]; · iexact HSC23
    iexact HSP23
  iintro  ⟨HOW, HSP21, HS21, HSP12, HS12, HSP22, HS22, HSP13, HS13, HSP23, HS23⟩
  try dsimp only
  iapply (bind_step c)
  iapply (part35 (m := m) c K )
  isplitl [HSC01 HOW HSP01 HSC02 HSP02 HSC03 HSP03 HSC31 HSP31]
  · isplitr; · iexact HC
    isplitl [HSC01]; · iexact HSC01
    isplitl [HOW]; · iexact HOW
    isplitl [HSP01]; · iexact HSP01
    isplitl [HSC02]; · iexact HSC02
    isplitl [HSP02]; · iexact HSP02
    isplitl [HSC03]; · iexact HSC03
    isplitl [HSP03]; · iexact HSP03
    isplitl [HSC31]; · iexact HSC31
    iexact HSP31
  iintro  ⟨HOW, HSP01, HS01, HSP02, HS02, HSP03, HS03, HSP31, HS31⟩
  try dsimp only
  iapply (bind_step c)
  iapply (part36 (m := m) c K )
  isplitl [HSC32 HOW HSP32 HSC33 HSP33 HSC41 HSP41 HSC42 HSP42]
  · isplitr; · iexact HC
    isplitl [HSC32]; · iexact HSC32
    isplitl [HOW]; · iexact HOW
    isplitl [HSP32]; · iexact HSP32
    isplitl [HSC33]; · iexact HSC33
    isplitl [HSP33]; · iexact HSP33
    isplitl [HSC41]; · iexact HSC41
    isplitl [HSP41]; · iexact HSP41
    isplitl [HSC42]; · iexact HSC42
    iexact HSP42
  iintro  ⟨HOW, HSP32, HS32, HSP33, HS33, HSP41, HS41, HSP42, HS42⟩
  try dsimp only
  simp only [Prog.lift, Prog.bind_op, Prog.bind_ret, Prog.pure_eq_ret]
  iapply (snd_wait (m := m) c K (t := 4) (k := 3) (by decide) (snd_sem 4 (jk c 3) (off26_eq c 2) _) crT_o1) $$ [HSC43 HOW HSP43]
  · isplitr; · iexact HC
    isplitl [HSC43]; · iexact HSC43
    isplitl [HOW]; · iexact HOW
    iexact HSP43
  iintro ⟨HS43, HOW, HSP43⟩
  iapply (ret_step c)
  iapply Hk
  isplitl [HX HW1 HW2 HW3 HWR]
  · isplitl [HX]; · iexact HX
    isplitl [HW1]; · iexact HW1
    isplitl [HW2]; · iexact HW2
    isplitl [HW3]; · iexact HW3
    iexact HWR
  isplitl [HOUT]; · iexact HOUT
  unfold woR
  icases HWO0 with ⟨HY0, HM0, HC2⟩
  icases HWO1 with ⟨HY1, HM1, HC3⟩
  isplitl [HMQ HMR HMO HM0 HM1 HC0 HC1 HC2 HC3]
  · isplitl [HMQ]; · iexact HMQ
    isplitl [HMR]; · iexact HMR
    isplitl [HMO HM0 HM1]
    · iapply (wo_toks m c).2
      isplitl [HMO]; · iexact HMO
      isplitl [HM0] <;> iassumption
    isplitl [HC0]; · iexact HC0
    isplitl [HC1]; · iexact HC1
    isplitl [HC2]; · iexact HC2
    iexact HC3
  isplitl [HGC HV0 HS01 HS02 HS03 HR01 HR02 HR03 HGUK HR11 HR12 HR13 HGUV HR21 HR22 HR23 HSUK HS11 HS12 HS13 HSUV HS21 HS22 HS23 HSQ HSQR HY0 HY1 HQS HQRS HKS HVS HOS0 HV3 HS31 HS32 HS33 HOS1 HV4 HS41 HS42 HS43 HR31 HR32 HR33 HR41 HR42 HR43]
  · isplitl [HGC HV0 HS01 HS02 HS03 HR01 HR02 HR03]
    · iapply (gc_end (m := m) c)
      isplitl [HGC]
      · iexact HGC
      isplitl [HV0]
      · iexact HV0
      isplitl [HS01 HS02 HS03]
      · isplitl [HS01]
        · iexact HS01
        isplitl [HS02]
        · iexact HS02
        iexact HS03
      isplitl [HR01]
      · iexact HR01
      isplitl [HR02]
      · iexact HR02
      iexact HR03
    isplitl [HGUK HR11 HR12 HR13]
    · iapply (guk_end (m := m) c)
      isplitl [HGUK]
      · iexact HGUK
      isplitl [HR11]
      · iexact HR11
      isplitl [HR12]
      · iexact HR12
      iexact HR13
    isplitl [HGUV HR21 HR22 HR23]
    · iapply (guv_end (m := m) c)
      isplitl [HGUV]
      · iexact HGUV
      isplitl [HR21]
      · iexact HR21
      isplitl [HR22]
      · iexact HR22
      iexact HR23
    isplitl [HSUK HS11 HS12 HS13]
    · iapply (wuk_end (m := m) c)
      isplitl [HSUK]
      · iexact HSUK
      isplitl [HS11]
      · iexact HS11
      isplitl [HS12]
      · iexact HS12
      iexact HS13
    isplitl [HSUV HS21 HS22 HS23]
    · iapply (wuv_end (m := m) c)
      isplitl [HSUV]
      · iexact HSUV
      isplitl [HS21]
      · iexact HS21
      isplitl [HS22]
      · iexact HS22
      iexact HS23
    isplitl [HSQ]
    · iexists _; iexact HSQ
    isplitl [HSQR]
    · iexists _; iexact HSQR
    isplitl [HY0 HY1]
    · iapply (wf_join c _ _)
      isplitl [HY0]
      · iexact HY0
      iexact HY1
    isplitl [HQS]
    · iexists _; iexact HQS
    isplitl [HQRS]
    · iexists _; iexact HQRS
    isplitl [HKS]
    · iexists _; iexact HKS
    isplitl [HVS]
    · iexists _; iexact HVS
    iapply (os_end (m := m) c)
    isplitl [HOS0 HV3 HS31 HS32 HS33]
    · isplitl [HOS0]
      · iexact HOS0
      isplitl [HV3]
      · iexact HV3
      isplitl [HS31]
      · iexact HS31
      isplitl [HS32]
      · iexact HS32
      iexact HS33
    isplitl [HOS1 HV4 HS41 HS42 HS43]
    · isplitl [HOS1]
      · iexact HOS1
      isplitl [HV4]
      · iexact HV4
      isplitl [HS41]
      · iexact HS41
      isplitl [HS42]
      · iexact HS42
      iexact HS43
    isplitl [HR31 HR32 HR33]
    · isplitl [HR31]
      · iexact HR31
      isplitl [HR32]
      · iexact HR32
      iexact HR33
    isplitl [HR41]
    · iexact HR41
    isplitl [HR42]
    · iexact HR42
    iexact HR43
  isplitl [HBP HSP01 HSP02 HSP03 HSP11 HSP12 HSP13 HSP21 HSP22 HSP23 HSP31 HSP32 HSP33 HSP41 HSP42 HSP43 HRP01 HRP02 HRP03 HRP11 HRP12 HRP13 HRP21 HRP22 HRP23 HRP31 HRP32 HRP33 HRP41 HRP42 HRP43]
  · isplitl [HBP]; · iexact HBP
    isplitl [HSP01]; · iexact HSP01
    isplitl [HSP02]; · iexact HSP02
    isplitl [HSP03]; · iexact HSP03
    isplitl [HSP11]; · iexact HSP11
    isplitl [HSP12]; · iexact HSP12
    isplitl [HSP13]; · iexact HSP13
    isplitl [HSP21]; · iexact HSP21
    isplitl [HSP22]; · iexact HSP22
    isplitl [HSP23]; · iexact HSP23
    isplitl [HSP31]; · iexact HSP31
    isplitl [HSP32]; · iexact HSP32
    isplitl [HSP33]; · iexact HSP33
    isplitl [HSP41]; · iexact HSP41
    isplitl [HSP42]; · iexact HSP42
    isplitl [HSP43]; · iexact HSP43
    isplitl [HRP01]; · iexact HRP01
    isplitl [HRP02]; · iexact HRP02
    isplitl [HRP03]; · iexact HRP03
    isplitl [HRP11]; · iexact HRP11
    isplitl [HRP12]; · iexact HRP12
    isplitl [HRP13]; · iexact HRP13
    isplitl [HRP21]; · iexact HRP21
    isplitl [HRP22]; · iexact HRP22
    isplitl [HRP23]; · iexact HRP23
    isplitl [HRP31]; · iexact HRP31
    isplitl [HRP32]; · iexact HRP32
    isplitl [HRP33]; · iexact HRP33
    isplitl [HRP41]; · iexact HRP41
    isplitl [HRP42]; · iexact HRP42
    iexact HRP43
  iexact HOW

end

end Cert.KProof
-- ==== Proof.Cells.lean ====
module

public import proofs.«01_k».proof.Proof.Copies

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells of a device, one by one -/

section

variable (c : Dev nD)

/-- The four cells of array `t`, the device's own place first. -/
def st4 (Φ : CI → sProp (MT nD τ sig Unit (Elt F) ℕ UU ℕ)) (b : Bool) (t : Fin 5) : sProp (MT nD τ sig Unit (Elt F) ℕ UU ℕ) :=
  iprop(Φ (some (b, t, zv c)) ∗ Φ (some (b, t, jk c 1)) ∗ Φ (some (b, t, jk c 2)) ∗ Φ (some (b, t, jk c 3)))
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_bool (Φ : Bool → sProp 𝕄) : bigSep Finset.univ Φ = iprop(Φ false ∗ Φ true) :=
  bigSep_univ_eq_bigSepL [false, true] (by decide) (by decide) Φ
theorem bigSep_opt {α : Type} [Fintype α] [DecidableEq α] (Φ : Option α → sProp 𝕄) :
    bigSep Finset.univ Φ = iprop(Φ none ∗ bigSep Finset.univ fun x => Φ (some x)) := by
  rw [bigSep_univ_at Φ none]
  have : (Finset.univ : Finset (Option α)).erase none = Finset.univ.map Function.Embedding.some := by
    ext x; cases x <;> simp
  rw [this, bigSep_map]; rfl
theorem bigSep_tj (Φ : Fin 5 × Fin 4 → sProp 𝕄) : bigSep Finset.univ Φ
    = bigSep Finset.univ fun t : Fin 5 => iprop(Φ (t, zv c) ∗ Φ (t, jk c 1) ∗ Φ (t, jk c 2) ∗ Φ (t, jk c 3)) := by
  rw [bigSep_univ_prod]
  exact bigSep_congr fun t _ => bigSep_places c fun j => Φ (t, j)
theorem bigSep_btj (Φ : Bool × Fin 5 × Fin 4 → sProp 𝕄) : bigSep Finset.univ Φ
    = iprop((bigSep Finset.univ fun x => Φ (false, x)) ∗ bigSep Finset.univ fun x => Φ (true, x)) := by
  rw [bigSep_univ_prod, bigSep_bool]
theorem cells_split (Φ : CI → sProp (MT nD τ sig Unit (Elt F) ℕ UU ℕ)) : bigSep Finset.univ Φ
    = iprop(Φ none ∗ (st4 c Φ false 0 ∗ st4 c Φ false 1 ∗ st4 c Φ false 2 ∗ st4 c Φ false 3 ∗ st4 c Φ false 4)
        ∗ (st4 c Φ true 0 ∗ st4 c Φ true 1 ∗ st4 c Φ true 2 ∗ st4 c Φ true 3 ∗ st4 c Φ true 4)) := by
  rw [bigSep_opt, bigSep_btj, bigSep_tj c, bigSep_tj c, bigSep_fin5, bigSep_fin5]; rfl

/-- The round a device leaves its cell `i` at: its own place's cells are never used. -/
def rnd (i : CI) : ℕ := match i with
  | none => 1
  | some (_, _, j) => if j = zv c then 0 else 1
theorem rnd_own (b : Bool) (t : Fin 5) : rnd c (some (b, t, zv c)) = 0 := if_pos rfl
theorem rnd_jk (b : Bool) (t : Fin 5) {k : Fin 4} (h : k ≠ 0) : rnd c (some (b, t, jk c k)) = 1 := if_neg (jk_ne c h)
theorem rnd_duties (i : CI) : ∀ r, rnd c i ≤ r → (Rd (F := F) m).duties (kcell c i) r = ∅ := fun r hr => by
  rcases i with _ | ⟨b, t, j⟩
  · exact duties_later m _ r hr
  · by_cases h : j = zv c
    · subst h; exact duties_none m c b t r
    · exact duties_later m _ r (by unfold rnd at hr; simp only [if_neg h] at hr; exact hr)

theorem close_cell (K : Dev nD × CI → ℕ) (i : CI) : iprop(ctx m K ∗ atPos ER (kcell c i) (rnd c i) ∅ 0) ⊢ |={Set.univ}=> semVal (kcell c i) 0 := by
  iintro ⟨#HC, H⟩
  iapply (Rounds.cell_close ER (Rd m) (κ := K (c, i)) (Set.mem_univ _) (fun h => h) (rnd_duties m c i))
  isplitr
  · iapply (ctx_inv m K c i); iexact HC
  iexact H
theorem close_cells (K : Dev nD × CI → ℕ) : iprop(ctx m K ∗ bigSep Finset.univ fun i : CI => atPos ER (kcell c i) (rnd c i) ∅ 0)
    ⊢ |={Set.univ}=> bigSep Finset.univ fun i : CI => semVal (kcell c i) 0 :=
  (bigSep_with_persistent fun i _ => close_cell m c K i).trans (bigSep_fupd _ _)

/-- The positions of the device's own place's cells, which it never uses. -/
def diagPos (c : Dev nD) : sProp (MT nD τ sig Unit (Elt F) ℕ UU ℕ) := iprop(sPos c 0 0 0 ∗ sPos c 1 0 0 ∗ sPos c 2 0 0 ∗ sPos c 3 0 0 ∗ sPos c 4 0 0 ∗ rPos c 0 0 0
      ∗ rPos c 1 0 0 ∗ rPos c 2 0 0 ∗ rPos c 3 0 0 ∗ rPos c 4 0 0)
/-- The positions of the cells it uses, at round `r`. -/
def usedPos (c : Dev nD) (r : ℕ) : sProp (MT nD τ sig Unit (Elt F) ℕ UU ℕ) := iprop(atPos ER (barCell c) r ∅ 0 ∗ sPos c 0 1 r ∗ sPos c 0 2 r ∗ sPos c 0 3 r ∗ sPos c 1 1 r ∗ sPos c 1 2 r
      ∗ sPos c 1 3 r ∗ sPos c 2 1 r ∗ sPos c 2 2 r ∗ sPos c 2 3 r ∗ sPos c 3 1 r ∗ sPos c 3 2 r
      ∗ sPos c 3 3 r ∗ sPos c 4 1 r ∗ sPos c 4 2 r ∗ sPos c 4 3 r ∗ rPos c 0 1 r ∗ rPos c 0 2 r
      ∗ rPos c 0 3 r ∗ rPos c 1 1 r ∗ rPos c 1 2 r ∗ rPos c 1 3 r ∗ rPos c 2 1 r ∗ rPos c 2 2 r
      ∗ rPos c 2 3 r ∗ rPos c 3 1 r ∗ rPos c 3 2 r ∗ rPos c 3 3 r ∗ rPos c 4 1 r ∗ rPos c 4 2 r
      ∗ rPos c 4 3 r)
theorem pos_join : iprop(diagPos c ∗ usedPos c 1) ⊢ bigSep Finset.univ fun i : CI => (atPos ER (kcell c i) (rnd c i) ∅ 0 : sProp 𝕄) := by
  rw [cells_split c]
  unfold st4 diagPos usedPos sPos rPos
  simp only [rnd_own, rnd_jk c _ _ (by decide : (1 : Fin 4) ≠ 0), rnd_jk c _ _ (by decide : (2 : Fin 4) ≠ 0), rnd_jk c _ _ (by decide : (3 : Fin 4) ≠ 0), jk_zero]
  iintro ⟨⟨HSD0, HSD1, HSD2, HSD3, HSD4, HRD0, HRD1, HRD2, HRD3, HRD4⟩, ⟨HBP, HSP01, HSP02, HSP03, HSP11, HSP12, HSP13, HSP21, HSP22, HSP23, HSP31, HSP32, HSP33, HSP41, HSP42, HSP43, HRP01, HRP02, HRP03, HRP11, HRP12, HRP13, HRP21, HRP22, HRP23, HRP31, HRP32, HRP33, HRP41, HRP42, HRP43⟩⟩
  isplitl [HBP]; · iexact HBP
  isplitl [HSD0 HSP01 HSP02 HSP03 HSD1 HSP11 HSP12 HSP13 HSD2 HSP21 HSP22 HSP23 HSD3 HSP31 HSP32 HSP33 HSD4 HSP41 HSP42 HSP43]
  · isplitl [HSD0 HSP01 HSP02 HSP03]
    · isplitl [HSD0]; · iexact HSD0
      isplitl [HSP01]; · iexact HSP01
      isplitl [HSP02]; · iexact HSP02
      iexact HSP03
    isplitl [HSD1 HSP11 HSP12 HSP13]
    · isplitl [HSD1]; · iexact HSD1
      isplitl [HSP11]; · iexact HSP11
      isplitl [HSP12]; · iexact HSP12
      iexact HSP13
    isplitl [HSD2 HSP21 HSP22 HSP23]
    · isplitl [HSD2]; · iexact HSD2
      isplitl [HSP21]; · iexact HSP21
      isplitl [HSP22]; · iexact HSP22
      iexact HSP23
    isplitl [HSD3 HSP31 HSP32 HSP33]
    · isplitl [HSD3]; · iexact HSD3
      isplitl [HSP31]; · iexact HSP31
      isplitl [HSP32]; · iexact HSP32
      iexact HSP33
    isplitl [HSD4]; · iexact HSD4
    isplitl [HSP41]; · iexact HSP41
    isplitl [HSP42]; · iexact HSP42
    iexact HSP43
  isplitl [HRD0 HRP01 HRP02 HRP03]
  · isplitl [HRD0]; · iexact HRD0
    isplitl [HRP01]; · iexact HRP01
    isplitl [HRP02]; · iexact HRP02
    iexact HRP03
  isplitl [HRD1 HRP11 HRP12 HRP13]
  · isplitl [HRD1]; · iexact HRD1
    isplitl [HRP11]; · iexact HRP11
    isplitl [HRP12]; · iexact HRP12
    iexact HRP13
  isplitl [HRD2 HRP21 HRP22 HRP23]
  · isplitl [HRD2]; · iexact HRD2
    isplitl [HRP21]; · iexact HRP21
    isplitl [HRP22]; · iexact HRP22
    iexact HRP23
  isplitl [HRD3 HRP31 HRP32 HRP33]
  · isplitl [HRD3]; · iexact HRD3
    isplitl [HRP31]; · iexact HRP31
    isplitl [HRP32]; · iexact HRP32
    iexact HRP33
  isplitl [HRD4]; · iexact HRD4
  isplitl [HRP41]; · iexact HRP41
  isplitl [HRP42]; · iexact HRP42
  iexact HRP43
theorem pos_split : (bigSep Finset.univ fun i : CI => (atPos ER (kcell c i) 0 ∅ 0 : sProp 𝕄)) ⊢ iprop(diagPos c ∗ usedPos c 0) := by
  rw [cells_split c]
  unfold st4 diagPos usedPos sPos rPos
  simp only [jk_zero]
  iintro ⟨HBP, ⟨⟨HSD0, HSP01, HSP02, HSP03⟩, ⟨HSD1, HSP11, HSP12, HSP13⟩, ⟨HSD2, HSP21, HSP22, HSP23⟩, ⟨HSD3, HSP31, HSP32, HSP33⟩, ⟨HSD4, HSP41, HSP42, HSP43⟩⟩, ⟨⟨HRD0, HRP01, HRP02, HRP03⟩, ⟨HRD1, HRP11, HRP12, HRP13⟩, ⟨HRD2, HRP21, HRP22, HRP23⟩, ⟨HRD3, HRP31, HRP32, HRP33⟩, ⟨HRD4, HRP41, HRP42, HRP43⟩⟩⟩
  isplitl [HSD0 HSD1 HSD2 HSD3 HSD4 HRD0 HRD1 HRD2 HRD3 HRD4]
  · isplitl [HSD0]; · iexact HSD0
    isplitl [HSD1]; · iexact HSD1
    isplitl [HSD2]; · iexact HSD2
    isplitl [HSD3]; · iexact HSD3
    isplitl [HSD4]; · iexact HSD4
    isplitl [HRD0]; · iexact HRD0
    isplitl [HRD1]; · iexact HRD1
    isplitl [HRD2]; · iexact HRD2
    isplitl [HRD3]; · iexact HRD3
    iexact HRD4
  isplitl [HBP]; · iexact HBP
  isplitl [HSP01]; · iexact HSP01
  isplitl [HSP02]; · iexact HSP02
  isplitl [HSP03]; · iexact HSP03
  isplitl [HSP11]; · iexact HSP11
  isplitl [HSP12]; · iexact HSP12
  isplitl [HSP13]; · iexact HSP13
  isplitl [HSP21]; · iexact HSP21
  isplitl [HSP22]; · iexact HSP22
  isplitl [HSP23]; · iexact HSP23
  isplitl [HSP31]; · iexact HSP31
  isplitl [HSP32]; · iexact HSP32
  isplitl [HSP33]; · iexact HSP33
  isplitl [HSP41]; · iexact HSP41
  isplitl [HSP42]; · iexact HSP42
  isplitl [HSP43]; · iexact HSP43
  isplitl [HRP01]; · iexact HRP01
  isplitl [HRP02]; · iexact HRP02
  isplitl [HRP03]; · iexact HRP03
  isplitl [HRP11]; · iexact HRP11
  isplitl [HRP12]; · iexact HRP12
  isplitl [HRP13]; · iexact HRP13
  isplitl [HRP21]; · iexact HRP21
  isplitl [HRP22]; · iexact HRP22
  isplitl [HRP23]; · iexact HRP23
  isplitl [HRP31]; · iexact HRP31
  isplitl [HRP32]; · iexact HRP32
  isplitl [HRP33]; · iexact HRP33
  isplitl [HRP41]; · iexact HRP41
  isplitl [HRP42]; · iexact HRP42
  iexact HRP43

/-! ## The tokens -/

/-- The tokens of the device's own cells, as minted. -/
def toks (c : Dev nD) : sProp (MT nD τ sig Unit (Elt F) ℕ UU ℕ) :=
  iprop((bigSep Finset.univ fun d : Fin 4 => dutyTok ER (barCell c) 0 d)
    ∗ (bigSep Finset.univ fun x : Fin 5 × Fin 4 => dutyTok ER (sCell c x.1 x.2) 0 0)
    ∗ bigSep Finset.univ fun x : Fin 5 × Fin 4 => dutyTok ER (rCell c x.1 x.2) 0 0)
/-- The tokens it pays with. -/
def payToks (c : Dev nD) : sProp (MT nD τ sig Unit (Elt F) ℕ UU ℕ) :=
  iprop((bigSep Finset.univ fun j : Fin 4 => dutyTok ER (barCell (gdev c j)) 0 (zv c))
    ∗ (bigSep Finset.univ fun x : Fin 5 × Fin 4 => dutyTok ER (sCell c x.1 x.2) 0 0)
    ∗ bigSep Finset.univ fun x : Fin 5 × Fin 4 => dutyTok ER (rCell (gdev c x.2) x.1 (zv c)) 0 0)
theorem gdev_back (c : Dev nD) (j : Fin 4) : gdev (gdev c j) (zv c) = c := by rw [gdev_gdev, gdev_zv]
/-- Device and place exchanged: the pair (sender, receiver's place) to (receiver, sender's place). -/
def swapB : Dev nD × Fin 4 ≃ Dev nD × Fin 4 :=
  Function.Involutive.toPerm (fun p => (gdev p.1 p.2, zv p.1)) fun p => by rcases p with ⟨c, j⟩; simp only [gdev_back, zv_gdev]
def swapT : Dev nD × (Fin 5 × Fin 4) ≃ Dev nD × (Fin 5 × Fin 4) :=
  Function.Involutive.toPerm (fun p => (gdev p.1 p.2.2, (p.2.1, zv p.1))) fun p => by rcases p with ⟨c, t, j⟩; simp only [gdev_back, zv_gdev]
theorem swap_bar : (bigSep Finset.univ fun c : Dev nD => bigSep Finset.univ fun d : Fin 4 => (dutyTok ER (barCell c) 0 d : sProp 𝕄))
    = bigSep Finset.univ fun c : Dev nD => bigSep Finset.univ fun j : Fin 4 => dutyTok ER (barCell (gdev c j)) 0 (zv c) := by
  rw [← bigSep_univ_prod (fun p : Dev nD × Fin 4 => (dutyTok ER (barCell p.1) 0 p.2 : sProp 𝕄)), ← bigSep_univ_prod (fun p : Dev nD × Fin 4 => (dutyTok ER (barCell (gdev p.1 p.2)) 0 (zv p.1) : sProp 𝕄))]
  exact bigSep_univ_equiv swapB _
theorem swap_rcv : (bigSep Finset.univ fun c : Dev nD => bigSep Finset.univ fun x : Fin 5 × Fin 4 => (dutyTok ER (rCell c x.1 x.2) 0 0 : sProp 𝕄))
    = bigSep Finset.univ fun c : Dev nD => bigSep Finset.univ fun x : Fin 5 × Fin 4 => dutyTok ER (rCell (gdev c x.2) x.1 (zv c)) 0 0 := by
  rw [← bigSep_univ_prod (fun p : Dev nD × (Fin 5 × Fin 4) => (dutyTok ER (rCell p.1 p.2.1 p.2.2) 0 0 : sProp 𝕄)),
    ← bigSep_univ_prod (fun p : Dev nD × (Fin 5 × Fin 4) => (dutyTok ER (rCell (gdev p.1 p.2.2) p.2.1 (zv p.1)) 0 0 : sProp 𝕄))]
  exact bigSep_univ_equiv swapT _
theorem toks_deal : (bigSep Finset.univ fun c : Dev nD => (toks c : sProp 𝕄)) = bigSep Finset.univ fun c : Dev nD => payToks c := by
  unfold toks payToks
  rw [bigSep_sep', bigSep_sep', bigSep_sep', bigSep_sep', swap_bar, swap_rcv]

/-- The tokens the body uses. -/
def usedToks (c : Dev nD) : sProp (MT nD τ sig Unit (Elt F) ℕ UU ℕ) := iprop(bTok c 1 ∗ bTok c 2 ∗ bTok c 3 ∗ sTok c 0 1 ∗ sTok c 0 2 ∗ sTok c 0 3
      ∗ sTok c 1 1 ∗ sTok c 1 2 ∗ sTok c 1 3 ∗ sTok c 2 1 ∗ sTok c 2 2 ∗ sTok c 2 3
      ∗ sTok c 3 1 ∗ sTok c 3 2 ∗ sTok c 3 3 ∗ sTok c 4 1 ∗ sTok c 4 2 ∗ sTok c 4 3)
theorem toks_used : payToks c ⊢ (usedToks c : sProp 𝕄) := by
  unfold payToks usedToks bTok sTok
  rw [bigSep_places c, bigSep_tj c, bigSep_tj c, bigSep_fin5, bigSep_fin5]
  iintro ⟨⟨HB0, HBT1, HBT2, HBT3⟩, ⟨⟨HS00, HS01, HS02, HS03⟩, ⟨HS10, HS11, HS12, HS13⟩, ⟨HS20, HS21, HS22, HS23⟩, ⟨HS30, HS31, HS32, HS33⟩, ⟨HS40, HS41, HS42, HS43⟩⟩, ⟨⟨HR00, HR01, HR02, HR03⟩, ⟨HR10, HR11, HR12, HR13⟩, ⟨HR20, HR21, HR22, HR23⟩, ⟨HR30, HR31, HR32, HR33⟩, ⟨HR40, HR41, HR42, HR43⟩⟩⟩
  isplitl [HBT1]; · iexact HBT1
  isplitl [HBT2]; · iexact HBT2
  isplitl [HBT3]; · iexact HBT3
  isplitl [HS01 HR01]
  · isplitl [HS01]; · iexact HS01
    iexact HR01
  isplitl [HS02 HR02]
  · isplitl [HS02]; · iexact HS02
    iexact HR02
  isplitl [HS03 HR03]
  · isplitl [HS03]; · iexact HS03
    iexact HR03
  isplitl [HS11 HR11]
  · isplitl [HS11]; · iexact HS11
    iexact HR11
  isplitl [HS12 HR12]
  · isplitl [HS12]; · iexact HS12
    iexact HR12
  isplitl [HS13 HR13]
  · isplitl [HS13]; · iexact HS13
    iexact HR13
  isplitl [HS21 HR21]
  · isplitl [HS21]; · iexact HS21
    iexact HR21
  isplitl [HS22 HR22]
  · isplitl [HS22]; · iexact HS22
    iexact HR22
  isplitl [HS23 HR23]
  · isplitl [HS23]; · iexact HS23
    iexact HR23
  isplitl [HS31 HR31]
  · isplitl [HS31]; · iexact HS31
    iexact HR31
  isplitl [HS32 HR32]
  · isplitl [HS32]; · iexact HS32
    iexact HR32
  isplitl [HS33 HR33]
  · isplitl [HS33]; · iexact HS33
    iexact HR33
  isplitl [HS41 HR41]
  · isplitl [HS41]; · iexact HS41
    iexact HR41
  isplitl [HS42 HR42]
  · isplitl [HS42]; · iexact HS42
    iexact HR42
  isplitl [HS43]; · iexact HS43
  iexact HR43

/-! ## The credits -/

/-- How many of all devices' obligations fall on cell `i` of `c`. -/
def cnt (c : Dev nD) (i : CI) : ℕ := ∑ d : Dev nD, ∑ n ∈ Finset.range 18, if c = gdev d (jk d (oblT n).2) ∧ i = oblI (zv d) n then 1 else 0
theorem Ow_apply (d : Dev nD) (n : ℕ) (g : GSem nD τ sig) : Ow d n g () = ∑ i ∈ Finset.range n, if g = oblC d i then oblA i else 0 := by
  induction n with
  | zero => rfl
  | succ n ih =>
    rw [Finset.sum_range_succ, ← ih]
    show Ow d n g () + tallyAt (oblC d n) () (oblA n) g () = _
    rw [tallyAt_apply]
    congr 1
    by_cases h : g = oblC d n
    · rw [if_pos ⟨h, rfl⟩, if_pos h]
    · rw [if_neg (fun h' => h h'.1), if_neg h]
theorem oblA_eq (z : Fin 4) (n : ℕ) : oblA n = amtI (oblI z n) := by
  unfold oblA oblI; split <;> rfl
theorem obl_iff (c d : Dev nD) (i : CI) (n : ℕ) : kcell c i = oblC d n ↔ c = gdev d (jk d (oblT n).2) ∧ i = oblI (zv d) n :=
  ⟨fun h => kcell_inj h, fun h => by unfold oblC; rw [h.1, h.2]⟩
theorem launch_k (c : Dev nD) (i : CI) :
    tallyOn (kcell c i) (launchCredit (Pipeline.owing fun d => Ow d 18) 0 (kcell c i)) = (tallyAt (kcell c i) () (amtI i * cnt c i) : CellTallies nD τ sig Unit) := by
  unfold tallyAt; refine congrArg _ (Finsupp.ext fun u => ?_); cases u
  rw [Pipeline.launchCredit_owing, Finsupp.single_eq_same]
  unfold cnt
  rw [Finset.mul_sum]
  refine Finset.sum_congr rfl fun d _ => ?_
  rw [Ow_apply, Finset.mul_sum]
  refine Finset.sum_congr rfl fun n _ => ?_
  by_cases h : kcell c i = oblC d n
  · rw [if_pos h, if_pos ((obl_iff c d i n).1 h), Nat.mul_one, oblA_eq (zv d), ← ((obl_iff c d i n).1 h).2]
  · rw [if_neg h, if_neg fun h' => h ((obl_iff c d i n).2 h'), Nat.mul_zero]
theorem cnt_bar : ∀ c : Dev nD, cnt c none = 3 := by decide +kernel
theorem cnt_rcv : ∀ (c : Dev nD) (t : Fin 5) (k : Fin 4), k ≠ 0 → cnt c (some (true, t, jk c k)) = 1 := by decide +kernel
theorem cred_bar : cred (tallyOn (kcell c none) (launchCredit (Pipeline.owing fun d => Ow d 18) 0 (kcell c none))) = (cred (tallyAt (barCell c) () 3) : sProp 𝕄) := by
  rw [launch_k, cnt_bar]; rfl
theorem cred_rcv (t : Fin 5) {k : Fin 4} (h : k ≠ 0) :
    cred (tallyOn (kcell c (some (true, t, jk c k))) (launchCredit (Pipeline.owing fun d => Ow d 18) 0 (kcell c (some (true, t, jk c k))))) = (rCred c t k : sProp 𝕄) := by
  rw [launch_k, cnt_rcv c t k h, Nat.mul_one]; rfl

/-- The credits the body starts with. -/
def usedCreds (c : Dev nD) : sProp (MT nD τ sig Unit (Elt F) ℕ UU ℕ) := iprop(cred (tallyAt (barCell c) () 3) ∗ rCred c 0 1 ∗ rCred c 0 2 ∗ rCred c 0 3 ∗ rCred c 1 1 ∗ rCred c 1 2
      ∗ rCred c 1 3 ∗ rCred c 2 1 ∗ rCred c 2 2 ∗ rCred c 2 3 ∗ rCred c 3 1 ∗ rCred c 3 2
      ∗ rCred c 3 3 ∗ rCred c 4 1 ∗ rCred c 4 2 ∗ rCred c 4 3)
theorem creds : (Pipeline.launchCred (fun d => Ow d 18) c : sProp 𝕄) ⊢ usedCreds c := by
  unfold Pipeline.launchCred
  refine (bigSep_subset (Finset.subset_univ (Finset.univ.map ⟨csem, csem_injective⟩))).trans ?_
  rw [bigSep_map]
  refine (Entails.of_eq (cells_split c fun i => cred (tallyOn (kcell c i) (launchCredit (Pipeline.owing fun d => Ow d 18) 0 (kcell c i))))).trans ?_
  unfold st4 usedCreds
  rw [cred_bar]
  simp only [cred_rcv c _ (by decide : (1 : Fin 4) ≠ 0), cred_rcv c _ (by decide : (2 : Fin 4) ≠ 0), cred_rcv c _ (by decide : (3 : Fin 4) ≠ 0)]
  iintro ⟨HBC, ⟨⟨HS00, HS01, HS02, HS03⟩, ⟨HS10, HS11, HS12, HS13⟩, ⟨HS20, HS21, HS22, HS23⟩, ⟨HS30, HS31, HS32, HS33⟩, ⟨HS40, HS41, HS42, HS43⟩⟩, ⟨⟨HR00, HR01, HR02, HR03⟩, ⟨HR10, HR11, HR12, HR13⟩, ⟨HR20, HR21, HR22, HR23⟩, ⟨HR30, HR31, HR32, HR33⟩, ⟨HR40, HR41, HR42, HR43⟩⟩⟩
  isplitl [HBC]; · iexact HBC
  isplitl [HR01]; · iexact HR01
  isplitl [HR02]; · iexact HR02
  isplitl [HR03]; · iexact HR03
  isplitl [HR11]; · iexact HR11
  isplitl [HR12]; · iexact HR12
  isplitl [HR13]; · iexact HR13
  isplitl [HR21]; · iexact HR21
  isplitl [HR22]; · iexact HR22
  isplitl [HR23]; · iexact HR23
  isplitl [HR31]; · iexact HR31
  isplitl [HR32]; · iexact HR32
  isplitl [HR33]; · iexact HR33
  isplitl [HR41]; · iexact HR41
  isplitl [HR42]; · iexact HR42
  iexact HR43

end

end Cert.KProof
-- ==== Proof.Body.lean ====
module

public import proofs.«01_k».proof.Proof.Run
public import proofs.«01_k».proof.Proof.Cells

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

section

variable (c : Dev nD)

theorem ghost_in : iprop(usedPos c 0 ∗ usedToks c ∗ usedCreds c) ⊢ (ghostIn c : sProp 𝕄) := by
  unfold usedPos usedToks usedCreds ghostIn
  iintro ⟨⟨HBP, HSP01, HSP02, HSP03, HSP11, HSP12, HSP13, HSP21, HSP22, HSP23, HSP31, HSP32, HSP33, HSP41, HSP42, HSP43, HRP01, HRP02, HRP03, HRP11, HRP12, HRP13, HRP21, HRP22, HRP23, HRP31, HRP32, HRP33, HRP41, HRP42, HRP43⟩, ⟨HBT1, HBT2, HBT3, HST01, HST02, HST03, HST11, HST12, HST13, HST21, HST22, HST23, HST31, HST32, HST33, HST41, HST42, HST43⟩, ⟨HBC, HRC01, HRC02, HRC03, HRC11, HRC12, HRC13, HRC21, HRC22, HRC23, HRC31, HRC32, HRC33, HRC41, HRC42, HRC43⟩⟩
  isplitl [HBP]; · iexact HBP
  isplitl [HBC]; · iexact HBC
  isplitl [HBT1]; · iexact HBT1
  isplitl [HBT2]; · iexact HBT2
  isplitl [HBT3]; · iexact HBT3
  isplitl [HST01]; · iexact HST01
  isplitl [HST02]; · iexact HST02
  isplitl [HST03]; · iexact HST03
  isplitl [HST11]; · iexact HST11
  isplitl [HST12]; · iexact HST12
  isplitl [HST13]; · iexact HST13
  isplitl [HST21]; · iexact HST21
  isplitl [HST22]; · iexact HST22
  isplitl [HST23]; · iexact HST23
  isplitl [HST31]; · iexact HST31
  isplitl [HST32]; · iexact HST32
  isplitl [HST33]; · iexact HST33
  isplitl [HST41]; · iexact HST41
  isplitl [HST42]; · iexact HST42
  isplitl [HST43]; · iexact HST43
  isplitl [HSP01]; · iexact HSP01
  isplitl [HSP02]; · iexact HSP02
  isplitl [HSP03]; · iexact HSP03
  isplitl [HSP11]; · iexact HSP11
  isplitl [HSP12]; · iexact HSP12
  isplitl [HSP13]; · iexact HSP13
  isplitl [HSP21]; · iexact HSP21
  isplitl [HSP22]; · iexact HSP22
  isplitl [HSP23]; · iexact HSP23
  isplitl [HSP31]; · iexact HSP31
  isplitl [HSP32]; · iexact HSP32
  isplitl [HSP33]; · iexact HSP33
  isplitl [HSP41]; · iexact HSP41
  isplitl [HSP42]; · iexact HSP42
  isplitl [HSP43]; · iexact HSP43
  isplitl [HRP01]; · iexact HRP01
  isplitl [HRP02]; · iexact HRP02
  isplitl [HRP03]; · iexact HRP03
  isplitl [HRP11]; · iexact HRP11
  isplitl [HRP12]; · iexact HRP12
  isplitl [HRP13]; · iexact HRP13
  isplitl [HRP21]; · iexact HRP21
  isplitl [HRP22]; · iexact HRP22
  isplitl [HRP23]; · iexact HRP23
  isplitl [HRP31]; · iexact HRP31
  isplitl [HRP32]; · iexact HRP32
  isplitl [HRP33]; · iexact HRP33
  isplitl [HRP41]; · iexact HRP41
  isplitl [HRP42]; · iexact HRP42
  isplitl [HRP43]; · iexact HRP43
  isplitl [HRC01]; · iexact HRC01
  isplitl [HRC02]; · iexact HRC02
  isplitl [HRC03]; · iexact HRC03
  isplitl [HRC11]; · iexact HRC11
  isplitl [HRC12]; · iexact HRC12
  isplitl [HRC13]; · iexact HRC13
  isplitl [HRC21]; · iexact HRC21
  isplitl [HRC22]; · iexact HRC22
  isplitl [HRC23]; · iexact HRC23
  isplitl [HRC31]; · iexact HRC31
  isplitl [HRC32]; · iexact HRC32
  isplitl [HRC33]; · iexact HRC33
  isplitl [HRC41]; · iexact HRC41
  isplitl [HRC42]; · iexact HRC42
  iexact HRC43
theorem ghost_out : (ghostOut c : sProp 𝕄) ⊢ usedPos c 1 := by
  unfold usedPos ghostOut; exact BI.Entails.refl _
end

/-- What the device holds of the protocol before the body. -/
def start (c : Dev nD) : sProp (MT nD τ sig Unit (Elt F) ℕ UU ℕ) :=
  iprop((∃ K, ctx m K) ∗ (bufP c main_arg4 (wqM m c) ∗ bufP c main_arg5 (wqrM m c) ∗ bufP c main_arg7 (woM m c)) ∗ (cIdle c 0 ∗ cIdle c 1 ∗ cIdle c 2 ∗ cIdle c 3) ∗ ghostIn c ∗ diagPos c)
/-- Before the one point, and after it: the cells closed, the copies' semaphores idle. -/
def Φ₀ (c : Dev nD) : sProp (MT nD τ sig Unit (Elt F) ℕ UU ℕ) := iprop(start m c ∗ scratchAny c)
def Φ₁ (c : Dev nD) : sProp (MT nD τ sig Unit (Elt F) ℕ UU ℕ) :=
  iprop((bigSep Finset.univ fun i : CI => semVal (kcell c i) 0) ∗ (cIdle c 0 ∗ cIdle c 1 ∗ cIdle c 2 ∗ cIdle c 3)
    ∗ (bufP c main_arg4 (wqM m c) ∗ bufP c main_arg5 (wqrM m c) ∗ bufP c main_arg7 (woM m c)) ∗ scratchAny c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => oA7 m c
  Φ t := match t with
    | ⟨0, _⟩ => Φ₀ m c
    | ⟨_ + 1, _⟩ => Φ₁ m c
  q _ := fullShare
  owed t := match t with
    | ⟨0, _⟩ => Ow c 18
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre (c : Dev nD) : sProp (MT nD τ sig Unit (Elt F) ℕ UU ℕ) :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp (MT nD τ sig Unit (Elt F) ℕ UU ℕ) :=
  iprop(Φ₁ m c ∗ (dats m ρ 0 c).owesAt () t0_0.succ ∗ stg c cc0_stg0_0 (stg0 m c) ∗ stg c cc0_stg1_0 (stg1 m c) ∗ stg c cc0_stg2_0 (stg2 m c)
    ∗ stg c cc0_stg3_0 (stg3 m c) ∗ stg c cc0_stg4_0 (stg4 m c) ∗ stg c cc0_stg5_0 (oA7 m c))

/-- The protocol's end: every cell closed. -/
theorem close_all (c : Dev nD) (K : Dev nD × CI → ℕ) : iprop(ctx m K ∗ diagPos c ∗ ghostOut c) ⊢ |={Set.univ}=> bigSep Finset.univ fun i : CI => semVal (kcell c i) 0 :=
  (sep_mono_right ((sep_mono_right (ghost_out c)).trans (pos_join c))).trans (close_cells m c K)

theorem wp_end (c : Dev nD) {p : Prog (TpuEff nD τ sig (Elt F) Λ₀ .tc) PUnit} {Q : PUnit → sProp (MT nD τ sig Unit (Elt F) ℕ UU ℕ)} :
    WP c p (fun a => iprop(|={Set.univ}=> Q a)) ⊢ WP c p Q := by unfold WP; exact wp_fupd frame _ Set.univ p Q

theorem before_0 (c : Dev nD) (d) : (dats m ρ 0 c).before (0 : Fin 6) t0_0 d = stg0 m c := by
  unfold Dat.before; rw [if_pos (fetch0_0 t0_0)]; rfl
theorem before_1 (c : Dev nD) (d) : (dats m ρ 0 c).before (1 : Fin 6) t0_0 d = stg1 m c := by
  unfold Dat.before; rw [if_pos (fetch0_1 t0_0)]; rfl
theorem before_2 (c : Dev nD) (d) : (dats m ρ 0 c).before (2 : Fin 6) t0_0 d = stg2 m c := by
  unfold Dat.before; rw [if_pos (fetch0_2 t0_0)]; rfl
theorem before_3 (c : Dev nD) (d) : (dats m ρ 0 c).before (3 : Fin 6) t0_0 d = stg3 m c := by
  unfold Dat.before; rw [if_pos (fetch0_3 t0_0)]; rfl
theorem before_4 (c : Dev nD) (d) : (dats m ρ 0 c).before (4 : Fin 6) t0_0 d = stg4 m c := by
  unfold Dat.before; rw [if_pos (fetch0_4 t0_0)]; rfl

theorem sound_body (c : Dev nD) : bodyPre m ρ c ⊢ WP c (onArgs (cc0__body (F := F))) (fun _ => bodyPost m ρ c) := by
  unfold bodyPre Φ₀ start
  iintro ⟨⟨⟨⟨%K, #HC⟩, ⟨HM4, HM5, HM7⟩, ⟨HC0, HC1, HC2, HC3⟩, HG, HD⟩, HS⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  rw [before_0] at hg0; rw [before_1] at hg1; rw [before_2] at hg2; rw [before_3] at hg3; rw [before_4] at hg4
  subst hg0; subst hg1; subst hg2; subst hg3; subst hg4
  iapply (wp_end c)
  iapply (run_parts (m := m) c K)
  isplitr [HD]
  · isplitr; · iexact HC
    isplitl [H0 H1 H2 H3 H4]
    · unfold stagedIn
      isplitl [H0]; · iexact H0
      isplitl [H1]; · iexact H1
      isplitl [H2]; · iexact H2
      isplitl [H3]; · iexact H3
      iexact H4
    isplitl [H5]; · iexists g5; iexact H5
    isplitl [HM4 HM5 HM7 HC0 HC1 HC2 HC3]
    · unfold rawIn
      isplitl [HM4]; · iexact HM4
      isplitl [HM5]; · iexact HM5
      isplitl [HM7]; · iexact HM7
      isplitl [HC0]; · iexact HC0
      isplitl [HC1]; · iexact HC1
      isplitl [HC2]; · iexact HC2
      iexact HC3
    isplitl [HS]; · iexact HS
    isplitl [HG]; · iexact HG
    unfold Dat.owesAt Pipeline.owesWithin OW
    icases Ho with ⟨%W, -, Ho⟩
    iexists W; iexact Ho
  unfold stagedIn rawIn
  iintro ⟨⟨H0, H1, H2, H3, H4⟩, H5, ⟨HM4, HM5, HM7, HC0, HC1, HC2, HC3⟩, HS, HG, HO⟩
  imod (close_all m c K) $$ [HD HG] with HZ
  · isplitr; · iexact HC
    isplitl [HD] <;> iassumption
  imodintro
  unfold bodyPost Φ₁
  isplitl [HZ HC0 HC1 HC2 HC3 HM4 HM5 HM7 HS]
  · isplitl [HZ]; · iexact HZ
    isplitl [HC0 HC1 HC2 HC3]
    · isplitl [HC0]; · iexact HC0
      isplitl [HC1]; · iexact HC1
      isplitl [HC2] <;> iassumption
    isplitl [HM4 HM5 HM7]
    · isplitl [HM4]; · iexact HM4
      isplitl [HM5] <;> iassumption
    iexact HS
  isplitl [HO]
  · unfold Dat.owesAt Pipeline.owesWithin OW
    icases HO with ⟨%W, HO⟩
    iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 16384 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KProof
-- ==== Proof.Launch.lean ====
module

public import proofs.«01_k».proof.Proof.Body
public import Idealize.ShloMosaic.Lib.Pipeline.CollectiveSegs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

/-! ## The launch's semaphores, cells and tokens -/

/-- The kernel's own semaphores: the transfers' send and receive semaphores, and the local copies' four. -/
abbrev OI : Type := (Bool × Fin 5 × Fin 4) ⊕ Fin 4
def osem : OI → SemLoc sig
  | .inl k => csem (some k)
  | .inr i => .dma (cpyS i)

theorem ownSemFacts : Pipeline.OwnSemFacts cfg0.spec osem := by decide +kernel

theorem share_eq (c : Dev nD) (w : Fin cfg0.W) : (dats m ρ 0 c).share w = fullShare := by unfold Dat.share; split <;> rfl

def cellAt : Dev nD × CI → GSem nD τ sig := fun p => kcell p.1 p.2
theorem cellAt_injective : Function.Injective cellAt := fun a b h => by
  obtain ⟨h1, h2⟩ := kcell_inj h
  exact Prod.ext h1 h2
def allCells : Finset (GSem nD τ sig) := Finset.univ.map ⟨cellAt, cellAt_injective⟩

/-- A device's duty tokens: its barrier cell's four, and each transfer cell's one. -/
abbrev TI : Type := Fin 4 ⊕ ((Fin 5 × Fin 4) ⊕ (Fin 5 × Fin 4))
def tokI : TI → CI × Fin 4
  | .inl d => (none, d)
  | .inr (.inl x) => (some (false, x.1, x.2), 0)
  | .inr (.inr x) => (some (true, x.1, x.2), 0)
theorem tokI_injective : Function.Injective tokI := by decide +kernel
def tokAt : Dev nD × TI → GSem nD τ sig × ℕ × Fin 4 := fun p => (kcell p.1 (tokI p.2).1, 0, (tokI p.2).2)
theorem tokAt_injective : Function.Injective tokAt := fun a b h => by
  obtain ⟨h1, h2⟩ := kcell_inj (congrArg (fun x : GSem nD τ sig × ℕ × Fin 4 => x.1) h)
  have h3 : (tokI a.2).2 = (tokI b.2).2 := congrArg (fun x : GSem nD τ sig × ℕ × Fin 4 => x.2.2) h
  exact Prod.ext h1 (tokI_injective (Prod.ext h2 h3))
def allToks : Finset (GSem nD τ sig × ℕ × Fin 4) := Finset.univ.map ⟨tokAt, tokAt_injective⟩

def u₀ : UU :=
  (initOf (Pipeline.cells cfgs cellOf_inj) (Pipeline.launchToks cfgs cellOf_inj), (initOf allCells allToks, 1))

theorem cells_sep (Φ : GSem nD τ sig → sProp (MT nD τ sig Unit (Elt F) ℕ UU ℕ)) :
    bigSep allCells Φ = bigSep Finset.univ fun c : Dev nD => bigSep Finset.univ fun i : CI => Φ (kcell c i) := by
  unfold allCells; rw [bigSep_map, bigSep_univ_prod]; rfl
theorem toks_sep : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [BI.bigSep_univ_sum, BI.bigSep_univ_sum]; rfl

/-- What the launch's element gives a device: its cells' states, positions and marks, and the tokens of its own cells. -/
def G (c : Dev nD) : sProp (MT nD τ sig Unit (Elt F) ℕ UU ℕ) :=
  iprop((bigSep Finset.univ fun i : CI => roundState ER (Rd m) (kcell c i) 0)
    ∗ ((bigSep Finset.univ fun i : CI => atPos ER (kcell c i) 0 ∅ 0) ∗ bigSep Finset.univ fun i : CI => reached ER (kcell c i) 0) ∗ toks c)

theorem fund_cells : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (cells_sep fun g => roundState ER (Rd m) g 0)) $$ Hst
  ihave Hat' := (Entails.of_eq (cells_sep fun g => atPos ER g 0 ∅ 0)) $$ Hat
  ihave Hr' := (Entails.of_eq (cells_sep fun g => reached ER g 0)) $$ Hr
  ihave Htok' := (Entails.of_eq toks_sep) $$ Htok
  unfold G; simp only [bigSep_sep']
  isplitl [Hst']; · iexact Hst'
  isplitl [Hat' Hr']
  · isplitl [Hat'] <;> iassumption
  iexact Htok'

theorem ownU_cells (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The semaphores -/

abbrev idles (c : Dev nD) : sProp (MT nD τ sig Unit (Elt F) ℕ UU ℕ) := iprop(cIdle c 0 ∗ cIdle c 1 ∗ cIdle c 2 ∗ cIdle c 3)
abbrev ownS (c : Dev nD) : sProp (MT nD τ sig Unit (Elt F) ℕ UU ℕ) :=
  Pipeline.ownSems0 (Ix := Unit) (Name := ℕ) (U := UU) (Lvl := ℕ) (Val := Elt F) (τ := τ) osem c

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem ownS_eq (c : Dev nD) : (ownS c : sProp 𝕄)
    = iprop((bigSep Finset.univ fun k : Bool × Fin 5 × Fin 4 => semVal (kcell c (some k)) 0) ∗ idles c) := by
  unfold ownS Pipeline.ownSems0; rw [BI.bigSep_univ_sum, bigSep_fin4]; rfl
theorem unscopedS_eq (c : Dev nD) : (unscopedSems0 c : sProp 𝕄) = semVal (barCell c) 0 := by
  unfold unscopedSems0; rw [bigSep_eq_bigSepL_of_eq [SemLoc.reg barS] (by decide) (by decide)]; rfl
theorem cellsS_eq (c : Dev nD) : (bigSep Finset.univ fun i : CI => (semVal (kcell c i) 0 : sProp 𝕄))
    = iprop(semVal (barCell c) 0 ∗ bigSep Finset.univ fun k : Bool × Fin 5 × Fin 4 => semVal (kcell c (some k)) 0) := bigSep_opt _

theorem sems_in (c : Dev nD) : iprop(ownS c ∗ unscopedSems0 c) ⊢ iprop((bigSep Finset.univ fun i : CI => (semVal (kcell c i) 0 : sProp 𝕄)) ∗ idles c) := by
  rw [ownS_eq, unscopedS_eq, cellsS_eq]
  iintro ⟨⟨HS, HI⟩, HB⟩
  isplitl [HS HB]
  · isplitl [HB] <;> iassumption
  iexact HI
theorem sems_out (c : Dev nD) : iprop((bigSep Finset.univ fun i : CI => (semVal (kcell c i) 0 : sProp 𝕄)) ∗ idles c) ⊢ iprop(unscopedSems0 c ∗ ownS c) := by
  rw [ownS_eq, unscopedS_eq, cellsS_eq]
  iintro ⟨⟨HB, HS⟩, HI⟩
  isplitl [HB]; · iexact HB
  isplitl [HS] <;> iassumption

/-! ## The global step -/

/-- What every device knows, before the levels. -/
def records (K : Dev nD × CI → ℕ) : sProp (MT nD τ sig Unit (Elt F) ℕ UU ℕ) :=
  iprop(bigSep Finset.univ (fun p : Dev nD × CI => cellInv ER (Rd m) (K p) (kcell p.1 p.2))
    ∗ bigSep Finset.univ (fun p : Dev nD × CI => reached ER (kcell p.1 p.2) 0))
instance records_persistent (K : Dev nD × CI → ℕ) : BI.Persistent (records (F := F) m K) := by unfold records; infer_instance

/-- What stays with the device: its positions, the tokens it spends, its copies' semaphores. -/
def keeps (c : Dev nD) : sProp (MT nD τ sig Unit (Elt F) ℕ UU ℕ) :=
  iprop((bigSep Finset.univ fun i : CI => atPos ER (kcell c i) 0 ∅ 0) ∗ idles c ∗ payToks c)
def G' (c : Dev nD) : sProp (MT nD τ sig Unit (Elt F) ℕ UU ℕ) := iprop((∃ K, records m K) ∗ keeps c)

theorem cells_alloc (c : Dev nD) : iprop((bigSep Finset.univ fun i : CI => semVal (kcell c i) 0) ∗ bigSep Finset.univ fun i : CI => roundState ER (Rd m) (kcell c i) 0)
    ⊢ (|={Set.univ}=> bigSep Finset.univ fun i : CI => iprop(∃ κ : ℕ, cellInv ER (Rd m) κ (kcell c i)) : sProp 𝕄) := by
  rw [← bigSep_sep']
  exact (bigSep_mono fun i _ => (Rounds.body_intro ER (Rd m) (kcell c i)).trans inv_alloc).trans (bigSep_fupd _ _)

theorem device_alloc (c : Dev nD) : iprop(ownS c ∗ unscopedSems0 c ∗ G m c)
    ⊢ |={Set.univ}=> iprop((bigSep Finset.univ fun i : CI => iprop(∃ κ : ℕ, cellInv ER (Rd m) κ (kcell c i)))
        ∗ (bigSep Finset.univ fun i : CI => reached ER (kcell c i) 0)
        ∗ ((bigSep Finset.univ fun i : CI => atPos ER (kcell c i) 0 ∅ 0) ∗ idles c) ∗ toks c) := by
  unfold G
  iintro ⟨Hos, Hus, Hst, ⟨Hat, Hr⟩, Htok⟩
  ihave Hv := (sems_in (F := F) c) $$ [Hos Hus]
  · isplitl [Hos] <;> iassumption
  icases Hv with ⟨Hv, HI⟩
  imod (cells_alloc m c) $$ [Hv Hst] with Hinv
  · isplitl [Hv] <;> iassumption
  imodintro
  isplitl [Hinv]; · iexact Hinv
  isplitl [Hr]; · iexact Hr
  isplitl [Hat HI]
  · isplitl [Hat] <;> iassumption
  iexact Htok

theorem g_intro (K : Dev nD × CI → ℕ) (c : Dev nD) : iprop(records m K ∗ keeps c) ⊢ G' m c := by
  unfold G'
  iintro ⟨HR, HK⟩
  isplitl [HR]; · iexists K; iexact HR
  iexact HK

theorem deal : (bigSep Finset.univ fun c : Dev nD => iprop((bigSep Finset.univ fun i : CI => iprop(∃ κ : ℕ, cellInv ER (Rd m) κ (kcell c i)))
        ∗ (bigSep Finset.univ fun i : CI => reached ER (kcell c i) 0)
        ∗ ((bigSep Finset.univ fun i : CI => atPos ER (kcell c i) 0 ∅ 0) ∗ idles c) ∗ toks c) : sProp 𝕄)
    ⊢ bigSep Finset.univ (G' m) := by
  rw [bigSep_sep', bigSep_sep', bigSep_sep', ← bigSep_univ_prod (fun p : Dev nD × CI => iprop(∃ κ : ℕ, cellInv ER (Rd m) κ (kcell p.1 p.2))),
    ← bigSep_univ_prod (fun p : Dev nD × CI => (reached ER (kcell p.1 p.2) 0 : sProp 𝕄)), toks_deal]
  iintro ⟨HI, #HR, Hk, Htok⟩
  ihave HK := (BI.bigSep_exists_pi Finset.univ (fun (p : Dev nD × CI) (κ : ℕ) => (cellInv ER (Rd m) κ (kcell p.1 p.2) : sProp 𝕄))) $$ HI
  icases HK with ⟨%K, #HI⟩
  iapply (bigSep_with_persistent (R := records m K) fun c _ => g_intro m K c)
  isplitr
  · unfold records; isplitl; · iexact HI
    iexact HR
  · iapply ((Entails.of_eq (bigSep_sep' Finset.univ (fun c : Dev nD => iprop((bigSep Finset.univ fun i : CI => (atPos ER (kcell c i) 0 ∅ 0 : sProp 𝕄)) ∗ idles c)) payToks).symm).trans
      (bigSep_mono fun c _ => show _ ⊢ keeps c by
        unfold keeps
        iintro ⟨⟨H1, H2⟩, H3⟩
        isplitl [H1]; · iexact H1
        isplitl [H2] <;> iassumption))
    isplitl [Hk] <;> iassumption

theorem glob : (bigSep Finset.univ fun c => iprop(ownS c ∗ unscopedSems0 c ∗ G m c) : sProp 𝕄) ⊢ |={Set.univ}=> bigSep Finset.univ (G' m) :=
  ((bigSep_mono fun c _ => device_alloc m c).trans (bigSep_fupd _ _)).trans (BI.fupd_mono (deal m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => Ow d 18) c ∗ prngReg c (ρ c) ∗ G' m c)
      ⊢ |={Set.univ}=> iprop(start m c ∗ emp) := by
  rw [Pipeline.unscopedRestP_none, unscopedRest0_eq]
  unfold G' keeps
  iintro ⟨⟨H4, H5, H7⟩, #Hlev, Hcr, -, ⟨%K, HR⟩, HP, HI, HT⟩
  ihave Hc := (creds (F := F) c) $$ Hcr
  ihave Hp := (pos_split (F := F) c) $$ HP
  icases Hp with ⟨HD, HU⟩
  ihave Ht := (toks_used (F := F) c) $$ HT
  imodintro
  unfold start
  isplitl
  · isplitl [HR]
    · iexists K
      unfold ctx records
      icases HR with ⟨H1, H2⟩
      isplitl [H1]; · iexact H1
      isplitl [H2]; · iexact H2
      iexact Hlev
    isplitl [H4 H5 H7]
    · isplitl [H4]; · iexact H4
      isplitl [H5]; · iexact H5
      iexact H7
    isplitl [HI]; · iexact HI
    isplitl [HU Ht Hc]
    · iapply (ghost_in c)
      isplitl [HU]; · iexact HU
      isplitl [Ht]; · iexact Ht
      iexact Hc
    iexact HD
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratchAny
  iintro ⟨Hs, -, Hr⟩
  isplitl [Hs]; · iexact Hs
  iapply (Entails.of_eq (scopedRest0_eq c))
  iexact Hr

/-- What is read of a device's end: its unscoped semaphores, and the arrays no window covers. -/
def atEnd (c : Dev nD) : sProp (MT nD τ sig Unit (Elt F) ℕ UU ℕ) :=
  iprop(unscopedSems0 c ∗ bufP c main_arg4 (wqM m c) ∗ bufP c main_arg5 (wqrM m c) ∗ bufP c main_arg7 (woM m c))

theorem phi1_exit (c : Dev nD) :
    (dats m ρ 0 c).Φ (Fin.last cfg0.N) ⊢ iprop(atEnd m c ∗ ownS c ∗ Pipeline.scopedRest cfg0.spec c) := by
  rw [show (dats m ρ 0 c).Φ (Fin.last cfg0.N) = Φ₁ m c from rfl]
  unfold Φ₁ atEnd scratchAny
  iintro ⟨HZ, HI, HM, HS⟩
  ihave Hz := (sems_out (F := F) c) $$ [HZ HI]
  · isplitl [HZ]; · iexact HZ
    iexact HI
  icases Hz with ⟨HU, HO⟩
  isplitl [HU HM]
  · isplitl [HU]; · iexact HU
    iexact HM
  isplitl [HO]; · iexact HO
  iapply (Entails.of_eq (scopedRest0_eq c).symm)
  iexact HS

theorem waits (c : Dev nD) : (levAts L lv : sProp 𝕄) ⊢ Pipeline.cellsWaits cfgs (dats m ρ) () 0 c :=
  Pipeline.cellsWaits_intro cfgs (dats m ρ) () 0 c fun w s t => by
    have hd : ∀ (w : Fin 6) (s : Fin (spec0 w).nbuf), lvI (deco (.dma ((spec0 w).sem s))) = 0 := by decide +kernel
    have hp : ∀ i, 0 < oblL i := fun i => by unfold oblL; split; · decide
                                             split <;> decide
    rcases t with ⟨_ | _, ht⟩
    · exact mayWait_Ow c _ 18 (le_refl _) fun i _ => by rw [hd w s]; exact hp i
    · exact mayWait_Ow c _ 0 (by decide) fun i hi => absurd hi (Nat.not_lt_zero i)

/-! ## The run -/

/-- The arrays no window covers, after the run. -/
def QY (c : Dev nD) (s : MemSt nD τ sig (Elt F)) : Prop :=
  (s.mem ((c : Thread nD τ).loc main_arg4) = m ((c : Thread nD τ).loc main_arg4) ∧ s.mem ((c : Thread nD τ).loc main_arg5) = m ((c : Thread nD τ).loc main_arg5)
    ∧ s.mem ((c : Thread nD τ).loc main_arg7) = m ((c : Thread nD τ).loc main_arg7))
  ∧ ∀ sm : SemLoc sig, sm.isScoped .tc = false → s.sem ((c.tc : Thread nD τ), sm) = 0

theorem read_buf {c : Dev nD} {b : Ref sig .tc} {f : Buf (Elt F) ((c : Thread nD τ).loc b)} {s : Phys nD τ sig (Elt F)} :
    iprop(bufP c b f ∗ SI s) ⊢ (⌜s.mem.mem ((c : Thread nD τ).loc b) = f⌝ : sProp 𝕄) :=
  sep_symm.trans <| SI_pointsTo_agree.trans (BI.pure_mono fun h => funext fun i => h i (Finset.mem_univ i))

theorem end_read (c : Dev nD) (s' : Phys nD τ sig (Elt F)) : iprop(atEnd m c ∗ emp ∗ SI s') ⊢ |={Set.univ}=> iprop(⌜QY m c s'.mem⌝ ∗ SI s') := by
  unfold atEnd
  iintro ⟨⟨Hu, H4, H5, H7⟩, -, HSI⟩
  ihave %h4 := (read_buf (F := F)) $$ [H4 HSI]
  · isplitl [H4] <;> iassumption
  ihave %h5 := (read_buf (F := F)) $$ [H5 HSI]
  · isplitl [H5] <;> iassumption
  ihave %h7 := (read_buf (F := F)) $$ [H7 HSI]
  · isplitl [H7] <;> iassumption
  imod (Pipeline.unscopedSems0_read (X := unscopedSems0 c) (c := c) fupd_intro s') $$ [Hu HSI] with ⟨%hs, HSI⟩
  · isplitl [Hu] <;> iassumption
  imodintro
  isplitr; · (ipureintro; exact ⟨⟨h4, h5, h7⟩, hs⟩)
  iexact HSI

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ QY m c r.2

/-- From any memory with zero semaphores, for any float values: every fair execution on the sixteen devices terminates,
    every array a window covers at its computed contents, the others unchanged, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ow d 18) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_cells _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := phi0_intro m ρ) (hout := phi1_exit m ρ)
    (QY := QY m) (hY := end_read m)
    (hQ := fun _ h hs => ⟨fun c => ⟨(h c).1, (h c).2.2⟩, sem_eq_zero hs fun c => (h c).2.2.2⟩)

theorem finalA_in (c : Dev nD) (w : Fin 6) (hw : w ≠ 5) : finalA m ρ c w = (s₀ m ρ).mem ((cfg0.win w).arr.view.loc (c : Thread nD τ)) := by
  unfold finalA
  fin_cases w
  · exact (dats (F := F) m ρ 0 c).arrAt_in (0 : Fin 6) rfl _
  · exact (dats (F := F) m ρ 0 c).arrAt_in (1 : Fin 6) rfl _
  · exact (dats (F := F) m ρ 0 c).arrAt_in (2 : Fin 6) rfl _
  · exact (dats (F := F) m ρ 0 c).arrAt_in (3 : Fin 6) rfl _
  · exact (dats (F := F) m ρ 0 c).arrAt_in (4 : Fin 6) rfl _
  · exact absurd rfl hw

end Cert.KProof
-- ==== Proof.Frames.lean ====
/-
  The three frames: the kernel's for any float values, taken at words and at extended reals, and the reference's.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-! ## The frames -/

/-- After the run every argument array is as it was. -/
theorem args_of_QC {m : (ℓ : Loc nD τ sig) → Buf (Elt F) ℓ} {ρ : Dev nD → PrngReg} {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).1 0).trans (finalA_in m ρ c 0 (by decide)), ((h c).1 1).trans (finalA_in m ρ c 1 (by decide)),
    ((h c).1 2).trans (finalA_in m ρ c 2 (by decide)), ((h c).1 3).trans (finalA_in m ρ c 3 (by decide)),
    (h c).2.1.1, (h c).2.1.2.1, ((h c).1 4).trans (finalA_in m ρ c 4 (by decide)), (h c).2.1.2.2⟩

/-- The run, for any float values: the arguments as they were, the result computed, the semaphores at zero. -/
theorem run_end (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_of_QC h.1 c, h.2⟩) (run_main m ρ)

theorem frame_kernelIdeal : Cert.quiescent_KernelIdeal := fun m ρ _ => run_end (F := Ideal) m ρ

/-- Every name read as the word it stands beside. -/
@[reducible] def wordNamed (F : FTy → Type) [FloatOps F] : Named F := ⟨fun _ _ _ b => Scalar.ofBits _ b⟩

/-- With names read as their words the idealized kernel is the kernel: the body tables agree label by label. -/
theorem defs₀_eq {F : FTy → Type} [FloatOps F] :
    Cert.Kernel.defs₀ (F := F) = @Cert.KernelIdeal.defs₀ F _ (wordNamed F) _ := by
  funext p
  cases p with
  | tc =>
    funext l a
    obtain ⟨l, hl⟩ := l
    cases l with
    | zero => obtain ⟨t, s⟩ := a; rfl
    | succ l => exact absurd hl (Nat.not_lt.2 (Nat.le_add_left _ _))
  | _ => rfl
theorem defs_eq {F : FTy → Type} [FloatOps F] : Cert.Kernel.defs (F := F) = @Cert.KernelIdeal.defs F _ (wordNamed F) _ :=
  congrArg (Idealize.ShloMosaic.Pipeline.defs Cert.KernelIdeal.pcfgs) defs₀_eq

theorem frame_kernel : Cert.quiescent_Kernel := fun m ρ _ => by
  rw [defs_eq]
  letI := wordNamed Bits
  exact run_end (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof
-- ==== Proof.ValueEnds.lean ====
/-
  Both ends of the kernel's data: a staged input is the whole argument, and the array of the result ends at the
  last accumulator.
-/
module

public import proofs.«01_k».proof.Proof.Launch

@[expose] public section

set_option maxRecDepth 16384

noncomputable section

namespace Cert.KProof

open Cert.KernelIdeal Cert.KernelIdeal.Gen
open Idealize.ShloMosaic Idealize.ShloMosaic.TcCoe

variable {F : FTy → Type} [FloatOps F] [Named F]
variable (m : (ℓ : Loc nD τ sig) → Buf (Elt F) ℓ) (ρ : Dev nD → PrngReg)

/-! The one block of a window over a whole array is the array. -/

theorem emb0 (x : S1x1024x2048.Idx) : (win0_0.blk (0 : Fin 1)).view.emb x = x := by
  funext a; fin_cases a <;> refine Fin.ext ?_
  · show 0 * 1 + 1 * (x 0).val = (x 0).val; omega
  · show 0 * 1024 + 1 * (x 1).val = (x 1).val; omega
  · show 0 * 2048 + 1 * (x 2).val = (x 2).val; omega
theorem emb1 (x : S2048x128.Idx) : (win0_1.blk (0 : Fin 1)).view.emb x = x := by
  funext a; fin_cases a <;> refine Fin.ext ?_
  · show 0 * 2048 + 1 * (x 0).val = (x 0).val; omega
  · show 0 * 128 + 1 * (x 1).val = (x 1).val; omega
theorem emb2 (x : S128x2048.Idx) : (win0_2.blk (0 : Fin 1)).view.emb x = x := by
  funext a; fin_cases a <;> refine Fin.ext ?_
  · show 0 * 128 + 1 * (x 0).val = (x 0).val; omega
  · show 0 * 2048 + 1 * (x 1).val = (x 1).val; omega
theorem emb3 (x : S128x2048.Idx) : (win0_3.blk (0 : Fin 1)).view.emb x = x := by
  funext a; fin_cases a <;> refine Fin.ext ?_
  · show 0 * 128 + 1 * (x 0).val = (x 0).val; omega
  · show 0 * 2048 + 1 * (x 1).val = (x 1).val; omega
theorem emb4 (x : S2048x32.Idx) : (win0_4.blk (0 : Fin 1)).view.emb x = x := by
  funext a; fin_cases a <;> refine Fin.ext ?_
  · show 0 * 2048 + 1 * (x 0).val = (x 0).val; omega
  · show 0 * 32 + 1 * (x 1).val = (x 1).val; omega
theorem emb5 (x : S1024x2048.Idx) : (win0_5.blk (0 : Fin 1)).view.emb x = x := by
  funext a; fin_cases a <;> refine Fin.ext ?_
  · show 0 * 1024 + 1 * (x 0).val = (x 0).val; omega
  · show 0 * 2048 + 1 * (x 1).val = (x 1).val; omega

theorem stg0_eq (c : Dev nD) : stg0 m c = m ((c : Thread nD τ).loc main_arg0) := by
  funext x
  exact congrArg (m ((c : Thread nD τ).loc main_arg0)) (emb0 x)
theorem stg1_eq (c : Dev nD) : stg1 m c = m ((c : Thread nD τ).loc main_arg1) := by
  funext x
  exact congrArg (m ((c : Thread nD τ).loc main_arg1)) (emb1 x)
theorem stg2_eq (c : Dev nD) : stg2 m c = m ((c : Thread nD τ).loc main_arg2) := by
  funext x
  exact congrArg (m ((c : Thread nD τ).loc main_arg2)) (emb2 x)
theorem stg3_eq (c : Dev nD) : stg3 m c = m ((c : Thread nD τ).loc main_arg3) := by
  funext x
  exact congrArg (m ((c : Thread nD τ).loc main_arg3)) (emb3 x)
theorem stg4_eq (c : Dev nD) : stg4 m c = m ((c : Thread nD τ).loc main_arg6) := by
  funext x
  exact congrArg (m ((c : Thread nD τ).loc main_arg6)) (emb4 x)

/-- The result's array after the run is the last accumulator. -/
theorem finalA_out (c : Dev nD) : finalA m ρ c (5 : Fin 6) = oA7 m c := by
  refine (dats (F := F) m ρ 0 c).arrAt_eq_of_cover (5 : Fin 6) (oA7 m c) (fun t ht => ?_) fun i => ⟨t0_0, flush0_5 t0_0, ?_⟩
  · have ht0 : t = t0_0 := by revert t; decide
    subst ht0
    funext x
    exact (congrArg (oA7 m c) (emb5 x)).symm
  · have h := View.emb_mem_set (win0_5.blk (0 : Fin 1)).view i
    rwa [emb5] at h

end Cert.KProof

end
-- ==== Proof.ValueMath.lean ====
/-
  Extended-real arithmetic of the attention: finite values are closed under sums and products, a finite
  non-negative factor goes in and out of a sum, and the softmax does not depend on what is subtracted.
-/
module

public import Idealize.ShloMosaic.Lib.Pointwise

@[expose] public section

noncomputable section

namespace Cert.KMath

open Idealize.ShloMosaic

/-! ## Finite values -/

/-- A finite value. -/
def IsR (a : EReal) : Prop := ∃ r : ℝ, a = (r : EReal)

theorem IsR.add {a b : EReal} (ha : IsR a) (hb : IsR b) : IsR (a + b) := by
  obtain ⟨r, rfl⟩ := ha
  obtain ⟨s, rfl⟩ := hb
  exact ⟨r + s, (EReal.coe_add r s).symm⟩
theorem IsR.mul {a b : EReal} (ha : IsR a) (hb : IsR b) : IsR (a * b) := by
  obtain ⟨r, rfl⟩ := ha
  obtain ⟨s, rfl⟩ := hb
  exact ⟨r * s, (EReal.coe_mul r s).symm⟩
theorem IsR.sum {ι : Type} (s : Finset ι) (f : ι → EReal) (h : ∀ i, IsR (f i)) : IsR (∑ i ∈ s, f i) :=
  Finset.sum_induction f IsR (fun _ _ => IsR.add) ⟨0, EReal.coe_zero.symm⟩ fun i _ => h i
theorem isR_iff {a : EReal} : IsR a ↔ a ≠ ⊤ ∧ a ≠ ⊥ := by
  constructor
  · rintro ⟨r, rfl⟩; exact ⟨EReal.coe_ne_top r, EReal.coe_ne_bot r⟩
  · rintro ⟨h1, h2⟩; exact ⟨a.toReal, (EReal.coe_toReal h1 h2).symm⟩
/-- A value whose magnitude is below infinity is finite. -/
theorem isR_of_abs {a : EReal} (h : max a (-a) < ⊤) : IsR a := by
  refine isR_iff.2 ⟨fun e => ?_, fun e => ?_⟩
  · subst e; exact absurd h (not_lt.2 (le_max_left _ _))
  · subst e; exact absurd h (not_lt.2 (by rw [EReal.neg_bot]; exact le_max_right _ _))

/-- A finite sum of finite values, in the reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A maximum of finitely many finite values, at least one, is finite. -/
theorem isR_fold_max {ι : Type} [Fintype ι] [Nonempty ι] (f : ι → EReal) (h : ∀ i, IsR (f i)) :
    IsR ((Finset.univ : Finset ι).fold max ⊥ f) := by
  refine isR_iff.2 ⟨fun e => ?_, fun e => ?_⟩
  · have : (Finset.univ : Finset ι).fold max ⊥ f < ⊤ :=
      Finset.fold_max_lt _ |>.2 ⟨bot_lt_top, fun i _ => lt_top_iff_ne_top.2 (isR_iff.1 (h i)).1⟩
    exact absurd e this.ne
  · obtain ⟨i⟩ := ‹Nonempty ι›
    have : f i ≤ (Finset.univ : Finset ι).fold max ⊥ f := Finset.le_fold_max _ |>.2 (Or.inr ⟨i, Finset.mem_univ i, le_refl _⟩)
    rw [e] at this
    exact (isR_iff.1 (h i)).2 (le_bot_iff.1 this)

/-! ## A factor and a sum -/

theorem sum_mul_fac {ι : Type} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih =>
    rw [Finset.sum_insert hi, Finset.sum_insert hi, EReal.right_distrib_of_nonneg_of_ne_top h0 ht, ih]

/-- Scaling the left factors of two contractions scales their sum. -/
theorem scaled_sum {ι κ : Type} [Fintype ι] [Fintype κ] (q k : ι → EReal) (r g : κ → EReal) {a : EReal} (h0 : 0 ≤ a) (ht : a ≠ ⊤) :
    (∑ d, q d * a * k d) + ∑ e, r e * a * g e = ((∑ d, q d * k d) + ∑ e, r e * g e) * a := by
  rw [EReal.right_distrib_of_nonneg_of_ne_top h0 ht, sum_mul_fac _ _ h0 ht, sum_mul_fac _ _ h0 ht]
  congr 1
  · exact Finset.sum_congr rfl fun d _ => by rw [mul_assoc, mul_assoc, mul_comm a]
  · exact Finset.sum_congr rfl fun d _ => by rw [mul_assoc, mul_assoc, mul_comm a]

/-! ## The softmax -/

/-- The weighted sum over the sum of the weights, whatever finite value `M` the finite exponents are taken less. -/
theorem softmax {ι : Type} [Fintype ι] [Nonempty ι] (s v : ι → EReal) (M : EReal) (hs : ∀ t, IsR (s t)) (hM : IsR M) :
    (∑ t, v t * Ideal.div (Ideal.exp (s t - M)) (∑ t', Ideal.exp (s t' - M))) =
      Ideal.div (∑ t, Ideal.exp (s t) * v t) (∑ t, Ideal.exp (s t)) := by
  choose x hx using hs
  obtain ⟨y, rfl⟩ := hM
  have e1 : ∀ t, Ideal.exp (s t - (y : EReal)) = ((Real.exp (x t) * Real.exp (-y) : ℝ) : EReal) := fun t => by
    rw [hx t, ← EReal.coe_sub, sub_eq_add_neg, ← Real.exp_add]; rfl
  have e2 : ∀ t, Ideal.exp (s t) = ((Real.exp (x t) : ℝ) : EReal) := fun t => by rw [hx t]; rfl
  have hz : (0 : ℝ) < ∑ t, Real.exp (x t) := Finset.sum_pos (fun t _ => Real.exp_pos _) Finset.univ_nonempty
  have hy : (0 : ℝ) < Real.exp (-y) := Real.exp_pos _
  simp only [e1, e2]
  rw [← coe_sum, ← coe_sum, ← Finset.sum_mul]
  have n1 : ((∑ t, Real.exp (x t) : ℝ) : EReal) ≠ 0 := fun h => hz.ne' (EReal.coe_eq_zero.1 h)
  have n2 : (((∑ t, Real.exp (x t)) * Real.exp (-y) : ℝ) : EReal) ≠ 0 := fun h => (mul_pos hz hy).ne' (EReal.coe_eq_zero.1 h)
  unfold Ideal.div
  rw [if_neg n1]
  have e3 : ∀ t, v t * (if (((∑ t, Real.exp (x t)) * Real.exp (-y) : ℝ) : EReal) = 0 then
        (if 0 < ((Real.exp (x t) * Real.exp (-y) : ℝ) : EReal) then ⊤ else ⊥)
        else ((Real.exp (x t) * Real.exp (-y) : ℝ) : EReal) * (((∑ t, Real.exp (x t)) * Real.exp (-y) : ℝ) : EReal)⁻¹) =
      ((Real.exp (x t) : ℝ) : EReal) * v t * ((∑ t, Real.exp (x t) : ℝ) : EReal)⁻¹ := fun t => by
    rw [if_neg n2, mul_comm ((Real.exp (x t) : ℝ) : EReal) (v t), mul_assoc, ← EReal.coe_inv, ← EReal.coe_inv, ← EReal.coe_mul, ← EReal.coe_mul]
    refine congrArg (fun r : ℝ => v t * (r : EReal)) ?_
    rw [mul_inv, mul_assoc, mul_comm (∑ t, Real.exp (x t))⁻¹, ← mul_assoc (Real.exp (-y)), mul_inv_cancel₀ hy.ne', one_mul]
  rw [Finset.sum_congr rfl fun t _ => e3 t]
  refine (sum_mul_fac _ _ ?_ ?_).symm
  · rw [← EReal.coe_inv]; exact EReal.coe_nonneg.2 (inv_nonneg.2 hz.le)
  · rw [← EReal.coe_inv]; exact EReal.coe_ne_top _

/-! ## Three constants -/

theorem negInf_eq : Ideal.ofBits .f32 0xFF800000#32 = ⊥ := by
  show Ideal.ieee 8 23 (0xFF800000#32 : BitVec 32) = ⊥
  simp [Ideal.ieee]
theorem posInf_eq : Ideal.ofBits .f32 0x7F800000#32 = ⊤ := by
  show Ideal.ieee 8 23 (0x7F800000#32 : BitVec 32) = ⊤
  simp [Ideal.ieee]
theorem one_eq : Ideal.ofBits .f32 0x3F800000#32 = ((1 : ℝ) : EReal) := by
  show Ideal.ieee 8 23 (0x3F800000#32 : BitVec 32) = ((1 : ℝ) : EReal)
  have h : (1 : ℝ) = 8388608 * (2 ^ 23)⁻¹ := by norm_num
  rw [h, EReal.coe_mul]
  simp [Ideal.ieee]
/-- A head's width and its rotary width together. -/
theorem width_eq : Ideal.ofBits .f32 0x43200000#32 = ((160 : ℝ) : EReal) := by
  show Ideal.ieee 8 23 (0x43200000#32 : BitVec 32) = ((160 : ℝ) : EReal)
  have h : (160 : ℝ) = 10485760 * (2 ^ 16)⁻¹ := by norm_num
  rw [h, EReal.coe_mul]
  simp [Ideal.ieee]

/-! ## Sums cut in blocks -/

theorem sum_blocks (J K : ℕ) {M : Type} [AddCommMonoid M] (f : Fin (J * K) → M) :
    ∑ u, f u = ∑ j : Fin J, ∑ k : Fin K, f ⟨j.val * K + k.val, by
      have h1 := j.isLt; have h2 := k.isLt
      calc j.val * K + k.val < j.val * K + K := by omega
        _ = (j.val + 1) * K := by ring
        _ ≤ J * K := Nat.mul_le_mul_right _ h1⟩ := by
  rw [← Fintype.sum_prod_type']
  refine (Fintype.sum_equiv finProdFinEquiv _ _ fun p => congrArg f (Fin.ext ?_)).symm
  show p.1.val * K + p.2.val = p.2.val + K * p.1.val
  ring

/-- Four blocks from any first one on, wrapping round. -/
theorem sum_rot {M : Type} [AddCommMonoid M] (z : Fin 4) (f : Fin 4 → M) :
    f z + f (z + 1) + f (z + 2) + f (z + 3) = ∑ j, f j := by
  rw [Fin.sum_univ_four]
  fin_cases z
  · rfl
  · show f 1 + f 2 + f 3 + f 0 = _; abel
  · show f 2 + f 3 + f 0 + f 1 = _; abel
  · show f 3 + f 0 + f 1 + f 2 = _; abel

/-- Eight half-blocks the same way. -/
theorem sum_rot2 {M : Type} [AddCommMonoid M] (z : Fin 4) (f : Fin 4 → Fin 2 → M) :
    f z 0 + f z 1 + f (z + 1) 0 + f (z + 1) 1 + f (z + 2) 0 + f (z + 2) 1 + f (z + 3) 0 + f (z + 3) 1 = ∑ j, ∑ h, f j h := by
  rw [← sum_rot z fun j => ∑ h, f j h]
  simp only [Fin.sum_univ_two]
  abel

end Cert.KMath

end
-- ==== Proof.ValueSpec.lean ====
/-
  The attention written over the whole arrays: the function both programs compute.
-/
module

public import proofs.«01_k».proof.Proof.ValueMath

@[expose] public section

noncomputable section

namespace Cert.KMath

open Idealize.ShloMosaic

/-- The factor the scores are scaled by. -/
def sc : EReal := (((Real.sqrt 160)⁻¹ : ℝ) : EReal)

theorem sc_real : IsR sc := ⟨_, rfl⟩
theorem sc_nonneg : 0 ≤ sc := EReal.coe_nonneg.2 (inv_nonneg.2 (Real.sqrt_nonneg _))
/-- One over the root, as the reference takes it. -/
theorem sc_eq : Ideal.div (Ideal.ofBits .f32 0x3F800000#32) (Ideal.sqrt (Ideal.ofBits .f32 0x43200000#32)) = sc := by
  rw [one_eq, width_eq, Ideal.sqrt_coe, if_neg (by norm_num), Ideal.div_coe (Real.sqrt_ne_zero'.2 (by norm_num)), ← EReal.coe_mul, one_mul, one_div]
  rfl
theorem sc_ne_top : sc ≠ ⊤ := (isR_iff.1 sc_real).1

/-- A head's output: the values weighted by the exponentials of the scores, over the sum of those. -/
def attnOf (s : Fin 1024 → EReal) (v : Fin 1024 → EReal) : EReal :=
  Ideal.div (∑ t : Fin 1024, Ideal.exp (s t) * v t) (∑ t : Fin 1024, Ideal.exp (s t))

/-- A matrix product. -/
def mm {a b k : ℕ} (A : Fin a → Fin k → EReal) (B : Fin k → Fin b → EReal) (r : Fin a) (n : Fin b) : EReal := ∑ u : Fin k, A r u * B u n

theorem mm_real {a b k : ℕ} {A : Fin a → Fin k → EReal} {B : Fin k → Fin b → EReal} (hA : ∀ i j, IsR (A i j)) (hB : ∀ i j, IsR (B i j))
    (r : Fin a) (n : Fin b) : IsR (mm A B r n) := IsR.sum _ _ fun u => (hA r u).mul (hB u n)

section Spec
variable (X : Fin 1024 → Fin 2048 → EReal) (Wd : Fin 2048 → Fin 512 → EReal) (Wk Wv : Fin 512 → Fin 2048 → EReal)
  (Wq : Fin 2048 → Fin 2048 → EReal) (Wqr : Fin 2048 → Fin 512 → EReal) (Wkr : Fin 2048 → Fin 32 → EReal) (Wo : Fin 2048 → Fin 2048 → EReal)

/-- The score of row `r` against row `t` in head `h`. -/
def scoreS (h : Fin 16) (r t : Fin 1024) : EReal :=
  ((∑ d : Fin 128, mm X Wq r ⟨h.val * 128 + d.val, by omega⟩ * mm (mm X Wd) Wk t ⟨h.val * 128 + d.val, by omega⟩) +
    ∑ e : Fin 32, mm X Wqr r ⟨h.val * 32 + e.val, by omega⟩ * mm X Wkr t e) * sc
/-- The heads' outputs side by side. -/
def attnS (r : Fin 1024) (n : Fin 2048) : EReal :=
  attnOf (scoreS X Wd Wk Wq Wqr Wkr ⟨n.val / 128, by omega⟩ r) (fun t => mm (mm X Wd) Wv t n)
def outS (r : Fin 1024) (n : Fin 2048) : EReal := mm (attnS X Wd Wk Wv Wq Wqr Wkr) Wo r n

theorem scoreS_real (hX : ∀ i j, IsR (X i j)) (hd : ∀ i j, IsR (Wd i j)) (hk : ∀ i j, IsR (Wk i j)) (hq : ∀ i j, IsR (Wq i j))
    (hqr : ∀ i j, IsR (Wqr i j)) (hkr : ∀ i j, IsR (Wkr i j)) (h : Fin 16) (r t : Fin 1024) : IsR (scoreS X Wd Wk Wq Wqr Wkr h r t) :=
  ((IsR.sum _ _ fun _ => (mm_real hX hq _ _).mul (mm_real (mm_real hX hd) hk _ _)).add
    (IsR.sum _ _ fun _ => (mm_real hX hqr _ _).mul (mm_real hX hkr _ _))).mul sc_real
end Spec

end Cert.KMath

end
-- ==== Proof.ValuePay.lean ====
/-
  What each step of the kernel computes, read at one element of its result over the extended reals.
-/
module

public import proofs.«01_k».proof.Proof.Gen.KernelIdeal.Skeleton
public import proofs.«01_k».proof.Proof.ValueSpec

@[expose] public section

set_option maxRecDepth 16384

noncomputable section

namespace Cert.KProof

open Cert.KernelIdeal Cert.KernelIdeal.Gen
open Cert.KMath
open Idealize.ShloMosaic

theorem pay1_at (x : FVec Ideal S1x1024x2048 .f32) (t : Fin 1024) (k : Fin 2048) : k0_pay1 (F := Ideal) x (ix2 t k) = x (ix3 0 t k) := by
  pointwise [k0_pay1]
theorem pay2_at (w : FVec Ideal S128x2048 .f32) (t : Fin 128) (k : Fin 2048) : k0_pay2 (F := Ideal) w (ix2 t k) = w (ix2 t k) := by
  pointwise [k0_pay2]
theorem pay4_at (w : FVec Ideal S128x2048 .f32) (t : Fin 128) (k : Fin 2048) : k0_pay4 (F := Ideal) (k0_pay3 w) (ix2 t k) = w (ix2 t k) := by
  pointwise [k0_pay3, k0_pay4]
theorem pay7_at (x : FVec Ideal S1024x2048 .bf16) (w : FVec Ideal S2048x128 .f32) (t : Fin 1024) (l : Fin 128) :
    k0_pay7 x w (ix3 0 t l) = ∑ k : Fin 2048, x (ix2 t k) * w (ix2 k l) := by
  pointwise [k0_pay7]
theorem pay9_at (x : FVec Ideal S1024x2048 .bf16) (w : FVec Ideal S2048x512 .f32) (t : Fin 1024) (l : Fin 512) :
    k0_pay9 (k0_pay8 x w) (ix2 t l) = (∑ k : Fin 2048, x (ix2 t k) * w (ix2 k l)) * sc := by
  pointwise [k0_pay9, k0_pay8]
  rfl
theorem pay10_at (x : FVec Ideal S1024x2048 .bf16) (w : FVec Ideal S2048x128 .f32) (t : Fin 1024) (l : Fin 128) :
    k0_pay10 x w (ix2 t l) = (∑ k : Fin 2048, x (ix2 t k) * w (ix2 k l)) * sc := by
  pointwise [k0_pay10]
  rfl
theorem pay11_at (x : FVec Ideal S1024x2048 .bf16) (w : FVec Ideal S2048x32 .f32) (t : Fin 1024) (l : Fin 32) :
    k0_pay11 x w (ix2 t l) = ∑ k : Fin 2048, x (ix2 t k) * w (ix2 k l) := by
  pointwise [k0_pay11]
theorem pay12_at (a : FVec Ideal S1x1024x128 .bf16) (b : FVec Ideal S1x128x512 .bf16) (t : Fin 1024) (l : Fin 512) :
    k0_pay12 (F := Ideal) a b (ix2 t l) = ∑ k : Fin 128, a (ix3 0 t k) * b (ix3 0 k l) := by
  pointwise [k0_pay12]
theorem pay13_at (a : FVec Ideal S1x1024x128 .bf16) (b : FVec Ideal S1x128x512 .bf16) (t : Fin 1024) (l : Fin 512) :
    k0_pay13 (F := Ideal) a b (ix2 t l) = ∑ k : Fin 128, a (ix3 0 t k) * b (ix3 0 k l) := by
  pointwise [k0_pay13]
theorem pay14_at (s : FVec Ideal S1024x512 .f32) (a : FVec Ideal S1x1024x128 .bf16) (b : FVec Ideal S1x128x512 .bf16) (t : Fin 1024) (l : Fin 512) :
    k0_pay14 s a b (ix2 t l) = s (ix2 t l) + ∑ k : Fin 128, a (ix3 0 t k) * b (ix3 0 k l) := by
  pointwise [k0_pay14]
theorem pay15_at (s : FVec Ideal S1024x512 .f32) (a : FVec Ideal S1x1024x128 .bf16) (b : FVec Ideal S1x128x512 .bf16) (t : Fin 1024) (l : Fin 512) :
    k0_pay15 s a b (ix2 t l) = s (ix2 t l) + ∑ k : Fin 128, a (ix3 0 t k) * b (ix3 0 k l) := by
  pointwise [k0_pay15]
theorem pay16_at (s : FVec Ideal S1024x512 .f32) (a : FVec Ideal S1x1024x128 .bf16) (b : FVec Ideal S1x128x512 .bf16) (t : Fin 1024) (l : Fin 512) :
    k0_pay16 s a b (ix2 t l) = s (ix2 t l) + ∑ k : Fin 128, a (ix3 0 t k) * b (ix3 0 k l) := by
  pointwise [k0_pay16]
theorem pay17_at (s : FVec Ideal S1024x512 .f32) (a : FVec Ideal S1x1024x128 .bf16) (b : FVec Ideal S1x128x512 .bf16) (t : Fin 1024) (l : Fin 512) :
    k0_pay17 s a b (ix2 t l) = s (ix2 t l) + ∑ k : Fin 128, a (ix3 0 t k) * b (ix3 0 k l) := by
  pointwise [k0_pay17]
theorem pay18_at (s : FVec Ideal S1024x512 .f32) (a : FVec Ideal S1x1024x128 .bf16) (b : FVec Ideal S1x128x512 .bf16) (t : Fin 1024) (l : Fin 512) :
    k0_pay18 s a b (ix2 t l) = s (ix2 t l) + ∑ k : Fin 128, a (ix3 0 t k) * b (ix3 0 k l) := by
  pointwise [k0_pay18]
theorem pay19_at (s : FVec Ideal S1024x512 .f32) (a : FVec Ideal S1x1024x128 .bf16) (b : FVec Ideal S1x128x512 .bf16) (t : Fin 1024) (l : Fin 512) :
    k0_pay19 s a b (ix2 t l) = s (ix2 t l) + ∑ k : Fin 128, a (ix3 0 t k) * b (ix3 0 k l) := by
  pointwise [k0_pay19]

/-- The score of row `r` against row `t`. -/
def scoreOf (q : FVec Ideal S1024x128 .bf16) (qr : FVec Ideal S1024x32 .bf16) (k : FVec Ideal S1024x128 .bf16) (kr : FVec Ideal S1024x32 .bf16)
    (r t : Fin 1024) : EReal :=
  (∑ d : Fin 128, q (ix2 r d) * k (ix2 t d)) + ∑ e : Fin 32, qr (ix2 r e) * kr (ix2 t e)

section Heads
variable (kr : FVec Ideal S1024x32 .bf16) (q : FVec Ideal S1024x128 .bf16) (qr : FVec Ideal S1024x32 .bf16) (k v : FVec Ideal S1024x128 .bf16)
  (r : Fin 1024) (d : Fin 128)
theorem pay20_at : k0_pay20 kr q qr k (constant S1024x1024 .f32 0x00000000#32) v (ix4 0 0 r d) =
    attnOf (scoreOf q qr k kr r) (fun t => v (ix2 t d)) := by
  pointwise [k0_pay20, attnOf, scoreOf]
theorem pay21_at : k0_pay21 kr q qr k v (ix4 0 0 r d) = attnOf (scoreOf q qr k kr r) (fun t => v (ix2 t d)) := by
  pointwise [k0_pay21, attnOf, scoreOf]
theorem pay22_at : k0_pay22 kr q qr k v (ix4 0 0 r d) = attnOf (scoreOf q qr k kr r) (fun t => v (ix2 t d)) := by
  pointwise [k0_pay22, attnOf, scoreOf]
theorem pay23_at : k0_pay23 kr q qr k (constant S1024x1024 .f32 0x00000000#32) v (ix4 0 0 r d) =
    attnOf (scoreOf q qr k kr r) (fun t => v (ix2 t d)) := by
  pointwise [k0_pay23, attnOf, scoreOf]
end Heads

section Out
variable (a : FVec Ideal S1x1x1024x256 .bf16) (w : FVec Ideal S1x256x2048 .f32) (s : FVec Ideal S1024x2048 .f32) (r : Fin 1024) (n : Fin 2048)
theorem pay24_at : k0_pay24 (F := Ideal) a w (ix2 r n) = ∑ k : Fin 256, a (ix4 0 0 r k) * w (ix3 0 k n) := by
  pointwise [k0_pay24]
theorem pay25_at : k0_pay25 a w s (ix2 r n) = s (ix2 r n) + ∑ k : Fin 256, a (ix4 0 0 r k) * w (ix3 0 k n) := by
  pointwise [k0_pay25]
theorem pay26_at : k0_pay26 a w s (ix2 r n) = s (ix2 r n) + ∑ k : Fin 256, a (ix4 0 0 r k) * w (ix3 0 k n) := by
  pointwise [k0_pay26]
theorem pay28_at : k0_pay28 (k0_pay27 a w) s (ix2 r n) = s (ix2 r n) + ∑ k : Fin 256, a (ix4 0 0 r k) * w (ix3 0 k n) := by
  pointwise [k0_pay27, k0_pay28]
theorem pay31_at : k0_pay31 (k0_pay29 a) (k0_pay30 w) (constant S1024x2048 .f32 0x00000000#32) s (ix2 r n) =
    s (ix2 r n) + ∑ k : Fin 256, a (ix4 0 0 r k) * w (ix3 0 k n) := by
  pointwise [k0_pay29, k0_pay30, k0_pay31]
theorem pay32_at : k0_pay32 a w s (ix2 r n) = s (ix2 r n) + ∑ k : Fin 256, a (ix4 0 0 r k) * w (ix3 0 k n) := by
  pointwise [k0_pay32]
theorem pay33_at : k0_pay33 a w s (ix2 r n) = s (ix2 r n) + ∑ k : Fin 256, a (ix4 0 0 r k) * w (ix3 0 k n) := by
  pointwise [k0_pay33]
theorem pay34_at : k0_pay34 a w s (ix2 r n) = s (ix2 r n) + ∑ k : Fin 256, a (ix4 0 0 r k) * w (ix3 0 k n) := by
  pointwise [k0_pay34]
end Out

end Cert.KProof

end
-- ==== Proof.ValueKernel.lean ====
/-
  The kernel's result on every device is the attention over the whole arrays: a device's buffers hold the columns
  of its place, a gathered buffer holds every place's, and the accumulators add the places up from the device's own on.
-/
module

public import proofs.«01_k».proof.Proof.ValuePay
public import proofs.«01_k».proof.Proof.Contents

@[expose] public section

set_option maxRecDepth 16384

noncomputable section

namespace Cert.KProof

open Cert.KernelIdeal Cert.KernelIdeal.Gen Cert.KMath
open Idealize.ShloMosaic Idealize.ShloMosaic.TcCoe

variable (m : (ℓ : Loc nD τ sig) → Buf (Elt Ideal) ℓ)
variable (X : Fin 1024 → Fin 2048 → EReal) (Wd : Fin 2048 → Fin 512 → EReal) (Wk Wv : Fin 512 → Fin 2048 → EReal)
  (Wq : Fin 2048 → Fin 2048 → EReal) (Wqr : Fin 2048 → Fin 512 → EReal) (Wkr : Fin 2048 → Fin 32 → EReal) (Wo : Fin 2048 → Fin 2048 → EReal)

/-- Every device's arguments are its part of the whole arrays. -/
structure Parts : Prop where
  x : ∀ (c : Dev nD) t k, stg0 m c (ix3 0 t k) = X t k
  wd : ∀ (c : Dev nD) k (l : Fin 128), stg1 m c (ix2 k l) = Wd k ⟨(zv c).val * 128 + l.val, by omega⟩
  wk : ∀ (c : Dev nD) (l : Fin 128) n, stg2 m c (ix2 l n) = Wk ⟨(zv c).val * 128 + l.val, by omega⟩ n
  wv : ∀ (c : Dev nD) (l : Fin 128) n, stg3 m c (ix2 l n) = Wv ⟨(zv c).val * 128 + l.val, by omega⟩ n
  wq : ∀ (c : Dev nD) k n, wqM m c (ix2 k n) = Wq k n
  wqr : ∀ (c : Dev nD) k n, wqrM m c (ix2 k n) = Wqr k n
  wkr : ∀ (c : Dev nD) k e, stg4 m c (ix2 k e) = Wkr k e
  wo : ∀ (c : Dev nD) k n, woM m c (ix2 k n) = Wo k n

variable {m X Wd Wk Wv Wq Wqr Wkr Wo}
variable (H : Parts m X Wd Wk Wv Wq Wqr Wkr Wo) (c : Dev nD)
include H

theorem xV_at (t : Fin 1024) (k : Fin 2048) : xV m c (ix2 t k) = X t k := (pay1_at (stg0 m c) t k).trans (H.x c t k)
theorem cB_at (t : Fin 1024) (l : Fin 128) : cB m c (ix3 0 t l) = mm X Wd t ⟨(zv c).val * 128 + l.val, by omega⟩ := by
  refine (pay7_at (xV m c) (stg1 m c) t l).trans (Finset.sum_congr rfl fun k _ => ?_)
  rw [xV_at H, H.wd]

/-- One place's term of the keys. -/
theorem key_term (j : Fin 4) (t : Fin 1024) (l : Fin 512) :
    (∑ k : Fin 128, slC (GC m c) j (ix3 0 t k) * slU (GUK m c) j (ix3 0 k l)) =
      ∑ k : Fin 128, mm X Wd t ⟨j.val * 128 + k.val, by omega⟩ * Wk ⟨j.val * 128 + k.val, by omega⟩ (colZ (zv c) l) := by
  refine Finset.sum_congr rfl fun k _ => ?_
  have e1 : slC (GC m c) j (ix3 0 t k) = mm X Wd t ⟨j.val * 128 + k.val, by omega⟩ := by
    refine Eq.trans (b := cB m (gdev c j) (ix3 0 t k)) rfl ?_
    rw [cB_at H]; simp only [zv_gdev]
  have e2 : slU (GUK m c) j (ix3 0 k l) = Wk ⟨j.val * 128 + k.val, by omega⟩ (colZ (zv c) l) := by
    refine Eq.trans (b := wukB m (gdev c j) (ix2 k (colZ (zv c) l))) rfl ?_
    refine (pay2_at (stg2 m (gdev c j)) k (colZ (zv c) l)).trans ?_
    rw [H.wk]; simp only [zv_gdev]
  rw [e1, e2]
/-- One place's term of the values. -/
theorem val_term (j : Fin 4) (t : Fin 1024) (l : Fin 512) :
    (∑ k : Fin 128, slC (GC m c) j (ix3 0 t k) * slU (GUV m c) j (ix3 0 k l)) =
      ∑ k : Fin 128, mm X Wd t ⟨j.val * 128 + k.val, by omega⟩ * Wv ⟨j.val * 128 + k.val, by omega⟩ (colZ (zv c) l) := by
  refine Finset.sum_congr rfl fun k _ => ?_
  have e1 : slC (GC m c) j (ix3 0 t k) = mm X Wd t ⟨j.val * 128 + k.val, by omega⟩ := by
    refine Eq.trans (b := cB m (gdev c j) (ix3 0 t k)) rfl ?_
    rw [cB_at H]; simp only [zv_gdev]
  have e2 : slU (GUV m c) j (ix3 0 k l) = Wv ⟨j.val * 128 + k.val, by omega⟩ (colZ (zv c) l) := by
    refine Eq.trans (b := wuvB m (gdev c j) (ix2 k (colZ (zv c) l))) rfl ?_
    refine (pay4_at (stg3 m (gdev c j)) k (colZ (zv c) l)).trans ?_
    rw [H.wv]; simp only [zv_gdev]
  rw [e1, e2]

omit H in
theorem jk_add (c : Dev nD) : jk c 1 = zv c + 1 ∧ jk c 2 = zv c + 2 ∧ jk c 3 = zv c + 3 := by revert c; decide

/-- The device's keys are its columns of all the keys. -/
theorem kS_at (t : Fin 1024) (l : Fin 512) : kS m c (ix2 t l) = mm (mm X Wd) Wk t (colZ (zv c) l) := by
  refine (pay18_at (kA2 m c) _ _ t l).trans ?_
  rw [show kA2 m c (ix2 t l) = _ from pay16_at (kA1 m c) _ _ t l, show kA1 m c (ix2 t l) = _ from pay14_at (kA0 m c) _ _ t l,
    show kA0 m c (ix2 t l) = _ from pay12_at _ _ t l, key_term H, key_term H, key_term H, key_term H, (jk_add c).1, (jk_add c).2.1, (jk_add c).2.2,
    sum_rot (zv c) fun j => ∑ k : Fin 128, mm X Wd t ⟨j.val * 128 + k.val, by omega⟩ * Wk ⟨j.val * 128 + k.val, by omega⟩ (colZ (zv c) l)]
  exact (sum_blocks 4 128 fun u : Fin 512 => mm X Wd t u * Wk u (colZ (zv c) l)).symm
theorem vS_at (t : Fin 1024) (l : Fin 512) : vS m c (ix2 t l) = mm (mm X Wd) Wv t (colZ (zv c) l) := by
  refine (pay19_at (vA2 m c) _ _ t l).trans ?_
  rw [show vA2 m c (ix2 t l) = _ from pay17_at (vA1 m c) _ _ t l, show vA1 m c (ix2 t l) = _ from pay15_at (vA0 m c) _ _ t l,
    show vA0 m c (ix2 t l) = _ from pay13_at _ _ t l, val_term H, val_term H, val_term H, val_term H, (jk_add c).1, (jk_add c).2.1, (jk_add c).2.2,
    sum_rot (zv c) fun j => ∑ k : Fin 128, mm X Wd t ⟨j.val * 128 + k.val, by omega⟩ * Wv ⟨j.val * 128 + k.val, by omega⟩ (colZ (zv c) l)]
  exact (sum_blocks 4 128 fun u : Fin 512 => mm X Wd t u * Wv u (colZ (zv c) l)).symm

theorem qS_at (t : Fin 1024) (l : Fin 512) : qS m c (ix2 t l) = mm X Wq t (colZ (zv c) l) * sc := by
  refine (pay9_at (xV m c) (wqF m c) t l).trans (congrArg (· * sc) (Finset.sum_congr rfl fun k _ => ?_))
  rw [xV_at H, show wqF m c (ix2 k l) = wqM m c (ix2 k (colZ (zv c) l)) from rfl, H.wq]
theorem qrS_at (t : Fin 1024) (l : Fin 128) : qrS m c (ix2 t l) = mm X Wqr t ⟨128 * (zv c).val + l.val, by omega⟩ * sc := by
  refine (pay10_at (xV m c) (wqrF m c) t l).trans (congrArg (· * sc) (Finset.sum_congr rfl fun k _ => ?_))
  rw [xV_at H, show wqrF m c (ix2 k l) = wqrM m c (ix2 k ⟨128 * (zv c).val + l.val, by omega⟩) from rfl, H.wqr]
theorem krV_at (t : Fin 1024) (e : Fin 32) : krV m c (ix2 t e) = mm X Wkr t e := by
  refine (pay11_at (xV m c) (stg4 m c) t e).trans (Finset.sum_congr rfl fun k _ => ?_)
  rw [xV_at H, H.wkr]

/-- The scores of this device's head `h`. -/
theorem score_at (h : Fin 4) (r t : Fin 1024) :
    scoreOf (colH (qS m c) h) (colR (qrS m c) h) (colH (kS m c) h) (krV m c) r t = scoreS X Wd Wk Wq Wqr Wkr ⟨(zv c).val * 4 + h.val, by omega⟩ r t := by
  unfold scoreS
  rw [← scaled_sum _ _ _ _ sc_nonneg sc_ne_top]
  refine congrArg₂ (· + ·) (Finset.sum_congr rfl fun d _ => ?_) (Finset.sum_congr rfl fun e _ => ?_)
  · have e1 : colH (qS m c) h (ix2 r d) = qS m c (ix2 r ⟨128 * h.val + d.val, by omega⟩) := rfl
    have e2 : colH (kS m c) h (ix2 t d) = kS m c (ix2 t ⟨128 * h.val + d.val, by omega⟩) := rfl
    have e3 : colZ (zv c) ⟨128 * h.val + d.val, by omega⟩ = ⟨((zv c).val * 4 + h.val) * 128 + d.val, by omega⟩ :=
      Fin.ext (by show 512 * (zv c).val + (128 * h.val + d.val) = ((zv c).val * 4 + h.val) * 128 + d.val; omega)
    rw [e1, e2, qS_at H, kS_at H, e3]
  · have e1 : colR (qrS m c) h (ix2 r e) = qrS m c (ix2 r ⟨32 * h.val + e.val, by omega⟩) := rfl
    have e3 : (⟨128 * (zv c).val + (32 * h.val + e.val), by omega⟩ : Fin 512) = ⟨((zv c).val * 4 + h.val) * 32 + e.val, by omega⟩ :=
      Fin.ext (by show 128 * (zv c).val + (32 * h.val + e.val) = ((zv c).val * 4 + h.val) * 32 + e.val; omega)
    rw [e1, qrS_at H, krV_at H, e3]

/-- A head's output from its scores and its columns of the values. -/
theorem head_at (h : Fin 4) (r : Fin 1024) (d : Fin 128) :
    attnOf (scoreOf (colH (qS m c) h) (colR (qrS m c) h) (colH (kS m c) h) (krV m c) r) (fun t => colH (vS m c) h (ix2 t d)) =
      attnS X Wd Wk Wv Wq Wqr Wkr r ⟨512 * (zv c).val + 128 * h.val + d.val, by omega⟩ := by
  unfold attnS
  refine congrArg₂ attnOf ?_ (funext fun t => ?_)
  · funext t
    rw [score_at H]
    refine congrArg (fun i => scoreS X Wd Wk Wq Wqr Wkr i r t) (Fin.ext ?_)
    show (zv c).val * 4 + h.val = (512 * (zv c).val + 128 * h.val + d.val) / 128
    omega
  · refine Eq.trans (b := vS m c (ix2 t ⟨128 * h.val + d.val, by omega⟩)) rfl ?_
    rw [vS_at H]
    exact congrArg (mm (mm X Wd) Wv t) (Fin.ext (by show 512 * (zv c).val + (128 * h.val + d.val) = 512 * (zv c).val + 128 * h.val + d.val; omega))

theorem hdAt_at (h s : Fin 2) (r : Fin 1024) (d : Fin 128) :
    hdAt m c h s (ix4 0 0 r d) = attnS X Wd Wk Wv Wq Wqr Wkr r ⟨512 * (zv c).val + 256 * h.val + 128 * s.val + d.val, by omega⟩ := by
  have key : ∀ i : Fin 4, i.val = 2 * h.val + s.val → attnS X Wd Wk Wv Wq Wqr Wkr r ⟨512 * (zv c).val + 128 * i.val + d.val, by omega⟩ =
      attnS X Wd Wk Wv Wq Wqr Wkr r ⟨512 * (zv c).val + 256 * h.val + 128 * s.val + d.val, by omega⟩ := fun i hi =>
    congrArg _ (Fin.ext (by show 512 * (zv c).val + 128 * i.val + d.val = 512 * (zv c).val + 256 * h.val + 128 * s.val + d.val; omega))
  fin_cases h <;> fin_cases s
  · exact ((pay20_at _ _ _ _ _ r d).trans (head_at H c 0 r d)).trans (key 0 rfl)
  · exact ((pay21_at _ _ _ _ _ r d).trans (head_at H c 1 r d)).trans (key 1 rfl)
  · exact ((pay22_at _ _ _ _ _ r d).trans (head_at H c 2 r d)).trans (key 2 rfl)
  · exact ((pay23_at _ _ _ _ _ r d).trans (head_at H c 3 r d)).trans (key 3 rfl)

/-- One half-block's term of the output. -/
theorem out_term (j : Fin 4) (h : Fin 2) (r : Fin 1024) (n : Fin 2048) :
    (∑ k : Fin 256, slO (OS m c) j h (ix4 0 0 r k) * woB m c j h (ix3 0 k n)) =
      ∑ k : Fin 256, attnS X Wd Wk Wv Wq Wqr Wkr r ⟨j.val * 512 + (h.val * 256 + k.val), by omega⟩ * Wo ⟨j.val * 512 + (h.val * 256 + k.val), by omega⟩ n := by
  refine Finset.sum_congr rfl fun k _ => ?_
  have e1 : slO (OS m c) j h (ix4 0 0 r k) = attnS X Wd Wk Wv Wq Wqr Wkr r ⟨j.val * 512 + (h.val * 256 + k.val), by omega⟩ := by
    refine Eq.trans (b := hdAt m (gdev c j) h ⟨k.val / 128, by omega⟩ (ix4 0 0 r ⟨k.val % 128, by omega⟩)) rfl ?_
    rw [hdAt_at H]
    refine congrArg _ (Fin.ext ?_)
    show 512 * (zv (gdev c j)).val + 256 * h.val + 128 * (k.val / 128) + k.val % 128 = j.val * 512 + (h.val * 256 + k.val)
    rw [zv_gdev]; omega
  have e2 : woB m c j h (ix3 0 k n) = Wo ⟨j.val * 512 + (h.val * 256 + k.val), by omega⟩ n := by
    refine Eq.trans (b := woM m c (ix2 ⟨512 * j.val + 256 * h.val + k.val, by omega⟩ n)) rfl ?_
    rw [H.wo]
    exact congrArg (Wo · n) (Fin.ext (by show 512 * j.val + 256 * h.val + k.val = j.val * 512 + (h.val * 256 + k.val); omega))
  rw [e1, e2]

/-- The kernel's result on every device is the attention over the whole arrays. -/
theorem oA7_at (r : Fin 1024) (n : Fin 2048) : oA7 m c (ix2 r n) = outS X Wd Wk Wv Wq Wqr Wkr Wo r n := by
  refine (pay34_at _ _ (oA6 m c) r n).trans ?_
  rw [show oA6 m c (ix2 r n) = _ from pay33_at _ _ (oA5 m c) r n, show oA5 m c (ix2 r n) = _ from pay32_at _ _ (oA4 m c) r n,
    show oA4 m c (ix2 r n) = _ from pay31_at _ _ (oA3 m c) r n, show oA3 m c (ix2 r n) = _ from pay28_at _ _ (oA2 m c) r n,
    show oA2 m c (ix2 r n) = _ from pay26_at _ _ (oA1 m c) r n, show oA1 m c (ix2 r n) = _ from pay25_at _ _ (oA0 m c) r n,
    show oA0 m c (ix2 r n) = _ from pay24_at _ _ r n]
  simp only [out_term H]
  rw [(jk_add c).1, (jk_add c).2.1, (jk_add c).2.2,
    sum_rot2 (zv c) fun j h => ∑ k : Fin 256, attnS X Wd Wk Wv Wq Wqr Wkr r ⟨j.val * 512 + (h.val * 256 + k.val), by omega⟩ *
      Wo ⟨j.val * 512 + (h.val * 256 + k.val), by omega⟩ n]
  refine Eq.symm ((sum_blocks 4 512 fun u : Fin 2048 => attnS X Wd Wk Wv Wq Wqr Wkr r u * Wo u n).trans (Finset.sum_congr rfl fun j _ => ?_))
  exact sum_blocks 2 256 fun u : Fin 512 => attnS X Wd Wk Wv Wq Wqr Wkr r ⟨j.val * 512 + u.val, by omega⟩ * Wo ⟨j.val * 512 + u.val, by omega⟩ n

end Cert.KProof

end
-- ==== Proof.ValueRef.lean ====
/-
  What the reference computes, stage by stage, read at one element over the extended reals.
-/
module

public import proofs.«01_k».proof.Proof.Gen.ReferenceIdeal.Run
public import proofs.«01_k».proof.Proof.ValueSpec

@[expose] public section

set_option maxRecDepth 16384

noncomputable section

namespace Cert.RefValue

open Cert.ReferenceIdeal Cert.ReferenceIdeal.Gen
open Cert.KMath
open Idealize.ShloMosaic Idealize.ShloMosaic.TcCoe

/-! ## The stages -/

section Stages
variable (x : FVec Ideal S1x1024x2048 .f32) (wd : FVec Ideal S2048x512 .f32) (wk wv : FVec Ideal S512x2048 .f32)
  (wq wo : FVec Ideal S2048x2048 .f32) (wqr : FVec Ideal S2048x512 .f32) (wkr : FVec Ideal S2048x32 .f32)

/-- The compressed activations. -/
def cR : FVec Ideal S1x1024x512 .f32 := Host.dotGeneral dot_S1x1024x2048_S2048x512_S1x1024x512_2_0_01_1_n_n none x wd
/-- Keys or values, by head. -/
def upR (w : FVec Ideal S512x2048 .f32) : FVec Ideal S1x1024x16x128 .f32 :=
  shapeCast _ (Host.dotGeneral dot_S1x1024x512_S512x2048_S1x1024x2048_2_0_01_1_n_n none (cR x wd) w) shapeCasts_S1x1024x2048_S1x1024x16x128
def qR : FVec Ideal S1x1024x16x128 .f32 :=
  shapeCast _ (Host.dotGeneral dot_S1x1024x2048_S2048x2048_S1x1024x2048_2_0_01_1_n_n none x wq) shapeCasts_S1x1024x2048_S1x1024x16x128
def qrR : FVec Ideal S1x1024x16x32 .f32 :=
  shapeCast _ (Host.dotGeneral dot_S1x1024x2048_S2048x512_S1x1024x512_2_0_01_1_n_n none x wqr) shapeCasts_S1x1024x512_S1x1024x16x32
def krR : FVec Ideal S1x1024x16x32 .f32 :=
  broadcastInDim S1x1024x16x32 ![0, 1, 2, 3] bcast_S1x1024x1x32_S1x1024x16x32_0_1_2_3
    (shapeCast _ (Host.dotGeneral dot_S1x1024x2048_S2048x32_S1x1024x32_2_0_01_1_n_n none x wkr) shapeCasts_S1x1024x32_S1x1024x1x32)
/-- The scaled scores. -/
def sR (q k : FVec Ideal S1x1024x16x128 .f32) (qr kr : FVec Ideal S1x1024x16x32 .f32) : FVec Ideal S1x16x1024x1024 .f32 :=
  mulf (addf (Host.dotGeneral dot_S1x1024x16x128_S1x1024x16x128_S1x16x1024x1024_3_3_1_1_02_02 none q k)
    (Host.dotGeneral dot_S1x1024x16x32_S1x1024x16x32_S1x16x1024x1024_3_3_1_1_02_02 none qr kr))
    (broadcastInDim S1x16x1024x1024 ![] bcast_S_S1x16x1024x1024
      (Host.divf (constant S_ .f32 0x3F800000#32) (Host.sqrt (constant S_ .f32 0x43200000#32))))
/-- Each row's maximum. -/
def mR (s : FVec Ideal S1x16x1024x1024 .f32) : FVec Ideal S1x16x1024 .f32 :=
  Host.reduce FloatOps.maximumf s (constant S_ .f32 0xFF800000#32) reducesTo_S1x16x1024x1024_S1x16x1024_d3 h_S_
/-- The exponentials of the scores less their row's maximum. -/
def eR (s : FVec Ideal S1x16x1024x1024 .f32) : FVec Ideal S1x16x1024x1024 .f32 :=
  Host.exp (subf s (broadcastInDim S1x16x1024x1024 ![0, 1, 2, 3] bcast_S1x16x1024x1_S1x16x1024x1024_0_1_2_3
    (broadcastInDim S1x16x1024x1 ![0, 1, 2] bcast_S1x16x1024_S1x16x1024x1_0_1_2 (mR s))))
/-- The weights. -/
def pR (e : FVec Ideal S1x16x1024x1024 .f32) : FVec Ideal S1x16x1024x1024 .f32 :=
  Host.divf e (broadcastInDim S1x16x1024x1024 ![0, 1, 2, 3] bcast_S1x16x1024x1_S1x16x1024x1024_0_1_2_3
    (broadcastInDim S1x16x1024x1 ![0, 1, 2] bcast_S1x16x1024_S1x16x1024x1_0_1_2
      (Host.reduceAdd e (constant S_ .f32 0x00000000#32) reducesTo_S1x16x1024x1024_S1x16x1024_d3 h_S_)))
/-- The heads' outputs side by side. -/
def aR (v : FVec Ideal S1x1024x16x128 .f32) (p : FVec Ideal S1x16x1024x1024 .f32) : FVec Ideal S1x1024x2048 .f32 :=
  shapeCast _ (transpose S1x1024x16x128 [0, 3, 1, 2]
    (Host.dotGeneral dot_S1x1024x16x128_S1x16x1024x1024_S1x16x128x1024_1_3_3_2_02_01 none v p)
    transposes_S1x16x128x1024_S1x1024x16x128_0_3_1_2) shapeCasts_S1x1024x16x128_S1x1024x2048
def oR (a : FVec Ideal S1x1024x2048 .f32) : FVec Ideal S1024x2048 .f32 :=
  shapeCast _ (Host.dotGeneral dot_S1x1024x2048_S2048x2048_S1x1024x2048_2_0_01_1_n_n none a wo) shapeCasts_S1x1024x2048_S1024x2048
/-- The reference's result as a function of its eight arguments. -/
def refR : FVec Ideal S1024x2048 .f32 :=
  oR wo (aR (upR x wd wv) (pR (eR (sR (qR x wq) (upR x wd wk) (qrR x wqr) (krR x wkr)))))
end Stages

theorem res_eq (m : (ℓ : Loc nD τ sig) → Buf (Elt Ideal) ℓ) (c : Dev nD) :
    Cert.ReferenceIdeal.Value.res_main_v32 m c = refR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg7)) (m ((c.tc : Thread nD τ).loc main_arg5)) (m ((c.tc : Thread nD τ).loc main_arg6)) := by
  rw [Cert.ReferenceIdeal.Value.res_main_v32]; rfl

/-! ## At one element -/

section At
variable (x : FVec Ideal S1x1024x2048 .f32) (wd : FVec Ideal S2048x512 .f32) (w : FVec Ideal S512x2048 .f32)
  (wq wo : FVec Ideal S2048x2048 .f32) (wqr : FVec Ideal S2048x512 .f32) (wkr : FVec Ideal S2048x32 .f32)
  (t r : Fin 1024) (h : Fin 16)

theorem cR_at (u : Fin 512) : cR x wd (ix3 0 t u) = ∑ k : Fin 2048, x (ix3 0 t k) * wd (ix2 k u) := by
  pointwise [cR]
theorem upR_at (d : Fin 128) : upR x wd w (ix4 0 t h d) = ∑ u : Fin 512, cR x wd (ix3 0 t u) * w (ix2 u ⟨h.val * 128 + d.val, by omega⟩) := by
  pointwise [upR]
theorem qR_at (d : Fin 128) : qR x wq (ix4 0 t h d) = ∑ k : Fin 2048, x (ix3 0 t k) * wq (ix2 k ⟨h.val * 128 + d.val, by omega⟩) := by
  pointwise [qR]
theorem qrR_at (e : Fin 32) : qrR x wqr (ix4 0 t h e) = ∑ k : Fin 2048, x (ix3 0 t k) * wqr (ix2 k ⟨h.val * 32 + e.val, by omega⟩) := by
  pointwise [qrR]
theorem krR_at (e : Fin 32) : krR x wkr (ix4 0 t h e) = ∑ k : Fin 2048, x (ix3 0 t k) * wkr (ix2 k e) := by
  pointwise [krR]
theorem sR_at (q k : FVec Ideal S1x1024x16x128 .f32) (qr kr : FVec Ideal S1x1024x16x32 .f32) :
    sR q k qr kr (ix4 0 h r t) = ((∑ d : Fin 128, q (ix4 0 r h d) * k (ix4 0 t h d)) + ∑ e : Fin 32, qr (ix4 0 r h e) * kr (ix4 0 t h e)) *
      sc := by
  rw [← sc_eq]
  pointwise [sR]
theorem mR_at (s : FVec Ideal S1x16x1024x1024 .f32) :
    mR s (ix3 0 h r) = (Finset.univ : Finset (Fin 1024)).fold max (Ideal.ofBits .f32 0xFF800000#32) (fun t => s (ix4 0 h r t)) := by
  pointwise [mR]
theorem eR_at (s : FVec Ideal S1x16x1024x1024 .f32) : eR s (ix4 0 h r t) = Ideal.exp (s (ix4 0 h r t) - mR s (ix3 0 h r)) := by
  pointwise [eR]
theorem pR_at (e : FVec Ideal S1x16x1024x1024 .f32) :
    pR e (ix4 0 h r t) = Ideal.div (e (ix4 0 h r t)) (∑ t' : Fin 1024, e (ix4 0 h r t')) := by
  pointwise [pR]
theorem aR_at (v : FVec Ideal S1x1024x16x128 .f32) (p : FVec Ideal S1x16x1024x1024 .f32) (k : Fin 2048) :
    aR v p (ix3 0 r k) = ∑ t : Fin 1024, v (ix4 0 t ⟨k.val / 128, by omega⟩ ⟨k.val % 128, by omega⟩) * p (ix4 0 ⟨k.val / 128, by omega⟩ r t) := by
  pointwise [aR]
theorem oR_at (a : FVec Ideal S1x1024x2048 .f32) (n : Fin 2048) :
    oR wo a (ix2 r n) = ∑ k : Fin 2048, a (ix3 0 r k) * wo (ix2 k n) := by
  pointwise [oR]
end At

/-! ## The whole -/

section Whole
variable (x : FVec Ideal S1x1024x2048 .f32) (wd : FVec Ideal S2048x512 .f32) (wk wv : FVec Ideal S512x2048 .f32)
  (wq wo : FVec Ideal S2048x2048 .f32) (wqr : FVec Ideal S2048x512 .f32) (wkr : FVec Ideal S2048x32 .f32)

/-- The arguments by their coordinates. -/
abbrev xA : Fin 1024 → Fin 2048 → EReal := fun t k => x (ix3 0 t k)
abbrev wA {a b : ℕ} {φ : FTy} (w : FVec Ideal ⟨2, ![a, b]⟩ φ) : Fin a → Fin b → EReal := fun i j => w (ix2 i j)

theorem sR_eq (h : Fin 16) (r t : Fin 1024) :
    sR (qR x wq) (upR x wd wk) (qrR x wqr) (krR x wkr) (ix4 0 h r t) = scoreS (xA x) (wA wd) (wA wk) (wA wq) (wA wqr) (wA wkr) h r t := by
  rw [sR_at]
  simp only [qR_at, upR_at, qrR_at, krR_at, cR_at]
  rfl

/-- When every score is finite the reference's result is the attention as it is written. -/
theorem refR_at (hs : ∀ h r t, IsR (scoreS (xA x) (wA wd) (wA wk) (wA wq) (wA wqr) (wA wkr) h r t)) (r : Fin 1024) (n : Fin 2048) :
    refR x wd wk wv wq wo wqr wkr (ix2 r n) = outS (xA x) (wA wd) (wA wk) (wA wv) (wA wq) (wA wqr) (wA wkr) (wA wo) r n := by
  rw [refR, oR_at]
  refine Finset.sum_congr rfl fun k _ => congrArg (· * wo (ix2 k n)) ?_
  rw [aR_at]
  simp only [pR_at, eR_at, mR_at, negInf_eq, sR_eq, upR_at, cR_at]
  refine (softmax _ _ _ (fun t => hs _ r t) (isR_fold_max _ fun t => hs _ r t)).trans ?_
  unfold attnS attnOf
  refine congrArg (fun a => Ideal.div a _) (Finset.sum_congr rfl fun t _ => congrArg (HMul.hMul _) ?_)
  refine Finset.sum_congr rfl fun u _ => congrArg (fun i => (∑ k, x (ix3 0 t k) * wd (ix2 k u)) * wv (ix2 u i)) (Fin.ext ?_)
  show k.val / 128 * 128 + k.val % 128 = k.val
  omega
end Whole

end Cert.RefValue

end
-- ==== Proof.ValuePre.lean ====
/-
  What the precondition says: every element of the activations and of the weights the scores are made of is finite.
-/
module

public import proofs.«01_k».proof.Defs
public import proofs.«01_k».proof.Proof.ValueMath

@[expose] public section

set_option maxRecDepth 16384

noncomputable section

namespace Cert.KProof

open Cert.KMath
open Idealize.ShloMosaic Idealize.ShloMosaic.TcCoe

/-- The side conditions of the precondition, over the kernel's arguments and over the reference's. -/
theorem preFacts : Cert.Pre_finite_scores_KernelIdeal.Facts :=
  ⟨by decide, by decide, by decide, by decide, by decide, by decide⟩
theorem preFactsR : Cert.Pre_finite_scores_ReferenceIdeal.Facts :=
  ⟨by decide, by decide, by decide, by decide, by decide⟩

/-- One of its comparisons: an array whose magnitudes are all below infinity. -/
theorem finite_of_cmp {S : Shape} (a : FVec Ideal S .f32) (hb : (⟨0, ![]⟩ : Shape).BroadcastsInDim S (![] : Fin 0 → Fin S.rank))
    (h : cmpf .olt (Host.absf a) (broadcastInDim S ![] hb (constant (F := Ideal) ⟨0, ![]⟩ .f32 0x7F800000#32)) = fun _ => 1#1) (i : S.Idx) :
    IsR (a i) := by
  have h1 : Ideal.cmp .olt (max (a i) (-(a i))) (Ideal.ofBits .f32 0x7F800000#32) = 1#1 := congrFun h i
  rw [posInf_eq] at h1
  refine isR_of_abs ?_
  by_contra hn
  simp [Ideal.cmp, hn] at h1

open Cert.KernelIdeal in
theorem pre_finite [hp : Cert.Pre_finite_scores_KernelIdeal.Facts] {m : (ℓ : Loc nD τ sig) → Buf (Elt Ideal) ℓ}
    (h : Cert.Pre_KernelIdeal_finite_scores_KernelIdeal m) (c : Dev nD) :
    (∀ i : S1x1024x2048.Idx, IsR ((m ((c : Thread nD τ).loc main_arg0) : FVec Ideal S1x1024x2048 .f32) i))
    ∧ (∀ i : S2048x128.Idx, IsR ((m ((c : Thread nD τ).loc main_arg1) : FVec Ideal S2048x128 .f32) i))
    ∧ (∀ i : S128x2048.Idx, IsR ((m ((c : Thread nD τ).loc main_arg2) : FVec Ideal S128x2048 .f32) i))
    ∧ (∀ i : S2048x2048.Idx, IsR ((m ((c : Thread nD τ).loc main_arg4) : FVec Ideal S2048x2048 .f32) i))
    ∧ (∀ i : S2048x512.Idx, IsR ((m ((c : Thread nD τ).loc main_arg5) : FVec Ideal S2048x512 .f32) i))
    ∧ (∀ i : S2048x32.Idx, IsR ((m ((c : Thread nD τ).loc main_arg6) : FVec Ideal S2048x32 .f32) i)) := by
  obtain ⟨h0, h1, h2, h4, h5, h6⟩ := h c
  exact ⟨finite_of_cmp _ _ h0, finite_of_cmp _ _ h1, finite_of_cmp _ _ h2, finite_of_cmp _ _ h4, finite_of_cmp _ _ h5, finite_of_cmp _ _ h6⟩

end Cert.KProof

end
-- ==== Proof.Algebraic.lean ====
/-
  The kernel's result on every device and the reference's are one function of the whole arrays.
-/
module

public import proofs.«01_k».proof.Proof.Frames
public import proofs.«01_k».proof.Proof.ValueEnds
public import proofs.«01_k».proof.Proof.ValueKernel
public import proofs.«01_k».proof.Proof.ValueRef
public import proofs.«01_k».proof.Proof.ValuePre
public import Idealize.ShloMosaic.Lib.LayoutAt

@[expose] public section

set_option maxRecDepth 16384

noncomputable section

namespace Cert.KProof

open Cert.KernelIdeal Cert.KernelIdeal.Gen Cert.KMath Cert.RefValue
open Idealize.ShloMosaic Idealize.ShloMosaic.TcCoe Idealize.SL.Sem

/-! ## A device's block of a weight, at an element -/

theorem col_block : ∀ c : Dev nD, (Layout.meshBlock [2, 2, 4] (![[], [2]] : Fin 2 → List ℕ) c (by decide) 0).val = 0
    ∧ (Layout.meshBlock [2, 2, 4] (![[], [2]] : Fin 2 → List ℕ) c (by decide) 1).val = (zv c).val := by decide
theorem row_block : ∀ c : Dev nD, (Layout.meshBlock [2, 2, 4] (![[2], []] : Fin 2 → List ℕ) c (by decide) 0).val = (zv c).val
    ∧ (Layout.meshBlock [2, 2, 4] (![[2], []] : Fin 2 → List ℕ) c (by decide) 1).val = 0 := by decide

theorem block_col (w : FVec Ideal ⟨2, ![2048, 512]⟩ .f32) (c : Dev nD) (k : Fin 2048) (l : Fin 128) :
    Layout.blockN ⟨2, ![2048, 128]⟩ ⟨2, ![2048, 512]⟩ (Layout.meshBlock [2, 2, 4] ![[], [2]] c) w (by decide) (ix2 k l) =
      w (ix2 k ⟨(zv c).val * 128 + l.val, by omega⟩) := by
  rw [Layout.blockN_apply]
  refine congrArg w (funext fun a => Fin.ext ?_)
  have h := col_block c
  fin_cases a
  · refine (Layout.TilesN.idx_val _ _ _ _).trans ?_
    show (Layout.meshBlock [2, 2, 4] (![[], [2]] : Fin 2 → List ℕ) c (by decide) 0).val * 2048 + k.val = k.val
    omega
  · refine (Layout.TilesN.idx_val _ _ _ _).trans ?_
    show (Layout.meshBlock [2, 2, 4] (![[], [2]] : Fin 2 → List ℕ) c (by decide) 1).val * 128 + l.val = (zv c).val * 128 + l.val
    rw [h.2]
theorem block_row (w : FVec Ideal ⟨2, ![512, 2048]⟩ .f32) (c : Dev nD) (l : Fin 128) (n : Fin 2048) :
    Layout.blockN ⟨2, ![128, 2048]⟩ ⟨2, ![512, 2048]⟩ (Layout.meshBlock [2, 2, 4] ![[2], []] c) w (by decide) (ix2 l n) =
      w (ix2 ⟨(zv c).val * 128 + l.val, by omega⟩ n) := by
  rw [Layout.blockN_apply]
  refine congrArg w (funext fun a => Fin.ext ?_)
  have h := row_block c
  fin_cases a
  · refine (Layout.TilesN.idx_val _ _ _ _).trans ?_
    show (Layout.meshBlock [2, 2, 4] (![[2], []] : Fin 2 → List ℕ) c (by decide) 0).val * 128 + l.val = (zv c).val * 128 + l.val
    rw [h.1]
  · refine (Layout.TilesN.idx_val _ _ _ _).trans ?_
    show (Layout.meshBlock [2, 2, 4] (![[2], []] : Fin 2 → List ℕ) c (by decide) 1).val * 2048 + n.val = n.val
    omega

/-! ## The claim -/

/-- Every one of the 512 compressed columns is some device's. -/
theorem col_owner (j : Fin 512) : ∃ (c : Dev nD) (l : Fin 128), (⟨(zv c).val * 128 + l.val, by omega⟩ : Fin 512) = j := by
  refine ⟨gdev (0 : Dev nD) ⟨j.val / 128, by omega⟩, ⟨j.val % 128, by omega⟩, Fin.ext ?_⟩
  have h := congrArg Fin.val (zv_gdev (0 : Dev nD) ⟨j.val / 128, by omega⟩)
  have h2 : (zv (gdev (0 : Dev nD) ⟨j.val / 128, by omega⟩)).val = j.val / 128 := h
  show (zv (gdev (0 : Dev nD) ⟨j.val / 128, by omega⟩)).val * 128 + j.val % 128 = j.val
  omega

theorem algebraic [hp : Cert.Pre_finite_scores_KernelIdeal.Facts] : Cert.algebraic_KernelIdeal_ReferenceIdeal_pre_finite_scores_KernelIdeal := by
  intro m g m' g' hpre hargs
  let R : Thread Cert.ReferenceIdeal.nD Cert.ReferenceIdeal.τ := (0 : Dev Cert.ReferenceIdeal.nD).tc
  let x : FVec Ideal S1x1024x2048 .f32 := m' (R.loc Cert.ReferenceIdeal.main_arg0)
  let wd : FVec Ideal S2048x512 .f32 := m' (R.loc Cert.ReferenceIdeal.main_arg1)
  let wk : FVec Ideal ⟨2, ![512, 2048]⟩ .f32 := m' (R.loc Cert.ReferenceIdeal.main_arg2)
  let wv : FVec Ideal ⟨2, ![512, 2048]⟩ .f32 := m' (R.loc Cert.ReferenceIdeal.main_arg3)
  let wq : FVec Ideal S2048x2048 .f32 := m' (R.loc Cert.ReferenceIdeal.main_arg4)
  let wqr : FVec Ideal S2048x512 .f32 := m' (R.loc Cert.ReferenceIdeal.main_arg5)
  let wkr : FVec Ideal S2048x32 .f32 := m' (R.loc Cert.ReferenceIdeal.main_arg6)
  let wo : FVec Ideal S2048x2048 .f32 := m' (R.loc Cert.ReferenceIdeal.main_arg7)
  have H : Parts m (xA x) (wA wd) (wA wk) (wA wv) (wA wq) (wA wqr) (wA wkr) (wA wo) := {
    x := fun c t k => congrFun ((stg0_eq m c).trans (hargs c).1) (ix3 0 t k)
    wd := fun c k l => (congrFun ((stg1_eq m c).trans (hargs c).2.1) (ix2 k l)).trans (block_col wd c k l)
    wk := fun c l n => (congrFun ((stg2_eq m c).trans (hargs c).2.2.1) (ix2 l n)).trans (block_row wk c l n)
    wv := fun c l n => (congrFun ((stg3_eq m c).trans (hargs c).2.2.2.1) (ix2 l n)).trans (block_row wv c l n)
    wq := fun c k n => congrFun (hargs c).2.2.2.2.1 (ix2 k n)
    wqr := fun c k n => congrFun (hargs c).2.2.2.2.2.1 (ix2 k n)
    wkr := fun c k e => congrFun ((stg4_eq m c).trans (hargs c).2.2.2.2.2.2.1) (ix2 k e)
    wo := fun c k n => congrFun (hargs c).2.2.2.2.2.2.2 (ix2 k n) }
  have hX : ∀ i j, IsR (xA x i j) := fun i j => by
    rw [← H.x 0 i j, stg0_eq]; exact (pre_finite hpre 0).1 (ix3 0 i j)
  have hd : ∀ i j, IsR (wA wd i j) := fun i j => by
    obtain ⟨c, l, rfl⟩ := col_owner j
    rw [← H.wd c i l, stg1_eq]; exact (pre_finite hpre c).2.1 (ix2 i l)
  have hk : ∀ i j, IsR (wA wk i j) := fun i j => by
    obtain ⟨c, l, rfl⟩ := col_owner i
    rw [← H.wk c l j, stg2_eq]; exact (pre_finite hpre c).2.2.1 (ix2 l j)
  have hq : ∀ i j, IsR (wA wq i j) := fun i j => by
    rw [← H.wq 0 i j]; exact (pre_finite hpre 0).2.2.2.1 (ix2 i j)
  have hqr : ∀ i j, IsR (wA wqr i j) := fun i j => by
    rw [← H.wqr 0 i j]; exact (pre_finite hpre 0).2.2.2.2.1 (ix2 i j)
  have hkr : ∀ i j, IsR (wA wkr i j) := fun i j => by
    rw [← H.wkr 0 i j, stg4_eq]; exact (pre_finite hpre 0).2.2.2.2.2 (ix2 i j)
  have hs := scoreS_real (xA x) (wA wd) (wA wk) (wA wq) (wA wqr) (wA wkr) hX hd hk hq hqr hkr
  have hout : ∀ c : Dev nD, oA7 m c = Cert.ReferenceIdeal.Value.res_main_v32 m' 0 := fun c => by
    rw [res_eq]
    funext j
    obtain ⟨r, n, rfl⟩ : ∃ (r : Fin 1024) (n : Fin 2048), j = ix2 r n := ⟨j 0, j 1, eq_ix2 j⟩
    exact (oA7_at H c r n).trans (refR_at x wd wk wv wq wo wqr wkr hs r n).symm
  refine ⟨Cert.ReferenceIdeal.Value.res_main_v32 m' 0, ?_, ?_⟩
  · exact (θ_run defs _ _).mono (fun r h c => ⟨((h.1 c).1 5).trans ((finalA_out m g c).trans (hout c)), args_of_QC h.1 c⟩) (run_main m g)
  · exact (θ_run Cert.ReferenceIdeal.defs _ _).mono (fun r h => h 0) (Cert.ReferenceIdeal.Value.run (F := Ideal) m' g')

/-! ## The frames from memories the precondition holds of -/

theorem frame_kernelIdeal_pre [hp : Cert.Pre_finite_scores_KernelIdeal.Facts] : Cert.quiescent_KernelIdeal_pre_finite_scores_KernelIdeal :=
  fun m ρ _ => run_end (F := Ideal) m ρ
theorem frame_reference_pre [hp : Cert.Pre_finite_scores_ReferenceIdeal.Facts] : Cert.quiescent_ReferenceIdeal_pre_finite_scores_ReferenceIdeal :=
  fun m ρ _ => frame_reference m ρ trivial

end Cert.KProof

end
-- ==== Proof.lean ====
/-
  The certificate: the facts the programs and the precondition state, the frames, and the equation of the kernel's
  result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.preFacts, Cert.KProof.preFactsR, by
  haveI := Cert.KProof.preFacts
  haveI := Cert.KProof.preFactsR
  exact ⟨Cert.KProof.frame_kernel, Cert.KProof.frame_kernelIdeal, Cert.KProof.frame_kernelIdeal_pre, Cert.KProof.frame_reference,
    Cert.KProof.frame_reference_pre, IdealRules.named_const.statement Cert.KernelIdeal.κ "scale" .f32 0x3DA1E89B#32 _ rfl, Cert.KProof.algebraic⟩⟩

end Cert.Proof

end
